-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v27) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v24) = v2 c
          ∧ r.2.mem ((c.tc : Thread Cert.Reference12Ideal.nD Cert.Reference12Ideal.τ).loc Cert.Reference12Ideal.main_v27) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_v23) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v65) = v0 c
          ∧ r.2.mem ((c.tc : Thread Cert.Reference15Ideal.nD Cert.Reference15Ideal.τ).loc Cert.Reference15Ideal.main_v48) = v1 c
          ∧ r.2.mem ((c.tc : Thread Cert.Reference15Ideal.nD Cert.Reference15Ideal.τ).loc Cert.Reference15Ideal.main_v43) = v2 c
          ∧ r.2.mem ((c.tc : Thread Cert.Reference15Ideal.nD Cert.Reference15Ideal.τ).loc Cert.Reference15Ideal.main_v40) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_v32) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v27) = v1 c
          ∧ r.2.mem ((c.tc : Thread Cert.Reference23Ideal.nD Cert.Reference23Ideal.τ).loc Cert.Reference23Ideal.main_v8) = v2 c
          ∧ r.2.mem ((c.tc : Thread Cert.Reference23Ideal.nD Cert.Reference23Ideal.τ).loc Cert.Reference23Ideal.main_v14) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v48) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v21) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S8192x1024 : Shape := ⟨2, ![8192, 1024]⟩
abbrev S2x8192x128 : Shape := ⟨3, ![2, 8192, 128]⟩
abbrev S2x128x2x256 : Shape := ⟨4, ![2, 128, 2, 256]⟩
abbrev S128x8x128x128 : Shape := ⟨4, ![128, 8, 128, 128]⟩
abbrev S128x2x256x256 : Shape := ⟨4, ![128, 2, 256, 256]⟩
abbrev S8192x128 : Shape := ⟨2, ![8192, 128]⟩
abbrev S128x2x256 : Shape := ⟨3, ![128, 2, 256]⟩
abbrev S64x1024 : Shape := ⟨2, ![64, 1024]⟩
abbrev S1x64x128 : Shape := ⟨3, ![1, 64, 128]⟩
abbrev S1x1x2x256 : Shape := ⟨4, ![1, 1, 2, 256]⟩
abbrev S1x8x128x128 : Shape := ⟨4, ![1, 8, 128, 128]⟩
abbrev S1x2x256x256 : Shape := ⟨4, ![1, 2, 256, 256]⟩
abbrev S64x128 : Shape := ⟨2, ![64, 128]⟩
abbrev S1x2x256 : Shape := ⟨3, ![1, 2, 256]⟩
abbrev S2x8x128x128 : Shape := ⟨4, ![2, 8, 128, 128]⟩
abbrev S2x2x256x256 : Shape := ⟨4, ![2, 2, 256, 256]⟩
abbrev S256x256 : Shape := ⟨2, ![256, 256]⟩
abbrev S2x256x256 : Shape := ⟨3, ![2, 256, 256]⟩
abbrev S1x256x256 : Shape := ⟨3, ![1, 256, 256]⟩
abbrev S1x1 : Shape := ⟨2, ![1, 1]⟩
abbrev S64x1 : Shape := ⟨2, ![64, 1]⟩
abbrev S256x1 : Shape := ⟨2, ![256, 1]⟩
abbrev S1x1x1x256 : Shape := ⟨4, ![1, 1, 1, 256]⟩
abbrev S1x256 : Shape := ⟨2, ![1, 256]⟩
abbrev S256x128 : Shape := ⟨2, ![256, 128]⟩
abbrev S1x1x128x128 : Shape := ⟨4, ![1, 1, 128, 128]⟩
abbrev S128x128 : Shape := ⟨2, ![128, 128]⟩
abbrev S8x128x128 : Shape := ⟨3, ![8, 128, 128]⟩
abbrev S1x128x128 : Shape := ⟨3, ![1, 128, 128]⟩
abbrev S1x1x256x256 : Shape := ⟨4, ![1, 1, 256, 256]⟩
abbrev S256 : Shape := ⟨1, ![256]⟩
abbrev S1x1x256 : Shape := ⟨3, ![1, 1, 256]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 22
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2x8192x128, .f32⟩
  | .hbm, ⟨4, _⟩ => ⟨S2x128x2x256, .f32⟩
  | .hbm, ⟨5, _⟩ => ⟨S128x8x128x128, .bf16⟩
  | .hbm, ⟨6, _⟩ => ⟨S128x8x128x128, .bf16⟩
  | .hbm, ⟨7, _⟩ => ⟨S128x2x256x256, .bf16⟩
  | .hbm, ⟨8, _⟩ => ⟨S128x2x256x256, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x128, .f32⟩
  | .hbm, ⟨16, _⟩ => ⟨S128x2x256, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x128, .f32⟩
  | .hbm, ⟨21, _⟩ => ⟨S128x2x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64x128, .f32⟩
  | .local _ .vmem, ⟨7, _⟩ => ⟨S1x64x128, .f32⟩
  | .local _ .vmem, ⟨8, _⟩ => ⟨S1x1x2x256, .f32⟩
  | .local _ .vmem, ⟨9, _⟩ => ⟨S1x1x2x256, .f32⟩
  | .local _ .vmem, ⟨10, _⟩ => ⟨S1x8x128x128, .bf16⟩
  | .local _ .vmem, ⟨11, _⟩ => ⟨S1x8x128x128, .bf16⟩
  | .local _ .vmem, ⟨12, _⟩ => ⟨S1x2x256x256, .bf16⟩
  | .local _ .vmem, ⟨13, _⟩ => ⟨S1x2x256x256, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S1x64x128, .f32⟩
  | .local _ .vmem, ⟨25, _⟩ => ⟨S1x64x128, .f32⟩
  | .local _ .vmem, ⟨26, _⟩ => ⟨S1x1x2x256, .f32⟩
  | .local _ .vmem, ⟨27, _⟩ => ⟨S1x1x2x256, .f32⟩
  | .local _ .vmem, ⟨28, _⟩ => ⟨S1x8x128x128, .bf16⟩
  | .local _ .vmem, ⟨29, _⟩ => ⟨S1x8x128x128, .bf16⟩
  | .local _ .vmem, ⟨30, _⟩ => ⟨S1x2x256x256, .bf16⟩
  | .local _ .vmem, ⟨31, _⟩ => ⟨S1x2x256x256, .bf16⟩
  | .local _ .vmem, ⟨32, _⟩ => ⟨S64x1024, .bf16⟩
  | .local _ .vmem, ⟨33, _⟩ => ⟨S64x1024, .bf16⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x128, .f32⟩
  | .local _ .vmem, ⟨43, _⟩ => ⟨S64x128, .f32⟩
  | .local _ .vmem, ⟨44, _⟩ => ⟨S1x2x256, .f32⟩
  | .local _ .vmem, ⟨45, _⟩ => ⟨S1x2x256, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S64x128, .f32⟩
  | .local _ .vmem, ⟨53, _⟩ => ⟨S64x128, .f32⟩
  | .local _ .vmem, ⟨54, _⟩ => ⟨S1x2x256, .f32⟩
  | .local _ .vmem, ⟨55, _⟩ => ⟨S1x2x256, .f32⟩
  | .local _ .vmem, ⟨56, _⟩ => ⟨S2x8x128x128, .f32⟩
  | .local _ .vmem, ⟨57, _⟩ => ⟨S2x2x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_scratch0 : Ref sig .tc := ⟨.vmem, 56, rfl⟩
abbrev cc0_scratch1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_13 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_22 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x2x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x5632, .f32⟩
  | .hbm, ⟨7, _⟩ => ⟨S1024x5632, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x5632, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x1536 : Shape := ⟨2, ![8192, 1536]⟩
abbrev S1536x1024 : Shape := ⟨2, ![1536, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S1536x1024, .f32⟩
  | .hbm, ⟨5, _⟩ => ⟨S1024x1536, .f32⟩
  | .hbm, ⟨6, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x256 : Shape := ⟨2, ![8192, 256]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x1024, .f32⟩
  | .hbm, ⟨3, _⟩ => ⟨S8192x256, .f32⟩
  | .hbm, ⟨4, _⟩ => ⟨S256x1024, .f32⟩
  | .hbm, ⟨5, _⟩ => ⟨S1024x256, .f32⟩
  | .hbm, ⟨6, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩
abbrev S1024x512 : Shape := ⟨2, ![1024, 512]⟩
abbrev S1024x384 : Shape := ⟨2, ![1024, 384]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference12Ideal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x1024, .bf16⟩
  | .hbm, ⟨32, _⟩ => ⟨S8192x2816, .bf16⟩
  | .hbm, ⟨33, _⟩ => ⟨S8192x2816, .bf16⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .bf16⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x7680 : Shape := ⟨2, ![1024, 7680]⟩
abbrev S1024x256 : Shape := ⟨2, ![1024, 256]⟩
abbrev S8192x7680 : Shape := ⟨2, ![8192, 7680]⟩
abbrev S8192x256 : Shape := ⟨2, ![8192, 256]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x7680, .bf16⟩
  | .hbm, ⟨5, _⟩ => ⟨S1024x256, .bf16⟩
  | .hbm, ⟨6, _⟩ => ⟨S8192x1024, .bf16⟩
  | .hbm, ⟨7, _⟩ => ⟨S8192x7680, .bf16⟩
  | .hbm, ⟨8, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1536, .bf16⟩
  | .local _ .vmem, ⟨6, _⟩ => ⟨S1024x1536, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1536, .bf16⟩
  | .local _ .vmem, ⟨11, _⟩ => ⟨S1024x1536, .bf16⟩
  | .local _ .vmem, ⟨12, _⟩ => ⟨S1024x256, .f32⟩
  | .local _ .vmem, ⟨13, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference14Ideal.lean ====
abbrev S8192x1024 : Shape := ⟨2, ![8192, 1024]⟩
abbrev S1x1024 : Shape := ⟨2, ![1, 1024]⟩
abbrev S1024x7680 : Shape := ⟨2, ![1024, 7680]⟩
abbrev S1024x256 : Shape := ⟨2, ![1024, 256]⟩
abbrev S_ : Shape := ⟨0, ![]⟩
abbrev S8192 : Shape := ⟨1, ![8192]⟩
abbrev S8192x1 : Shape := ⟨2, ![8192, 1]⟩
abbrev S8192x7680 : Shape := ⟨2, ![8192, 7680]⟩
abbrev S8192x256 : Shape := ⟨2, ![8192, 256]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x7680, .bf16⟩
  | .hbm, ⟨5, _⟩ => ⟨S1024x256, .bf16⟩
  | .hbm, ⟨6, _⟩ => ⟨S1024x7680, .f32⟩
  | .hbm, ⟨7, _⟩ => ⟨S1024x256, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x7680, .f32⟩
  | .hbm, ⟨32, _⟩ => ⟨S8192x7680, .bf16⟩
  | .hbm, ⟨33, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel15.lean ====
abbrev S8192x3072 : Shape := ⟨2, ![8192, 3072]⟩
abbrev S8192x1024 : Shape := ⟨2, ![8192, 1024]⟩
abbrev S8192x2048 : Shape := ⟨2, ![8192, 2048]⟩
abbrev S8192x1536 : Shape := ⟨2, ![8192, 1536]⟩
abbrev S8192x256 : Shape := ⟨2, ![8192, 256]⟩
abbrev S1024x7680 : Shape := ⟨2, ![1024, 7680]⟩
abbrev S1024x256 : Shape := ⟨2, ![1024, 256]⟩
abbrev S1x1024 : Shape := ⟨2, ![1, 1024]⟩
abbrev S256x3072 : Shape := ⟨2, ![256, 3072]⟩
abbrev S256x1024 : Shape := ⟨2, ![256, 1024]⟩
abbrev S256x2048 : Shape := ⟨2, ![256, 2048]⟩
abbrev S256x1536 : Shape := ⟨2, ![256, 1536]⟩
abbrev S256x256 : Shape := ⟨2, ![256, 256]⟩
abbrev S1024x3072 : Shape := ⟨2, ![1024, 3072]⟩
abbrev S1024x1024 : Shape := ⟨2, ![1024, 1024]⟩
abbrev S1024x2048 : Shape := ⟨2, ![1024, 2048]⟩
abbrev S1024x1536 : Shape := ⟨2, ![1024, 1536]⟩
abbrev S256 : Shape := ⟨1, ![256]⟩
abbrev S256x1 : Shape := ⟨2, ![256, 1]⟩
abbrev S1024 : Shape := ⟨1, ![1024]⟩

abbrev nBuf : Space → Nat
  | .hbm => 15
  | .vmem => 26
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x2048, .bf16⟩
  | .hbm, ⟨3, _⟩ => ⟨S8192x1536, .bf16⟩
  | .hbm, ⟨4, _⟩ => ⟨S8192x256, .bf16⟩
  | .hbm, ⟨5, _⟩ => ⟨S1024x7680, .bf16⟩
  | .hbm, ⟨6, _⟩ => ⟨S1024x256, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1536, .bf16⟩
  | .local _ .vmem, ⟨7, _⟩ => ⟨S256x1536, .bf16⟩
  | .local _ .vmem, ⟨8, _⟩ => ⟨S256x256, .bf16⟩
  | .local _ .vmem, ⟨9, _⟩ => ⟨S256x256, .bf16⟩
  | .local _ .vmem, ⟨10, _⟩ => ⟨S1024x3072, .bf16⟩
  | .local _ .vmem, ⟨11, _⟩ => ⟨S1024x1024, .bf16⟩
  | .local _ .vmem, ⟨12, _⟩ => ⟨S1024x2048, .bf16⟩
  | .local _ .vmem, ⟨13, _⟩ => ⟨S1024x1536, .bf16⟩
  | .local _ .vmem, ⟨14, _⟩ => ⟨S1024x256, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference15Ideal.lean ====
abbrev S8192x3072 : Shape := ⟨2, ![8192, 3072]⟩
abbrev S8192x1024 : Shape := ⟨2, ![8192, 1024]⟩
abbrev S8192x2048 : Shape := ⟨2, ![8192, 2048]⟩
abbrev S8192x1536 : Shape := ⟨2, ![8192, 1536]⟩
abbrev S8192x256 : Shape := ⟨2, ![8192, 256]⟩
abbrev S1024x7680 : Shape := ⟨2, ![1024, 7680]⟩
abbrev S1024x256 : Shape := ⟨2, ![1024, 256]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x7680 : Shape := ⟨2, ![8192, 7680]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x2048, .bf16⟩
  | .hbm, ⟨3, _⟩ => ⟨S8192x1536, .bf16⟩
  | .hbm, ⟨4, _⟩ => ⟨S8192x256, .bf16⟩
  | .hbm, ⟨5, _⟩ => ⟨S1024x7680, .bf16⟩
  | .hbm, ⟨6, _⟩ => ⟨S1024x256, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x3072, .f32⟩
  | .hbm, ⟨12, _⟩ => ⟨S8192x1024, .f32⟩
  | .hbm, ⟨13, _⟩ => ⟨S8192x2048, .f32⟩
  | .hbm, ⟨14, _⟩ => ⟨S8192x1536, .f32⟩
  | .hbm, ⟨15, _⟩ => ⟨S8192x256, .f32⟩
  | .hbm, ⟨16, _⟩ => ⟨S1024x7680, .f32⟩
  | .hbm, ⟨17, _⟩ => ⟨S1024x256, .f32⟩
  | .hbm, ⟨18, _⟩ => ⟨S_, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x7680, .f32⟩
  | .hbm, ⟨47, _⟩ => ⟨S8192x3072, .f32⟩
  | .hbm, ⟨48, _⟩ => ⟨S8192x1024, .f32⟩
  | .hbm, ⟨49, _⟩ => ⟨S8192x2048, .f32⟩
  | .hbm, ⟨50, _⟩ => ⟨S8192x1536, .f32⟩
  | .hbm, ⟨51, _⟩ => ⟨S8192x256, .f32⟩
  | .hbm, ⟨52, _⟩ => ⟨S8192x1024, .f32⟩
  | .hbm, ⟨53, _⟩ => ⟨S8192x7680, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel16.lean ====
abbrev S8192x512 : Shape := ⟨2, ![8192, 512]⟩
abbrev S8192x1024 : Shape := ⟨2, ![8192, 1024]⟩
abbrev S8192x7680 : Shape := ⟨2, ![8192, 7680]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512x2048 : Shape := ⟨2, ![512, 2048]⟩

abbrev nBuf : Space → Nat
  | .hbm => 12
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x7680, .bf16⟩
  | .hbm, ⟨3, _⟩ => ⟨S512x1024, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference16Ideal.lean ====
abbrev S8192x512 : Shape := ⟨2, ![8192, 512]⟩
abbrev S8192x1024 : Shape := ⟨2, ![8192, 1024]⟩
abbrev S8192x7680 : Shape := ⟨2, ![8192, 7680]⟩
abbrev S512x1024 : Shape := ⟨2, ![512, 1024]⟩
abbrev S1024x1024 : Shape := ⟨2, ![1024, 1024]⟩
abbrev S1x1024 : Shape := ⟨2, ![1, 1024]⟩
abbrev S8192x2048 : Shape := ⟨2, ![8192, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x7680, .bf16⟩
  | .hbm, ⟨3, _⟩ => ⟨S512x1024, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x512, .f32⟩
  | .hbm, ⟨9, _⟩ => ⟨S8192x1024, .f32⟩
  | .hbm, ⟨10, _⟩ => ⟨S8192x7680, .f32⟩
  | .hbm, ⟨11, _⟩ => ⟨S512x1024, .f32⟩
  | .hbm, ⟨12, _⟩ => ⟨S1024x1024, .f32⟩
  | .hbm, ⟨13, _⟩ => ⟨S1024x1024, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel18.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x1024x964 : Shape := ⟨3, ![8, 1024, 964]⟩
abbrev S1024x964 : Shape := ⟨2, ![1024, 964]⟩
abbrev S8x256x964 : Shape := ⟨3, ![8, 256, 964]⟩
abbrev S256x964 : Shape := ⟨2, ![256, 964]⟩
abbrev S1x256x964 : Shape := ⟨3, ![1, 256, 964]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x964, .bf16⟩
  | .hbm, ⟨1, _⟩ => ⟨S1024x964, .f32⟩
  | .hbm, ⟨2, _⟩ => ⟨S1024x964, .f32⟩
  | .hbm, ⟨3, _⟩ => ⟨S1024x964, .f32⟩
  | .hbm, ⟨4, _⟩ => ⟨S1024x964, .f32⟩
  | .hbm, ⟨5, _⟩ => ⟨S1024x964, .f32⟩
  | .hbm, ⟨6, _⟩ => ⟨S1024x964, .f32⟩
  | .hbm, ⟨7, _⟩ => ⟨S1024x964, .f32⟩
  | .local _ .vmem, ⟨0, _⟩ => ⟨S8x256x964, .bf16⟩
  | .local _ .vmem, ⟨1, _⟩ => ⟨S8x256x964, .bf16⟩
  | .local _ .vmem, ⟨2, _⟩ => ⟨S256x964, .f32⟩
  | .local _ .vmem, ⟨3, _⟩ => ⟨S256x964, .f32⟩
  | .local _ .vmem, ⟨4, _⟩ => ⟨S256x964, .f32⟩
  | .local _ .vmem, ⟨5, _⟩ => ⟨S256x964, .f32⟩
  | .local _ .vmem, ⟨6, _⟩ => ⟨S256x964, .f32⟩
  | .local _ .vmem, ⟨7, _⟩ => ⟨S256x964, .f32⟩
  | .local _ .vmem, ⟨8, _⟩ => ⟨S256x964, .f32⟩
  | .local _ .vmem, ⟨9, _⟩ => ⟨S256x964, .f32⟩
  | .local _ .vmem, ⟨10, _⟩ => ⟨S256x964, .f32⟩
  | .local _ .vmem, ⟨11, _⟩ => ⟨S256x964, .f32⟩
  | .local _ .vmem, ⟨12, _⟩ => ⟨S256x964, .f32⟩
  | .local _ .vmem, ⟨13, _⟩ => ⟨S256x964, .f32⟩
  | .local _ .vmem, ⟨14, _⟩ => ⟨S256x964, .f32⟩
  | .local _ .vmem, ⟨15, _⟩ => ⟨S256x964, .f32⟩
  | _, _ => ⟨S8x1024x964, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x964 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x964 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x964 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x964 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x964 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x964 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x964 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x964 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1024x964 : Shape := ⟨3, ![8, 1024, 964]⟩
abbrev S1024x964 : Shape := ⟨2, ![1024, 964]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x964, .bf16⟩
  | .hbm, ⟨1, _⟩ => ⟨S1024x964, .f32⟩
  | .hbm, ⟨2, _⟩ => ⟨S1024x964, .f32⟩
  | .hbm, ⟨3, _⟩ => ⟨S1024x964, .f32⟩
  | .hbm, ⟨4, _⟩ => ⟨S8x1024x964, .f32⟩
  | .hbm, ⟨5, _⟩ => ⟨S_, .f32⟩
  | .hbm, ⟨6, _⟩ => ⟨S1024x964, .f32⟩
  | .hbm, ⟨7, _⟩ => ⟨S_, .f32⟩
  | .hbm, ⟨8, _⟩ => ⟨S1024x964, .f32⟩
  | .hbm, ⟨9, _⟩ => ⟨S1024x964, .f32⟩
  | .hbm, ⟨10, _⟩ => ⟨S_, .f32⟩
  | .hbm, ⟨11, _⟩ => ⟨S1024x964, .f32⟩
  | .hbm, ⟨12, _⟩ => ⟨S1024x964, .f32⟩
  | .hbm, ⟨13, _⟩ => ⟨S1024x964, .f32⟩
  | .hbm, ⟨14, _⟩ => ⟨S_, .f32⟩
  | .hbm, ⟨15, _⟩ => ⟨S1024x964, .f32⟩
  | .hbm, ⟨16, _⟩ => ⟨S1024x964, .f32⟩
  | .hbm, ⟨17, _⟩ => ⟨S1024x964, .f32⟩
  | .hbm, ⟨18, _⟩ => ⟨S_, .f32⟩
  | .hbm, ⟨19, _⟩ => ⟨S1024x964, .f32⟩
  | .hbm, ⟨20, _⟩ => ⟨S1024x964, .f32⟩
  | .hbm, ⟨21, _⟩ => ⟨S1024x964, .f32⟩
  | .hbm, ⟨22, _⟩ => ⟨S_, .f32⟩
  | .hbm, ⟨23, _⟩ => ⟨S1024x964, .f32⟩
  | .hbm, ⟨24, _⟩ => ⟨S1024x964, .f32⟩
  | .hbm, ⟨25, _⟩ => ⟨S_, .f32⟩
  | .hbm, ⟨26, _⟩ => ⟨S1024x964, .f32⟩
  | .hbm, ⟨27, _⟩ => ⟨S1024x964, .f32⟩
  | .hbm, ⟨28, _⟩ => ⟨S1024x964, .f32⟩
  | .hbm, ⟨29, _⟩ => ⟨S_, .f32⟩
  | .hbm, ⟨30, _⟩ => ⟨S1024x964, .f32⟩
  | .hbm, ⟨31, _⟩ => ⟨S1024x964, .f32⟩
  | .hbm, ⟨32, _⟩ => ⟨S1024x964, .f32⟩
  | .hbm, ⟨33, _⟩ => ⟨S_, .f32⟩
  | .hbm, ⟨34, _⟩ => ⟨S1024x964, .f32⟩
  | .hbm, ⟨35, _⟩ => ⟨S1024x964, .f32⟩
  | .hbm, ⟨36, _⟩ => ⟨S1024x964, .f32⟩
  | .hbm, ⟨37, _⟩ => ⟨S_, .f32⟩
  | .hbm, ⟨38, _⟩ => ⟨S1024x964, .f32⟩
  | .hbm, ⟨39, _⟩ => ⟨S1024x964, .f32⟩
  | _, _ => ⟨S8x1024x964, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S1024x8 : Shape := ⟨2, ![1024, 8]⟩
abbrev S8x1152 : Shape := ⟨2, ![8, 1152]⟩
abbrev S1024x1152 : Shape := ⟨2, ![1024, 1152]⟩
abbrev S256x8 : Shape := ⟨2, ![256, 8]⟩
abbrev S256x1152 : Shape := ⟨2, ![256, 1152]⟩
abbrev S256x1 : Shape := ⟨2, ![256, 1]⟩
abbrev S1x1152 : Shape := ⟨2, ![1, 1152]⟩

abbrev nBuf : Space → Nat
  | .hbm => 9
  | .vmem => 17
  | .smem => 0
  | _ => 0

abbrev bufTy : (tb : Table) → Fin (tcTables nBuf tb) → BufTy
  | .hbm, ⟨0, _⟩ => ⟨S1024x8, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S256x8, .f32⟩
  | .local _ .vmem, ⟨1, _⟩ => ⟨S256x8, .f32⟩
  | .local _ .vmem, ⟨2, _⟩ => ⟨S8x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1024x8 : Shape := ⟨2, ![1024, 8]⟩
abbrev S8x1152 : Shape := ⟨2, ![8, 1152]⟩
abbrev S1024x1152 : Shape := ⟨2, ![1024, 1152]⟩
abbrev S8x1024 : Shape := ⟨2, ![8, 1024]⟩
abbrev S_ : Shape := ⟨0, ![]⟩
abbrev S1152x1024 : Shape := ⟨2, ![1152, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1152x1024, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel24.lean ====
abbrev S1x15616 : Shape := ⟨2, ![1, 15616]⟩

abbrev nBuf : Space → Nat
  | .hbm => 7
  | .vmem => 7
  | .smem => 0
  | _ => 0

abbrev bufTy : (tb : Table) → Fin (tcTables nBuf tb) → BufTy
  | .hbm, ⟨0, _⟩ => ⟨S1x15616, .f32⟩
  | .hbm, ⟨1, _⟩ => ⟨S1x15616, .f32⟩
  | .hbm, ⟨2, _⟩ => ⟨S1x15616, .f32⟩
  | .hbm, ⟨3, _⟩ => ⟨S1x15616, .f32⟩
  | .hbm, ⟨4, _⟩ => ⟨S1x15616, .f32⟩
  | .hbm, ⟨5, _⟩ => ⟨S1x15616, .f32⟩
  | .hbm, ⟨6, _⟩ => ⟨S1x15616, .f32⟩
  | .local _ .vmem, ⟨0, _⟩ => ⟨S1x15616, .f32⟩
  | .local _ .vmem, ⟨1, _⟩ => ⟨S1x15616, .f32⟩
  | .local _ .vmem, ⟨2, _⟩ => ⟨S1x15616, .f32⟩
  | .local _ .vmem, ⟨3, _⟩ => ⟨S1x15616, .f32⟩
  | .local _ .vmem, ⟨4, _⟩ => ⟨S1x15616, .f32⟩
  | .local _ .vmem, ⟨5, _⟩ => ⟨S1x15616, .f32⟩
  | .local _ .vmem, ⟨6, _⟩ => ⟨S1x15616, .f32⟩
  | _, _ => ⟨S1x15616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x15616 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x15616 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x15616 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15616 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x15616 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x15616 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x15616 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S1x15616 : Shape := ⟨2, ![1, 15616]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x15616, .f32⟩
  | .hbm, ⟨1, _⟩ => ⟨S1x15616, .f32⟩
  | .hbm, ⟨2, _⟩ => ⟨S1x15616, .f32⟩
  | .hbm, ⟨3, _⟩ => ⟨S1x15616, .f32⟩
  | .hbm, ⟨4, _⟩ => ⟨S_, .f32⟩
  | .hbm, ⟨5, _⟩ => ⟨S1x15616, .f32⟩
  | .hbm, ⟨6, _⟩ => ⟨S1x15616, .f32⟩
  | .hbm, ⟨7, _⟩ => ⟨S_, .f32⟩
  | .hbm, ⟨8, _⟩ => ⟨S1x15616, .f32⟩
  | .hbm, ⟨9, _⟩ => ⟨S1x15616, .f32⟩
  | .hbm, ⟨10, _⟩ => ⟨S1x15616, .f32⟩
  | .hbm, ⟨11, _⟩ => ⟨S_, .f32⟩
  | .hbm, ⟨12, _⟩ => ⟨S1x15616, .f32⟩
  | .hbm, ⟨13, _⟩ => ⟨S1x15616, .f32⟩
  | .hbm, ⟨14, _⟩ => ⟨S1x15616, .f32⟩
  | .hbm, ⟨15, _⟩ => ⟨S_, .f32⟩
  | .hbm, ⟨16, _⟩ => ⟨S1x15616, .f32⟩
  | .hbm, ⟨17, _⟩ => ⟨S1x15616, .f32⟩
  | .hbm, ⟨18, _⟩ => ⟨S1x15616, .f32⟩
  | .hbm, ⟨19, _⟩ => ⟨S_, .f32⟩
  | .hbm, ⟨20, _⟩ => ⟨S1x15616, .f32⟩
  | .hbm, ⟨21, _⟩ => ⟨S1x15616, .f32⟩
  | .hbm, ⟨22, _⟩ => ⟨S_, .f32⟩
  | .hbm, ⟨23, _⟩ => ⟨S1x15616, .f32⟩
  | .hbm, ⟨24, _⟩ => ⟨S1x15616, .f32⟩
  | .hbm, ⟨25, _⟩ => ⟨S1x15616, .f32⟩
  | .hbm, ⟨26, _⟩ => ⟨S_, .f32⟩
  | .hbm, ⟨27, _⟩ => ⟨S1x15616, .f32⟩
  | .hbm, ⟨28, _⟩ => ⟨S1x15616, .f32⟩
  | .hbm, ⟨29, _⟩ => ⟨S1x15616, .f32⟩
  | .hbm, ⟨30, _⟩ => ⟨S_, .f32⟩
  | .hbm, ⟨31, _⟩ => ⟨S1x15616, .f32⟩
  | .hbm, ⟨32, _⟩ => ⟨S1x15616, .f32⟩
  | .hbm, ⟨33, _⟩ => ⟨S1x15616, .f32⟩
  | .hbm, ⟨34, _⟩ => ⟨S_, .f32⟩
  | .hbm, ⟨35, _⟩ => ⟨S1x15616, .f32⟩
  | .hbm, ⟨36, _⟩ => ⟨S1x15616, .f32⟩
  | _, _ => ⟨S1x15616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel26.lean ====
abbrev S8192x1024 : Shape := ⟨2, ![8192, 1024]⟩
abbrev S8192x7680 : Shape := ⟨2, ![8192, 7680]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7680, .bf16⟩
  | .hbm, ⟨3, _⟩ => ⟨S1x128, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S8192x1024 : Shape := ⟨2, ![8192, 1024]⟩
abbrev S8192x7680 : Shape := ⟨2, ![8192, 7680]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7680, .bf16⟩
  | .hbm, ⟨3, _⟩ => ⟨S1x128, .f32⟩
  | .hbm, ⟨4, _⟩ => ⟨S8192x1024, .bf16⟩
  | .hbm, ⟨5, _⟩ => ⟨S8192x1024, .f32⟩
  | .hbm, ⟨6, _⟩ => ⟨S8192x8x128, .f32⟩
  | .hbm, ⟨7, _⟩ => ⟨S8192x1024, .f32⟩
  | .hbm, ⟨8, _⟩ => ⟨S8192x8x128, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x128, .f32⟩
  | .hbm, ⟨21, _⟩ => ⟨S8192x8x128, .f32⟩
  | .hbm, ⟨22, _⟩ => ⟨S1x1x128, .f32⟩
  | .hbm, ⟨23, _⟩ => ⟨S8192x8x128, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S_, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel27.lean ====
abbrev S8x30464 : Shape := ⟨2, ![8, 30464]⟩
abbrev S1x30464 : Shape := ⟨2, ![1, 30464]⟩

abbrev nBuf : Space → Nat
  | .hbm => 2
  | .vmem => 2
  | .smem => 0
  | _ => 0

abbrev bufTy : (tb : Table) → Fin (tcTables nBuf tb) → BufTy
  | .hbm, ⟨0, _⟩ => ⟨S8x30464, .f32⟩
  | .hbm, ⟨1, _⟩ => ⟨S1x30464, .f32⟩
  | .local _ .vmem, ⟨0, _⟩ => ⟨S8x30464, .f32⟩
  | .local _ .vmem, ⟨1, _⟩ => ⟨S1x30464, .f32⟩
  | _, _ => ⟨S8x30464, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x30464 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x30464 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference27Ideal.lean ====
abbrev S8x30464 : Shape := ⟨2, ![8, 30464]⟩
abbrev S_ : Shape := ⟨0, ![]⟩
abbrev S30464 : Shape := ⟨1, ![30464]⟩
abbrev S1x30464 : Shape := ⟨2, ![1, 30464]⟩

abbrev nBuf : Space → Nat
  | .hbm => 4
  | .vmem => 0
  | .smem => 0
  | _ => 0

abbrev bufTy : (tb : Table) → Fin (tcTables nBuf tb) → BufTy
  | .hbm, ⟨0, _⟩ => ⟨S8x30464, .f32⟩
  | .hbm, ⟨1, _⟩ => ⟨S_, .f32⟩
  | .hbm, ⟨2, _⟩ => ⟨S30464, .f32⟩
  | .hbm, ⟨3, _⟩ => ⟨S1x30464, .f32⟩
  | _, _ => ⟨S8x30464, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Delta.Run.lean ====
/-
  The backward kernel of the gated delta rule, its body run once at any grid point: from the 28 windows' staging buffers
  and the two scratch buffers held at anything, the body runs to its return and hands all thirty back at something. The one
  branch (the first chunk clears the two state gradients) is taken in `kernelRun_first` and skipped in `kernelRun_next`.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- Memref `M`'s buffer on core `c` owned whole, at some contents. -/
abbrev anyAt (c : Dev nD) {sp : Space} {S : Shape} {e : EltTy} (M : Memref sig .tc sp S e) : sProp 𝕄 :=
  iprop(∃ f : Buf (Elt F) (M.view.loc (c : Thread nD τ)), M.view.loc (c : Thread nD τ) ↦{fullShare} f)

/-- The test of the body's one branch: the grid coordinate is the first. -/
abbrev isFirst (i : grid0.Coords) : BitVec 1 :=
  Scalar.cmpi .ne (Scalar.extui (Scalar.cmpi .eq (BitVec.ofNat 32 (i 0).val) 0#32)) 0#32

/-- At the first chunk: the scratch is cleared, then read and rewritten. -/
theorem kernelRun_first (c : Dev nD) (i : grid0.Coords) (hc : isFirst i = 1#1)
    (M1 : Memref sig .tc .vmem S64x1024 .f32) (h1 : M1.IsWhole) (M2 : Memref sig .tc .vmem S64x1024 .f32) (h2 : M2.IsWhole) (M3 : Memref sig .tc .vmem S64x1024 .f32) (h3 : M3.IsWhole)
    (M4 : Memref sig .tc .vmem S1x64x128 .f32) (h4 : M4.IsWhole) (M5 : Memref sig .tc .vmem S1x1x2x256 .f32) (h5 : M5.IsWhole) (M6 : Memref sig .tc .vmem S1x8x128x128 .bf16) (h6 : M6.IsWhole)
    (M7 : Memref sig .tc .vmem S1x2x256x256 .bf16) (h7 : M7.IsWhole) (M8 : Memref sig .tc .vmem S64x1024 .bf16) (h8 : M8.IsWhole) (M9 : Memref sig .tc .vmem S64x1024 .f32) (h9 : M9.IsWhole)
    (M10 : Memref sig .tc .vmem S64x1024 .f32) (h10 : M10.IsWhole) (M11 : Memref sig .tc .vmem S64x1024 .f32) (h11 : M11.IsWhole) (M12 : Memref sig .tc .vmem S64x1024 .f32) (h12 : M12.IsWhole)
    (M13 : Memref sig .tc .vmem S1x64x128 .f32) (h13 : M13.IsWhole) (M14 : Memref sig .tc .vmem S1x1x2x256 .f32) (h14 : M14.IsWhole) (M15 : Memref sig .tc .vmem S1x8x128x128 .bf16) (h15 : M15.IsWhole)
    (M16 : Memref sig .tc .vmem S1x2x256x256 .bf16) (h16 : M16.IsWhole) (M17 : Memref sig .tc .vmem S64x1024 .bf16) (h17 : M17.IsWhole) (M18 : Memref sig .tc .vmem S64x1024 .f32) (h18 : M18.IsWhole)
    (M19 : Memref sig .tc .vmem S64x1024 .f32) (h19 : M19.IsWhole) (M20 : Memref sig .tc .vmem S64x1024 .f32) (h20 : M20.IsWhole) (M21 : Memref sig .tc .vmem S64x1024 .f32) (h21 : M21.IsWhole)
    (M22 : Memref sig .tc .vmem S64x128 .f32) (h22 : M22.IsWhole) (M23 : Memref sig .tc .vmem S1x2x256 .f32) (h23 : M23.IsWhole) (M24 : Memref sig .tc .vmem S64x1024 .f32) (h24 : M24.IsWhole)
    (M25 : Memref sig .tc .vmem S64x1024 .f32) (h25 : M25.IsWhole) (M26 : Memref sig .tc .vmem S64x1024 .f32) (h26 : M26.IsWhole) (M27 : Memref sig .tc .vmem S64x128 .f32) (h27 : M27.IsWhole)
    (M28 : Memref sig .tc .vmem S1x2x256 .f32) (h28 : M28.IsWhole) (M29 : Memref sig .tc .vmem S2x8x128x128 .f32) (h29 : M29.IsWhole) (M30 : Memref sig .tc .vmem S2x2x256x256 .f32) (h30 : M30.IsWhole)
    (E : Set ℕ) (Q : PUnit → sProp 𝕄) :
    iprop(anyAt c M1 ∗ anyAt c M2 ∗ anyAt c M3 ∗ anyAt c M4 ∗ anyAt c M5 ∗ anyAt c M6 ∗ anyAt c M7 ∗ anyAt c M8 ∗ anyAt c M9 ∗ anyAt c M10 ∗ anyAt c M11
        ∗ anyAt c M12 ∗ anyAt c M13 ∗ anyAt c M14 ∗ anyAt c M15 ∗ anyAt c M16 ∗ anyAt c M17 ∗ anyAt c M18 ∗ anyAt c M19 ∗ anyAt c M20 ∗ anyAt c M21
        ∗ anyAt c M22 ∗ anyAt c M23 ∗ anyAt c M24 ∗ anyAt c M25 ∗ anyAt c M26 ∗ anyAt c M27 ∗ anyAt c M28 ∗ anyAt c M29 ∗ anyAt c M30
        ∗ (iprop(anyAt c M1 ∗ anyAt c M2 ∗ anyAt c M3 ∗ anyAt c M4 ∗ anyAt c M5 ∗ anyAt c M6 ∗ anyAt c M7 ∗ anyAt c M8 ∗ anyAt c M9 ∗ anyAt c M10 ∗ anyAt c M11
        ∗ anyAt c M12 ∗ anyAt c M13 ∗ anyAt c M14 ∗ anyAt c M15 ∗ anyAt c M16 ∗ anyAt c M17 ∗ anyAt c M18 ∗ anyAt c M19 ∗ anyAt c M20 ∗ anyAt c M21
        ∗ anyAt c M22 ∗ anyAt c M23 ∗ anyAt c M24 ∗ anyAt c M25 ∗ anyAt c M26 ∗ anyAt c M27 ∗ anyAt c M28 ∗ anyAt c M29 ∗ anyAt c M30) -∗ Q ⟨⟩))
      ⊢ wp frame (wpE (defs₀ (F := F)) Variants.none c none) E
          (cc0_delta_bwd i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30) Q := by
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, Hk⟩
  sl_exec_parts (disch := sl_exact hc)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iexists _; iexact H30

/-- At a later chunk: the scratch is read and rewritten. -/
theorem kernelRun_next (c : Dev nD) (i : grid0.Coords) (hc : ¬ isFirst i = 1#1)
    (M1 : Memref sig .tc .vmem S64x1024 .f32) (h1 : M1.IsWhole) (M2 : Memref sig .tc .vmem S64x1024 .f32) (h2 : M2.IsWhole) (M3 : Memref sig .tc .vmem S64x1024 .f32) (h3 : M3.IsWhole)
    (M4 : Memref sig .tc .vmem S1x64x128 .f32) (h4 : M4.IsWhole) (M5 : Memref sig .tc .vmem S1x1x2x256 .f32) (h5 : M5.IsWhole) (M6 : Memref sig .tc .vmem S1x8x128x128 .bf16) (h6 : M6.IsWhole)
    (M7 : Memref sig .tc .vmem S1x2x256x256 .bf16) (h7 : M7.IsWhole) (M8 : Memref sig .tc .vmem S64x1024 .bf16) (h8 : M8.IsWhole) (M9 : Memref sig .tc .vmem S64x1024 .f32) (h9 : M9.IsWhole)
    (M10 : Memref sig .tc .vmem S64x1024 .f32) (h10 : M10.IsWhole) (M11 : Memref sig .tc .vmem S64x1024 .f32) (h11 : M11.IsWhole) (M12 : Memref sig .tc .vmem S64x1024 .f32) (h12 : M12.IsWhole)
    (M13 : Memref sig .tc .vmem S1x64x128 .f32) (h13 : M13.IsWhole) (M14 : Memref sig .tc .vmem S1x1x2x256 .f32) (h14 : M14.IsWhole) (M15 : Memref sig .tc .vmem S1x8x128x128 .bf16) (h15 : M15.IsWhole)
    (M16 : Memref sig .tc .vmem S1x2x256x256 .bf16) (h16 : M16.IsWhole) (M17 : Memref sig .tc .vmem S64x1024 .bf16) (h17 : M17.IsWhole) (M18 : Memref sig .tc .vmem S64x1024 .f32) (h18 : M18.IsWhole)
    (M19 : Memref sig .tc .vmem S64x1024 .f32) (h19 : M19.IsWhole) (M20 : Memref sig .tc .vmem S64x1024 .f32) (h20 : M20.IsWhole) (M21 : Memref sig .tc .vmem S64x1024 .f32) (h21 : M21.IsWhole)
    (M22 : Memref sig .tc .vmem S64x128 .f32) (h22 : M22.IsWhole) (M23 : Memref sig .tc .vmem S1x2x256 .f32) (h23 : M23.IsWhole) (M24 : Memref sig .tc .vmem S64x1024 .f32) (h24 : M24.IsWhole)
    (M25 : Memref sig .tc .vmem S64x1024 .f32) (h25 : M25.IsWhole) (M26 : Memref sig .tc .vmem S64x1024 .f32) (h26 : M26.IsWhole) (M27 : Memref sig .tc .vmem S64x128 .f32) (h27 : M27.IsWhole)
    (M28 : Memref sig .tc .vmem S1x2x256 .f32) (h28 : M28.IsWhole) (M29 : Memref sig .tc .vmem S2x8x128x128 .f32) (h29 : M29.IsWhole) (M30 : Memref sig .tc .vmem S2x2x256x256 .f32) (h30 : M30.IsWhole)
    (E : Set ℕ) (Q : PUnit → sProp 𝕄) :
    iprop(anyAt c M1 ∗ anyAt c M2 ∗ anyAt c M3 ∗ anyAt c M4 ∗ anyAt c M5 ∗ anyAt c M6 ∗ anyAt c M7 ∗ anyAt c M8 ∗ anyAt c M9 ∗ anyAt c M10 ∗ anyAt c M11
        ∗ anyAt c M12 ∗ anyAt c M13 ∗ anyAt c M14 ∗ anyAt c M15 ∗ anyAt c M16 ∗ anyAt c M17 ∗ anyAt c M18 ∗ anyAt c M19 ∗ anyAt c M20 ∗ anyAt c M21
        ∗ anyAt c M22 ∗ anyAt c M23 ∗ anyAt c M24 ∗ anyAt c M25 ∗ anyAt c M26 ∗ anyAt c M27 ∗ anyAt c M28 ∗ anyAt c M29 ∗ anyAt c M30
        ∗ (iprop(anyAt c M1 ∗ anyAt c M2 ∗ anyAt c M3 ∗ anyAt c M4 ∗ anyAt c M5 ∗ anyAt c M6 ∗ anyAt c M7 ∗ anyAt c M8 ∗ anyAt c M9 ∗ anyAt c M10 ∗ anyAt c M11
        ∗ anyAt c M12 ∗ anyAt c M13 ∗ anyAt c M14 ∗ anyAt c M15 ∗ anyAt c M16 ∗ anyAt c M17 ∗ anyAt c M18 ∗ anyAt c M19 ∗ anyAt c M20 ∗ anyAt c M21
        ∗ anyAt c M22 ∗ anyAt c M23 ∗ anyAt c M24 ∗ anyAt c M25 ∗ anyAt c M26 ∗ anyAt c M27 ∗ anyAt c M28 ∗ anyAt c M29 ∗ anyAt c M30) -∗ Q ⟨⟩))
      ⊢ wp frame (wpE (defs₀ (F := F)) Variants.none c none) E
          (cc0_delta_bwd i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30) Q := by
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, Hk⟩
  sl_exec_parts (disch := sl_exact hc)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iexists _; iexact H30

end Cert.KernelIdeal.Hand

end
-- ==== Proof.Delta.Frame.lean ====
/-
  The frame of the gated delta rule's backward kernel, from its body's run (Run.lean): every window is forgotten (nothing
  here reads what the kernel leaves in its results), the invariant between points is the two scratch buffers at some
  contents and the generator register at some state, and an input's array ends as it began because no window writes it back.
-/
module

public import proofs.«01_k».proof.Proof.Delta.Run
public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every window is forgotten. -/
def forgets : Fin 28 → Bool := fun _ => true

/-- The proof data on core `c`: each array as the region finds it, what the body leaves unnamed, the scratch at some contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

set_option maxHeartbeats 4000000

/-- A memref owned at some contents is its buffer at some contents, and conversely. -/
theorem anyAt_eq_owns (c : Dev nD) {sp : Space} {S : Shape} {e : EltTy} {M : Memref sig .tc sp S e} (hM : M.IsWhole) :
    iprop(∃ d, owns (c : Thread nD τ) M fullShare d) = (anyAt c M : sProp 𝕄) :=
  Memref.IsWhole.exists_owns_eq (c := (c : Thread nD τ)) hM fullShare
theorem anyAt_of_owns (c : Dev nD) {sp : Space} {S : Shape} {e : EltTy} {M : Memref sig .tc sp S e} (hM : M.IsWhole) :
    iprop(∃ d, owns (c : Thread nD τ) M fullShare d) ⊢ (anyAt c M : sProp 𝕄) := by
  rw [anyAt_eq_owns c hM]
theorem owns_of_anyAt (c : Dev nD) {sp : Space} {S : Shape} {e : EltTy} {M : Memref sig .tc sp S e} (hM : M.IsWhole) :
    (anyAt c M : sProp 𝕄) ⊢ iprop(∃ d, owns (c : Thread nD τ) M fullShare d) := by
  rw [anyAt_eq_owns c hM]

/-- What the body is called with at point `t`, and what it returns: the same. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare d)
    ∗ (∃ d, owns (c : Thread nD τ) (win0_19.stage (cfg0.slots t 19)) fullShare d)
    ∗ (∃ d, owns (c : Thread nD τ) (win0_20.stage (cfg0.slots t 20)) fullShare d)
    ∗ (∃ d, owns (c : Thread nD τ) (win0_21.stage (cfg0.slots t 21)) fullShare d)
    ∗ (∃ d, owns (c : Thread nD τ) (win0_22.stage (cfg0.slots t 22)) fullShare d)
    ∗ (∃ d, owns (c : Thread nD τ) (win0_23.stage (cfg0.slots t 23)) fullShare d)
    ∗ (∃ d, owns (c : Thread nD τ) (win0_24.stage (cfg0.slots t 24)) fullShare d)
    ∗ (∃ d, owns (c : Thread nD τ) (win0_25.stage (cfg0.slots t 25)) fullShare d)
    ∗ (∃ d, owns (c : Thread nD τ) (win0_26.stage (cfg0.slots t 26)) fullShare d)
    ∗ (∃ d, owns (c : Thread nD τ) (win0_27.stage (cfg0.slots t 27)) fullShare d))
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d) ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare d)
    ∗ (∃ d, owns (c : Thread nD τ) (win0_19.stage (cfg0.slots t 19)) fullShare d)
    ∗ (∃ d, owns (c : Thread nD τ) (win0_20.stage (cfg0.slots t 20)) fullShare d)
    ∗ (∃ d, owns (c : Thread nD τ) (win0_21.stage (cfg0.slots t 21)) fullShare d)
    ∗ (∃ d, owns (c : Thread nD τ) (win0_22.stage (cfg0.slots t 22)) fullShare d)
    ∗ (∃ d, owns (c : Thread nD τ) (win0_23.stage (cfg0.slots t 23)) fullShare d)
    ∗ (∃ d, owns (c : Thread nD τ) (win0_24.stage (cfg0.slots t 24)) fullShare d)
    ∗ (∃ d, owns (c : Thread nD τ) (win0_25.stage (cfg0.slots t 25)) fullShare d)
    ∗ (∃ d, owns (c : Thread nD τ) (win0_26.stage (cfg0.slots t 26)) fullShare d)
    ∗ (∃ d, owns (c : Thread nD τ) (win0_27.stage (cfg0.slots t 27)) fullShare d))

/-- The body at the point: the invariant opened, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1⟩, Hg⟩, HO, H0, H1, H2, H3, H4, H5, H6, H7, H8, H9, H10, H11, H12, H13, H14, H15, H16, H17, H18, H19, H20, H21, H22, H23, H24, H25, H26, H27⟩
  have run := fun Q => if hc : isFirst (grid0.coords t) = 1#1 then
      kernelRun_first (F := F) c (grid0.coords t) hc (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (win0_7.stage (cfg0.slots t 7)) (hstage0_7 ((cfg0.slots t 7).cast nbuf0_7))
      (win0_8.stage (cfg0.slots t 8)) (hstage0_8 ((cfg0.slots t 8).cast nbuf0_8))
      (win0_9.stage (cfg0.slots t 9)) (hstage0_9 ((cfg0.slots t 9).cast nbuf0_9))
      (win0_10.stage (cfg0.slots t 10)) (hstage0_10 ((cfg0.slots t 10).cast nbuf0_10))
      (win0_11.stage (cfg0.slots t 11)) (hstage0_11 ((cfg0.slots t 11).cast nbuf0_11))
      (win0_12.stage (cfg0.slots t 12)) (hstage0_12 ((cfg0.slots t 12).cast nbuf0_12))
      (win0_13.stage (cfg0.slots t 13)) (hstage0_13 ((cfg0.slots t 13).cast nbuf0_13))
      (win0_14.stage (cfg0.slots t 14)) (hstage0_14 ((cfg0.slots t 14).cast nbuf0_14))
      (win0_15.stage (cfg0.slots t 15)) (hstage0_15 ((cfg0.slots t 15).cast nbuf0_15))
      (win0_16.stage (cfg0.slots t 16)) (hstage0_16 ((cfg0.slots t 16).cast nbuf0_16))
      (win0_17.stage (cfg0.slots t 17)) (hstage0_17 ((cfg0.slots t 17).cast nbuf0_17))
      (win0_18.stage (cfg0.slots t 18)) (hstage0_18 ((cfg0.slots t 18).cast nbuf0_18))
      (win0_19.stage (cfg0.slots t 19)) (hstage0_19 ((cfg0.slots t 19).cast nbuf0_19))
      (win0_20.stage (cfg0.slots t 20)) (hstage0_20 ((cfg0.slots t 20).cast nbuf0_20))
      (win0_21.stage (cfg0.slots t 21)) (hstage0_21 ((cfg0.slots t 21).cast nbuf0_21))
      (win0_22.stage (cfg0.slots t 22)) (hstage0_22 ((cfg0.slots t 22).cast nbuf0_22))
      (win0_23.stage (cfg0.slots t 23)) (hstage0_23 ((cfg0.slots t 23).cast nbuf0_23))
      (win0_24.stage (cfg0.slots t 24)) (hstage0_24 ((cfg0.slots t 24).cast nbuf0_24))
      (win0_25.stage (cfg0.slots t 25)) (hstage0_25 ((cfg0.slots t 25).cast nbuf0_25))
      (win0_26.stage (cfg0.slots t 26)) (hstage0_26 ((cfg0.slots t 26).cast nbuf0_26))
      (win0_27.stage (cfg0.slots t 27)) (hstage0_27 ((cfg0.slots t 27).cast nbuf0_27))
        (Memref.whole cc0_scratch0) (Memref.isWhole_whole _) (Memref.whole cc0_scratch1) (Memref.isWhole_whole _) Set.univ Q
    else
      kernelRun_next (F := F) c (grid0.coords t) hc (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (win0_7.stage (cfg0.slots t 7)) (hstage0_7 ((cfg0.slots t 7).cast nbuf0_7))
      (win0_8.stage (cfg0.slots t 8)) (hstage0_8 ((cfg0.slots t 8).cast nbuf0_8))
      (win0_9.stage (cfg0.slots t 9)) (hstage0_9 ((cfg0.slots t 9).cast nbuf0_9))
      (win0_10.stage (cfg0.slots t 10)) (hstage0_10 ((cfg0.slots t 10).cast nbuf0_10))
      (win0_11.stage (cfg0.slots t 11)) (hstage0_11 ((cfg0.slots t 11).cast nbuf0_11))
      (win0_12.stage (cfg0.slots t 12)) (hstage0_12 ((cfg0.slots t 12).cast nbuf0_12))
      (win0_13.stage (cfg0.slots t 13)) (hstage0_13 ((cfg0.slots t 13).cast nbuf0_13))
      (win0_14.stage (cfg0.slots t 14)) (hstage0_14 ((cfg0.slots t 14).cast nbuf0_14))
      (win0_15.stage (cfg0.slots t 15)) (hstage0_15 ((cfg0.slots t 15).cast nbuf0_15))
      (win0_16.stage (cfg0.slots t 16)) (hstage0_16 ((cfg0.slots t 16).cast nbuf0_16))
      (win0_17.stage (cfg0.slots t 17)) (hstage0_17 ((cfg0.slots t 17).cast nbuf0_17))
      (win0_18.stage (cfg0.slots t 18)) (hstage0_18 ((cfg0.slots t 18).cast nbuf0_18))
      (win0_19.stage (cfg0.slots t 19)) (hstage0_19 ((cfg0.slots t 19).cast nbuf0_19))
      (win0_20.stage (cfg0.slots t 20)) (hstage0_20 ((cfg0.slots t 20).cast nbuf0_20))
      (win0_21.stage (cfg0.slots t 21)) (hstage0_21 ((cfg0.slots t 21).cast nbuf0_21))
      (win0_22.stage (cfg0.slots t 22)) (hstage0_22 ((cfg0.slots t 22).cast nbuf0_22))
      (win0_23.stage (cfg0.slots t 23)) (hstage0_23 ((cfg0.slots t 23).cast nbuf0_23))
      (win0_24.stage (cfg0.slots t 24)) (hstage0_24 ((cfg0.slots t 24).cast nbuf0_24))
      (win0_25.stage (cfg0.slots t 25)) (hstage0_25 ((cfg0.slots t 25).cast nbuf0_25))
      (win0_26.stage (cfg0.slots t 26)) (hstage0_26 ((cfg0.slots t 26).cast nbuf0_26))
      (win0_27.stage (cfg0.slots t 27)) (hstage0_27 ((cfg0.slots t 27).cast nbuf0_27))
        (Memref.whole cc0_scratch0) (Memref.isWhole_whole _) (Memref.whole cc0_scratch1) (Memref.isWhole_whole _) Set.univ Q
  iapply (run _)
  isplitl [H0]; · iapply (anyAt_of_owns c (hstage0_0 ((cfg0.slots t 0).cast nbuf0_0))); iexact H0
  isplitl [H1]; · iapply (anyAt_of_owns c (hstage0_1 ((cfg0.slots t 1).cast nbuf0_1))); iexact H1
  isplitl [H2]; · iapply (anyAt_of_owns c (hstage0_2 ((cfg0.slots t 2).cast nbuf0_2))); iexact H2
  isplitl [H3]; · iapply (anyAt_of_owns c (hstage0_3 ((cfg0.slots t 3).cast nbuf0_3))); iexact H3
  isplitl [H4]; · iapply (anyAt_of_owns c (hstage0_4 ((cfg0.slots t 4).cast nbuf0_4))); iexact H4
  isplitl [H5]; · iapply (anyAt_of_owns c (hstage0_5 ((cfg0.slots t 5).cast nbuf0_5))); iexact H5
  isplitl [H6]; · iapply (anyAt_of_owns c (hstage0_6 ((cfg0.slots t 6).cast nbuf0_6))); iexact H6
  isplitl [H7]; · iapply (anyAt_of_owns c (hstage0_7 ((cfg0.slots t 7).cast nbuf0_7))); iexact H7
  isplitl [H8]; · iapply (anyAt_of_owns c (hstage0_8 ((cfg0.slots t 8).cast nbuf0_8))); iexact H8
  isplitl [H9]; · iapply (anyAt_of_owns c (hstage0_9 ((cfg0.slots t 9).cast nbuf0_9))); iexact H9
  isplitl [H10]; · iapply (anyAt_of_owns c (hstage0_10 ((cfg0.slots t 10).cast nbuf0_10))); iexact H10
  isplitl [H11]; · iapply (anyAt_of_owns c (hstage0_11 ((cfg0.slots t 11).cast nbuf0_11))); iexact H11
  isplitl [H12]; · iapply (anyAt_of_owns c (hstage0_12 ((cfg0.slots t 12).cast nbuf0_12))); iexact H12
  isplitl [H13]; · iapply (anyAt_of_owns c (hstage0_13 ((cfg0.slots t 13).cast nbuf0_13))); iexact H13
  isplitl [H14]; · iapply (anyAt_of_owns c (hstage0_14 ((cfg0.slots t 14).cast nbuf0_14))); iexact H14
  isplitl [H15]; · iapply (anyAt_of_owns c (hstage0_15 ((cfg0.slots t 15).cast nbuf0_15))); iexact H15
  isplitl [H16]; · iapply (anyAt_of_owns c (hstage0_16 ((cfg0.slots t 16).cast nbuf0_16))); iexact H16
  isplitl [H17]; · iapply (anyAt_of_owns c (hstage0_17 ((cfg0.slots t 17).cast nbuf0_17))); iexact H17
  isplitl [H18]; · iapply (anyAt_of_owns c (hstage0_18 ((cfg0.slots t 18).cast nbuf0_18))); iexact H18
  isplitl [H19]; · iapply (anyAt_of_owns c (hstage0_19 ((cfg0.slots t 19).cast nbuf0_19))); iexact H19
  isplitl [H20]; · iapply (anyAt_of_owns c (hstage0_20 ((cfg0.slots t 20).cast nbuf0_20))); iexact H20
  isplitl [H21]; · iapply (anyAt_of_owns c (hstage0_21 ((cfg0.slots t 21).cast nbuf0_21))); iexact H21
  isplitl [H22]; · iapply (anyAt_of_owns c (hstage0_22 ((cfg0.slots t 22).cast nbuf0_22))); iexact H22
  isplitl [H23]; · iapply (anyAt_of_owns c (hstage0_23 ((cfg0.slots t 23).cast nbuf0_23))); iexact H23
  isplitl [H24]; · iapply (anyAt_of_owns c (hstage0_24 ((cfg0.slots t 24).cast nbuf0_24))); iexact H24
  isplitl [H25]; · iapply (anyAt_of_owns c (hstage0_25 ((cfg0.slots t 25).cast nbuf0_25))); iexact H25
  isplitl [H26]; · iapply (anyAt_of_owns c (hstage0_26 ((cfg0.slots t 26).cast nbuf0_26))); iexact H26
  isplitl [H27]; · iapply (anyAt_of_owns c (hstage0_27 ((cfg0.slots t 27).cast nbuf0_27))); iexact H27
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, HS0, HS1⟩
  isplitl [HS0 HS1 Hg]
  · isplitl [HS0 HS1]
    · isplitl [HS0]; · iexact HS0
      iexact HS1
    iexact Hg
  isplitl [HO]; · iexact HO
  isplitl [H0]; · iapply (owns_of_anyAt c (hstage0_0 ((cfg0.slots t 0).cast nbuf0_0))); iexact H0
  isplitl [H1]; · iapply (owns_of_anyAt c (hstage0_1 ((cfg0.slots t 1).cast nbuf0_1))); iexact H1
  isplitl [H2]; · iapply (owns_of_anyAt c (hstage0_2 ((cfg0.slots t 2).cast nbuf0_2))); iexact H2
  isplitl [H3]; · iapply (owns_of_anyAt c (hstage0_3 ((cfg0.slots t 3).cast nbuf0_3))); iexact H3
  isplitl [H4]; · iapply (owns_of_anyAt c (hstage0_4 ((cfg0.slots t 4).cast nbuf0_4))); iexact H4
  isplitl [H5]; · iapply (owns_of_anyAt c (hstage0_5 ((cfg0.slots t 5).cast nbuf0_5))); iexact H5
  isplitl [H6]; · iapply (owns_of_anyAt c (hstage0_6 ((cfg0.slots t 6).cast nbuf0_6))); iexact H6
  isplitl [H7]; · iapply (owns_of_anyAt c (hstage0_7 ((cfg0.slots t 7).cast nbuf0_7))); iexact H7
  isplitl [H8]; · iapply (owns_of_anyAt c (hstage0_8 ((cfg0.slots t 8).cast nbuf0_8))); iexact H8
  isplitl [H9]; · iapply (owns_of_anyAt c (hstage0_9 ((cfg0.slots t 9).cast nbuf0_9))); iexact H9
  isplitl [H10]; · iapply (owns_of_anyAt c (hstage0_10 ((cfg0.slots t 10).cast nbuf0_10))); iexact H10
  isplitl [H11]; · iapply (owns_of_anyAt c (hstage0_11 ((cfg0.slots t 11).cast nbuf0_11))); iexact H11
  isplitl [H12]; · iapply (owns_of_anyAt c (hstage0_12 ((cfg0.slots t 12).cast nbuf0_12))); iexact H12
  isplitl [H13]; · iapply (owns_of_anyAt c (hstage0_13 ((cfg0.slots t 13).cast nbuf0_13))); iexact H13
  isplitl [H14]; · iapply (owns_of_anyAt c (hstage0_14 ((cfg0.slots t 14).cast nbuf0_14))); iexact H14
  isplitl [H15]; · iapply (owns_of_anyAt c (hstage0_15 ((cfg0.slots t 15).cast nbuf0_15))); iexact H15
  isplitl [H16]; · iapply (owns_of_anyAt c (hstage0_16 ((cfg0.slots t 16).cast nbuf0_16))); iexact H16
  isplitl [H17]; · iapply (owns_of_anyAt c (hstage0_17 ((cfg0.slots t 17).cast nbuf0_17))); iexact H17
  isplitl [H18]; · iapply (owns_of_anyAt c (hstage0_18 ((cfg0.slots t 18).cast nbuf0_18))); iexact H18
  isplitl [H19]; · iapply (owns_of_anyAt c (hstage0_19 ((cfg0.slots t 19).cast nbuf0_19))); iexact H19
  isplitl [H20]; · iapply (owns_of_anyAt c (hstage0_20 ((cfg0.slots t 20).cast nbuf0_20))); iexact H20
  isplitl [H21]; · iapply (owns_of_anyAt c (hstage0_21 ((cfg0.slots t 21).cast nbuf0_21))); iexact H21
  isplitl [H22]; · iapply (owns_of_anyAt c (hstage0_22 ((cfg0.slots t 22).cast nbuf0_22))); iexact H22
  isplitl [H23]; · iapply (owns_of_anyAt c (hstage0_23 ((cfg0.slots t 23).cast nbuf0_23))); iexact H23
  isplitl [H24]; · iapply (owns_of_anyAt c (hstage0_24 ((cfg0.slots t 24).cast nbuf0_24))); iexact H24
  isplitl [H25]; · iapply (owns_of_anyAt c (hstage0_25 ((cfg0.slots t 25).cast nbuf0_25))); iexact H25
  isplitl [H26]; · iapply (owns_of_anyAt c (hstage0_26 ((cfg0.slots t 26).cast nbuf0_26))); iexact H26
  iapply (owns_of_anyAt c (hstage0_27 ((cfg0.slots t 27).cast nbuf0_27))); iexact H27

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- From any memory with zero counters every weakly fair execution of @main terminates with every counter at zero and every
    array that no window writes back as the region found it. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- An input window's array after the run is as launched. -/
theorem final_in {r : PUnit × MemSt nD τ sig (Elt F)}
    (h : Pipeline.RDat.FramePost (cfgs 0) (fun c => (dats (F := F) m 0 c).toRForget forgets) (V m) r) (c : Dev nD)
    (w : Fin cfg0.W) (hw : (cfg0.win w).isOut = false) :
    r.2.mem ((cfg0.win w).arr.view.loc (c.tc : Thread nD τ)) = V m c (Pipeline.arrRef spec0 w) := by
  have hr := (h c).1 w
  rw [Pipeline.RDat.ArrAt_in _ w hw] at hr
  exact hr

/-- The frame: the run's post, read at the twelve arguments. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => ⟨final_in m h.1 c 9 rfl, final_in m h.1 c 10 rfl, final_in m h.1 c 11 rfl, final_in m h.1 c 12 rfl, final_in m h.1 c 13 rfl, final_in m h.1 c 5 rfl, final_in m h.1 c 14 rfl, final_in m h.1 c 6 rfl, final_in m h.1 c 15 rfl, final_in m h.1 c 7 rfl, final_in m h.1 c 16 rfl, final_in m h.1 c 17 rfl⟩, h.2⟩)
    (run_main m ρ)

end Cert.KernelIdeal.Hand

end
-- ==== Proof.Delta.Machine.lean ====
/-
  The frame of the delta rule's backward call over the machine's floats. The program printed for the machine and the one
  printed for the extended reals are the same text, and the run is proved over any float values.
-/
module

public import proofs.«01_k».proof.Proof.Delta.Frame
public import proofs.«01_k».proof.Defs
public import proofs.«01_k».proof.Proof.Gen.Kernel

@[expose] public section

namespace Cert.Proof

open Idealize.ShloMosaic Idealize.SL.Sem

variable {F : FTy → Type} [FloatOps F]

set_option maxHeartbeats 40000000 in
/-- The two programs' bodies are the same text. -/
theorem body_eq : Cert.Kernel.cc0_delta_bwd (F := F) = Cert.KernelIdeal.cc0_delta_bwd (F := F) := rfl

set_option maxHeartbeats 40000000 in
/-- So are their body tables, -/
theorem table_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

set_option maxHeartbeats 40000000 in
/-- and their tables with the pipelines. -/
theorem defs_eq : Cert.Kernel.defs (F := F) = Cert.KernelIdeal.defs (F := F) :=
  congrArg (Idealize.ShloMosaic.Pipeline.defs (Cert.KernelIdeal.pcfgs (F := F))) table_eq

set_option maxHeartbeats 40000000 in
/-- Over the machine's floats the call ends, with its arguments unchanged and every counter at zero. -/
theorem frame_kernel : Cert.quiescent_Kernel := fun m ρ _ => by
  have h := Cert.KernelIdeal.Hand.frame (F := Bits) m ρ
  rw [← defs_eq] at h
  exact h

end Cert.Proof

end
-- ==== Proof.Common.lean ====
/-
  What the value proofs share: the two zero offsets, sums over a range of rows cut into blocks, and the product of two
  matrices' columns as a function of the row number alone.
-/
module

public import Idealize.ShloMosaic.Lib.Pipeline.Value
public import Idealize.ShloMosaic.Lib.ValueIdx
public import Idealize.ShloMosaic.Lib.Pointwise
public import Idealize.ShloMosaic.Lib.Tactic

@[expose] public section

noncomputable section

namespace Cert.Common

open Idealize.ShloMosaic
open Idealize.ShloMosaic.ValueIdx hiding ix2 eq_ix2
open scoped BigOperators

theorem hz : (![0, 0] : Fin 2 → Nat) = fun _ => 0 := funext fun a => by fin_cases a <;> rfl

/-- The single-precision zero word is zero. -/
theorem ofBits_zero : Ideal.ofBits .f32 0x00000000#32 = 0 := by simp [Ideal.ofBits, Ideal.ieee]

/-- The single-precision one, and silu as the expression a program spells it with. -/
abbrev one : EReal := Ideal.ofBits .f32 0x3F800000#32
def silu (x : EReal) : EReal := x * Ideal.div one (one + Ideal.exp (-x))

/-- A sum over the first `(n + 1) * T` rows: the first `n * T`, then the `T` rows of block `n`. -/
theorem sum_next_block (g : ℕ → EReal) (n T : ℕ) :
    ∑ k ∈ Finset.range ((n + 1) * T), g k = ∑ k ∈ Finset.range (n * T), g k + ∑ r : Fin T, g (n * T + r.val) := by
  rw [Nat.add_mul, Nat.one_mul, Finset.sum_range_add, Finset.sum_range fun x => g (n * T + x)]

/-- The first block alone. -/
theorem sum_first_block (g : ℕ → EReal) (T : ℕ) :
    ∑ k ∈ Finset.range ((0 + 1) * T), g k = ∑ r : Fin T, g (0 * T + r.val) := by
  rw [sum_next_block, Nat.zero_mul, Finset.range_zero, Finset.sum_empty, zero_add]

/-- A run of points from point `b` on: the first leaves its block's sum, each later one adds its own to what it found. Point
    `b + i` then leaves the sum over the rows of the first `i + 1` blocks. -/
theorem sweep_sum {N : ℕ} (s : (n : ℕ) → n < N → EReal) (g : ℕ → EReal) (b T L : ℕ)
    (first : ∀ h, s b h = ∑ r : Fin T, g (0 * T + r.val))
    (next : ∀ i h h', i + 1 < L → s (b + (i + 1)) h = s (b + i) h' + ∑ r : Fin T, g ((i + 1) * T + r.val)) :
    ∀ i h, i < L → s (b + i) h = ∑ k ∈ Finset.range ((i + 1) * T), g k := by
  intro i
  induction i with
  | zero => intro h _; exact (first h).trans (sum_first_block g T).symm
  | succ i ih =>
    intro h hi
    rw [next i h (by omega) hi, ih (by omega) (by omega), ← sum_next_block]

/-- Row `k`'s product of column `p` of `a` and column `q` of `b`; zero outside the matrices. -/
def colProd {K M N : ℕ} (a : (⟨2, ![K, M]⟩ : Shape).Idx → EReal) (b : (⟨2, ![K, N]⟩ : Shape).Idx → EReal)
    (p q k : ℕ) : EReal :=
  if h : k < K ∧ p < M ∧ q < N then a (ix2 ⟨k, h.1⟩ ⟨p, h.2.1⟩) * b (ix2 ⟨k, h.1⟩ ⟨q, h.2.2⟩) else 0

/-- Inside the matrices it is the product of the two elements, however their indices are written. -/
theorem colProd_eq {K M N : ℕ} (a : (⟨2, ![K, M]⟩ : Shape).Idx → EReal) (b : (⟨2, ![K, N]⟩ : Shape).Idx → EReal)
    (p q k : ℕ) (i : (⟨2, ![K, M]⟩ : Shape).Idx) (j : (⟨2, ![K, N]⟩ : Shape).Idx)
    (hi0 : (i 0).val = k) (hi1 : (i 1).val = p) (hj0 : (j 0).val = k) (hj1 : (j 1).val = q) :
    a i * b j = colProd a b p q k := by
  subst hi0 hi1 hj1
  unfold colProd
  rw [dif_pos ⟨(i 0).isLt, (i 1).isLt, (j 1).isLt⟩]
  have e : j 0 = i 0 := Fin.ext hj0
  refine congrArg₂ (· * ·) (congrArg a (eq_ix2 i)) (congrArg b ((eq_ix2 j).trans ?_))
  rw [e]
  rfl

/-- Over all the rows it is the textbook product of the transposed first matrix by the second. -/
theorem sum_colProd {K M N : ℕ} (a : (⟨2, ![K, M]⟩ : Shape).Idx → EReal) (b : (⟨2, ![K, N]⟩ : Shape).Idx → EReal)
    (p : Fin M) (q : Fin N) :
    ∑ k ∈ Finset.range K, colProd a b p.val q.val k = ∑ k : Fin K, a (ix2 k p) * b (ix2 k q) := by
  rw [Finset.sum_range]
  exact Finset.sum_congr rfl fun k _ => (colProd_eq a b _ _ _ (ix2 k p) (ix2 k q) rfl rfl rfl rfl).symm

/-- An array at two indices with the same coordinates. -/
theorem at2 {α : Type} {M N : ℕ} (x : (⟨2, ![M, N]⟩ : Shape).Idx → α) (i j : (⟨2, ![M, N]⟩ : Shape).Idx)
    (h0 : (i 0).val = (j 0).val) (h1 : (i 1).val = (j 1).val) : x i = x j :=
  congrArg x (funext fun a => match a with
    | ⟨0, _⟩ => Fin.ext h0
    | ⟨1, _⟩ => Fin.ext h1)

/-- Row `p` of `a` times column `q` of `b`. -/
def rowDot {M K N : ℕ} (a : (⟨2, ![M, K]⟩ : Shape).Idx → EReal) (b : (⟨2, ![K, N]⟩ : Shape).Idx → EReal)
    (p : Fin M) (q : Fin N) : EReal :=
  ∑ k : Fin K, a (ix2 p k) * b (ix2 k q)

/-- Row `p` of `a` times row `q` of `b`: the product by the transposed second matrix. -/
def rowRow {M K N : ℕ} (a : (⟨2, ![M, K]⟩ : Shape).Idx → EReal) (b : (⟨2, ![N, K]⟩ : Shape).Idx → EReal)
    (p : Fin M) (q : Fin N) : EReal :=
  ∑ k : Fin K, a (ix2 p k) * b (ix2 q k)

end Cert.Common

end
-- ==== Proof.DwFfnUp.lean ====
/-
  The value of `dw_ffn_up`: the gradient of u @ w_up with respect to w_up.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel2Ideal.Value
public import proofs.«01_k».proof.Proof.Gen.Kernel2Ideal.Skeleton
public import proofs.«01_k».proof.Proof.Gen.Reference2Ideal.Run
public import proofs.«01_k».proof.Proof.Gen.Reference2Ideal.Read

@[expose] public section

noncomputable section

namespace Cert.Kernel2Ideal.Hand

open Cert.Kernel2Ideal Cert.Kernel2Ideal.Gen Cert.Kernel2Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x2816 .bf16) (h4 : a4.IsWhole) (a5 : Memref sig .tc .vmem S1024x2816 .bf16) (h5 : a5.IsWhole)
    (a6 : Memref sig .tc .vmem S1024x2816 .f32) (h6 : a6.IsWhole) (hc0 : cond0_0 i) (hc1 : ¬cond0_1 i)
    (x0 : Vec F S1024x1024 .bf16) (x1 : Vec F S1024x2816 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2816) hz, View.readCov_unit_zero (S := S1024x2816) _ hz]
  simp only [View.readAt_eq_ld, h3.read_unread, h4.read_unread, h6.read_unread, View.ld_unit_zero (S := S1024x1024) hz,
    View.ld_unit_zero (S := S1024x2816) hz, View.ld_unit_zero (S := S1024x2816) hz]

/-- A later point adds its block product to what the scratch held. -/
theorem next_scratch (c : Dev nD) (i : grid0.Coords) (a3 : Memref sig .tc .vmem S1024x1024 .bf16) (h3 : a3.IsWhole)
    (a4 : Memref sig .tc .vmem S1024x2816 .bf16) (h4 : a4.IsWhole) (a5 : Memref sig .tc .vmem S1024x2816 .bf16) (h5 : a5.IsWhole)
    (a6 : Memref sig .tc .vmem S1024x2816 .f32) (h6 : a6.IsWhole) (hc0 : ¬cond0_0 i) (hc1 : ¬cond0_1 i)
    (x0 : Vec F S1024x1024 .bf16) (x1 : Vec F S1024x2816 .bf16) (xs : Vec F S1024x2816 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x2816) hz, View.ld_unit_zero (S := S1024x2816) hz]

/-- The last point rounds the sum into the result's block. -/
theorem last_out (c : Dev nD) (i : grid0.Coords) (a3 : Memref sig .tc .vmem S1024x1024 .bf16) (h3 : a3.IsWhole)
    (a4 : Memref sig .tc .vmem S1024x2816 .bf16) (h4 : a4.IsWhole) (a5 : Memref sig .tc .vmem S1024x2816 .bf16) (h5 : a5.IsWhole)
    (a6 : Memref sig .tc .vmem S1024x2816 .f32) (h6 : a6.IsWhole) (hc0 : ¬cond0_0 i) (hc1 : cond0_1 i)
    (x0 : Vec F S1024x1024 .bf16) (x1 : Vec F S1024x2816 .bf16) (xs : Vec F S1024x2816 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x2816) _ hz]
  simp only [View.readAt_eq_ld, h3.read_unread, h4.read_unread, h6.read_unread, View.ld_unit_zero (S := S1024x1024) hz,
    View.ld_unit_zero (S := S1024x2816) hz, View.ld_unit_zero (S := S1024x2816) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x2816 .f32) (x0 : Vec Ideal S1024x1024 .bf16) (x1 : Vec Ideal S1024x2816 .bf16)
    (p : Fin 1024) (q : Fin 2816) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x2816.Idx) : (k0_pay1 (F := Ideal) : FVec Ideal S1024x2816 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 5632]⟩ : Shape).Idx → EReal := m ((c : Thread nD τ).loc main_arg1)

/-- The index maps in closed form. -/
theorem index_facts : ∀ t : Fin cfg0.N, win0_0.index t 0 = t.val % 8 ∧ win0_0.index t 1 = t.val / 8 / 2
    ∧ win0_1.index t 0 = t.val % 8 ∧ win0_1.index t 1 = t.val / 8 % 2 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 2816]⟩ : Shape).Idx → EReal := iblk m c 1 t

/-- A row's product of the two blocks is that row's product of the two arrays. -/
theorem block_prod (c : Dev nD) (t : Fin cfg0.N) (p : Fin 1024) (q : Fin 2816) (r : Fin 1024) :
    lblk m c t (ix2 r p) * rblk m c t (ix2 r q)
      = colProd (lhs m c) (rhs m c) (t.val / 8 / 2 * 1024 + p.val) (t.val / 8 % 2 * 2816 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 2816 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 2816) (j : ℕ) (h : 8 * j + 7 < cfg0.N) :
    ((outsAt0 m c (8 * j + 7) h).1 (ix2 p q) : EReal)
      = ∑ k ∈ Finset.range 8192,
          colProd (lhs m c) (rhs m c) (j / 2 * 1024 + p.val) (j % 2 * 2816 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 2 * 1024 + p.val) (j % 2 * 2816 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 2 * 1024 + p.val) (j % 2 * 2816 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 5632) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (2 * (p.val / 1024) + q.val / 2816) + 7 := by
    show 8 * (2 * (p.val / 1024 - 0) + 1 * (q.val / 2816 - 0)) + 7 = _
    omega
  have hb : 8 * (2 * (p.val / 1024) + q.val / 2816) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 2816, Nat.mod_lt _ (by decide)⟩ from
    funext fun a => match a with
      | ⟨0, _⟩ => rfl
      | ⟨1, _⟩ => rfl]
  simp only [hpt]
  rw [out_eq m c _ _ _ hb]
  dsimp only
  rw [show (2 * (p.val / 1024) + q.val / 2816) / 2 * 1024 + p.val % 1024 = p.val from by omega,
    show (2 * (p.val / 1024) + q.val / 2816) % 2 * 2816 + q.val % 2816 = q.val from by omega]

end Cert.Kernel2Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference2_eq (x0 : (⟨2, ![8192, 1024]⟩ : Shape).Idx → EReal) (x1 : (⟨2, ![8192, 5632]⟩ : Shape).Idx → EReal)
    (p : Fin 1024) (q : Fin 5632) :
    (Cert.Reference2Ideal.Read.val_main_v4 (F := Ideal) x0 x1 (ix2 p q) : EReal) = ∑ k : Fin 8192, x0 (ix2 k p) * x1 (ix2 k q) := by
  rw [Cert.Reference2Ideal.Read.val_main_v4_apply, Ideal.truncf_def, Cert.Reference2Ideal.Read.val_main_v3_apply,
    Cert.Reference2Ideal.Read.val_main_v2_apply]
  refine Finset.sum_congr rfl fun k _ => ?_
  rw [Cert.Reference2Ideal.Read.val_main_v1_apply, Cert.Reference2Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_ffn_up` equals its reference. -/
theorem algebraic2 : Cert.algebraic_Kernel2Ideal_Reference2Ideal := by
  intro m g m' g' _ hargs
  refine ⟨fun c => Cert.Kernel2Ideal.Value.G2 m c, Cert.Kernel2Ideal.Value.run m g, ?_⟩
  refine (θ_run Cert.Reference2Ideal.defs _ _).mono (fun r h c => ⟨?_, (h c).2.1, (h c).2.2⟩) (Cert.Reference2Ideal.Value.run m' g')
  refine ((h c).1.trans (Cert.Reference2Ideal.Read.val_main_v4_eq (F := Ideal) _ _)).trans ?_
  rw [(hargs c).1, (hargs c).2]
  funext i
  rw [eq_ix2 i]
  exact (reference2_eq _ _ _ _).trans (Cert.Kernel2Ideal.Hand.result_eq m c _ _).symm

end Cert.Proof

end
-- ==== Proof.NormBwd.lean ====
/-
  The backward of a modulated root mean square norm, one row at a time: the expression that factors the row's inverse root
  out, and the one that differentiates the norm step by step, are equal over the extended reals, whatever the row holds.
-/
module

public import Idealize.ShloMosaic.Lib.Pipeline.ValueKit
public import Idealize.ShloMosaic.Lib.IdealHost
public import proofs.«01_k».proof.Proof.Common

@[expose] public section

noncomputable section

namespace Cert.NormBwd

open Cert.Common
open Idealize.ShloMosaic
open scoped BigOperators

/-- The row's length, the norm's constant and minus a half, as the programs' words. -/
abbrev width : EReal := Ideal.ofBits .f32 0x44800000#32
abbrev tiny : EReal := Ideal.ofBits .f32 0x358637BD#32
abbrev negHalf : EReal := Ideal.ofBits .f32 0xBF000000#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul, -EReal.coe_neg]; norm_num

/-- The norm's constant is a positive real. -/
theorem tiny_eq : ∃ e : ℝ, 0 < e ∧ tiny = (e : EReal) := by
  refine ⟨8796093 / 8796093022208, by norm_num, ?_⟩
  simp [tiny, Ideal.ofBits, Ideal.ieee, -EReal.coe_mul]; norm_num

/-- A row of a matrix. -/
abbrev row {M N : ℕ} (x : (⟨2, ![M, N]⟩ : Shape).Idx → EReal) (p : Fin M) : Fin N → EReal := fun k => x (ix2 p k)

theorem row_eta {N : ℕ} (j : (⟨2, ![1, N]⟩ : Shape).Idx) : ix2 (n0 := 1) (n1 := N) 0 (j 1) = j :=
  funext fun a => match a with
    | ⟨0, _⟩ => Fin.ext (by have : (j 0).val < 1 := (j 0).isLt; show 0 = (j 0).val; omega)
    | ⟨1, _⟩ => rfl

/-- The mean of the squares plus the constant, its inverse root, and the row scaled by it. -/
def spread (x : Fin 1024 → EReal) : EReal := Ideal.div (∑ k, x k * x k) width + tiny
def invRoot (x : Fin 1024 → EReal) : EReal := Ideal.rsqrt (spread x)
def hat (x : Fin 1024 → EReal) (j : Fin 1024) : EReal := x j * invRoot x

/-- A row normalized, weighted, and modulated by a scale and a shift. -/
def modRow (x w s b : Fin 1024 → EReal) (j : Fin 1024) : EReal := hat x j * w j * (one + s j) + b j

/-- The gradient at the scaled row, from the modulated row's gradient `d`, the weight `w` and the scale `s`. -/
def hatGrad (w s d : Fin 1024 → EReal) (j : Fin 1024) : EReal := d j * (one + s j) * w j

/-- The gradient at the row, with the inverse root factored out. -/
def rowGrad (x a : Fin 1024 → EReal) (j : Fin 1024) : EReal :=
  invRoot x * (a j - hat x j * Ideal.div (∑ k, a k * hat x k) width)

/-- Half of what the root's derivative gives: the gradient at the mean of the squares, spread over the row. -/
def share (x a : Fin 1024 → EReal) : EReal :=
  Ideal.div ((∑ k, x k * a k) * (negHalf * Ideal.div (invRoot x) (spread x))) width

theorem div_real (a : EReal) {r : ℝ} (h : r ≠ 0) : Ideal.div a (r : EReal) = a * ((r⁻¹ : ℝ) : EReal) := by
  unfold Ideal.div
  rw [if_neg (by exact_mod_cast h), EReal.coe_inv]

theorem mul_self_nonneg (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A positive real factor moves out of a sum. -/
theorem sum_mul_real {n : ℕ} (f : Fin n → EReal) {r : ℝ} (h : 0 ≤ r) :
    ∑ k, f k * (r : EReal) = (∑ k, f k) * (r : EReal) := by
  induction n with
  | zero => simp
  | succ n ih =>
    rw [Fin.sum_univ_succ, Fin.sum_univ_succ, ih,
      EReal.right_distrib_of_nonneg_of_ne_top (by exact_mod_cast h) (EReal.coe_ne_top r)]

/-- Either the row's spread is infinite, or it is a positive real and every entry of the row is real. -/
theorem spread_cases (x : Fin 1024 → EReal) :
    spread x = ⊤ ∨ ∃ (v : ℝ) (y : Fin 1024 → ℝ), 0 < v ∧ spread x = (v : EReal) ∧ x = fun k => (y k : EReal) := by
  obtain ⟨e, he, te⟩ := tiny_eq
  have hs : 0 ≤ ∑ k, x k * x k := Finset.sum_nonneg fun k _ => mul_self_nonneg (x k)
  unfold spread
  rw [width_eq, div_real _ (by norm_num), te]
  by_cases ht : ∑ k, x k * x k = ⊤
  · left
    rw [ht, EReal.top_mul_coe_of_pos (by norm_num), EReal.top_add_coe]
  · right
    have hx : ∀ k, x k ≠ ⊤ ∧ x k ≠ ⊥ := by
      intro k
      have hk := Finset.single_le_sum (f := fun k => x k * x k) (fun k _ => mul_self_nonneg (x k)) (Finset.mem_univ k)
      constructor <;> intro hk'
      · rw [hk', EReal.top_mul_top] at hk
        exact ht (top_le_iff.mp hk)
      · rw [hk', EReal.bot_mul_bot] at hk
        exact ht (top_le_iff.mp hk)
    have hy : x = fun k => ((x k).toReal : EReal) := funext fun k => (EReal.coe_toReal (hx k).1 (hx k).2).symm
    have hb : ∑ k, x k * x k ≠ ⊥ := fun h => by rw [h] at hs; exact absurd hs (by simp)
    rw [← EReal.coe_toReal ht hb]
    have h0 : 0 ≤ (∑ k, x k * x k).toReal := EReal.toReal_nonneg hs
    exact ⟨(∑ k, x k * x k).toReal * (1024 : ℝ)⁻¹ + e, fun k => (x k).toReal, by positivity, by norm_cast, hy⟩

/-- The two expressions of the gradient at the row, added to what was there. -/
theorem rowGrad_eq (x a : Fin 1024 → EReal) (e : EReal) (j : Fin 1024) :
    e + rowGrad x a j = e + a j * invRoot x + x j * share x a + share x a * x j := by
  unfold rowGrad share hat
  obtain h | ⟨v, y, hv, h, hx⟩ := spread_cases x
  · have hi : invRoot x = 0 := by rw [invRoot, h, Ideal.rsqrt_top]
    have ht : spread x ≠ 0 := by rw [h]; exact EReal.top_ne_zero
    rw [hi, width_eq]
    simp [Ideal.div, ht]
  · obtain ⟨r, hr, hi⟩ : ∃ r : ℝ, r = (Real.sqrt v)⁻¹ ∧ invRoot x = (r : EReal) :=
      ⟨_, rfl, by rw [invRoot, h, Ideal.rsqrt_coe, if_neg (not_lt.mpr hv.le), if_neg hv.ne']⟩
    have hr0 : 0 < r := by rw [hr]; positivity
    have hrv : r * v⁻¹ = r * r * r := by
      have : v⁻¹ = r * r := by
        rw [hr, ← mul_inv, Real.mul_self_sqrt hv.le]
      rw [this, mul_assoc]
    rw [hi, h, width_eq, negHalf_eq, div_real _ hv.ne', div_real _ (by norm_num), div_real _ (by norm_num)]
    have hsum : ∑ k, a k * (x k * (r : EReal)) = (∑ k, x k * a k) * (r : EReal) := by
      rw [← sum_mul_real _ hr0.le]
      exact Finset.sum_congr rfl fun k _ => by rw [← mul_assoc, mul_comm (a k)]
    rw [hsum]
    generalize ∑ k, x k * a k = S
    rw [hx]
    dsimp only
    rw [sub_eq_add_neg, EReal.left_distrib_of_nonneg_of_ne_top (by exact_mod_cast hr0.le) (EReal.coe_ne_top r),
      ← add_assoc, mul_comm (r : EReal) (a j), add_assoc (e + a j * (r : EReal))]
    congr 1
    have hm : ∀ p q : EReal, p * q + q * p = ((2 : ℝ) : EReal) * (q * p) := fun p q => by
      rw [mul_comm p q, show ((2 : ℝ) : EReal) = 1 + 1 by rw [← EReal.coe_one, ← EReal.coe_add]; norm_num,
        EReal.right_distrib_of_nonneg zero_le_one zero_le_one, one_mul]
    rw [hm]
    have e1 : ∀ w : ℝ, (r : EReal) * -((y j : EReal) * (r : EReal) * (S * (r : EReal) * (w : EReal)))
        = S * ((-(r * (y j * r) * (r * w)) : ℝ) : EReal) := fun w => by
      rw [mul_neg, EReal.coe_neg, mul_neg]
      simp only [EReal.coe_mul]
      congr 1
      ac_rfl
    have e2 : ∀ b c u w : ℝ, (b : EReal) * (S * ((c : EReal) * ((r : EReal) * (u : EReal))) * (w : EReal) * (y j : EReal))
        = S * ((b * (c * (r * u)) * w * y j : ℝ) : EReal) := fun b c u w => by
      simp only [EReal.coe_mul]
      ac_rfl
    rw [e1, e2, hrv]
    congr 2
    ring

/-- A row's position, from its block and its place in the block, in any number of blocks of any height. -/
def rowOf {N n T R : ℕ} (hN : N = n) (hR : R = n * T) (t : Fin N) (p : Fin T) : Fin R :=
  ⟨t.val * T + p.val, by subst hN hR; exact lt_of_lt_of_le (Nat.add_lt_add_left p.isLt _) (by
    rw [← Nat.succ_mul]; exact Nat.mul_le_mul_right _ t.isLt)⟩

/-- A row that starts at the first block's sum and takes each later block's sum is, after the last block, the sum over all rows. -/
theorem sum_blocks_of {N n T R W : ℕ} (hN : N = n) (hR : R = n * T) (f : (n : ℕ) → n < N → (⟨2, ![1, W]⟩ : Shape).Idx → EReal)
    (block : Fin N → (⟨2, ![1, W]⟩ : Shape).Idx → EReal) (term : Fin R → Fin W → EReal)
    (hb : ∀ t q, block t (ix2 0 q) = ∑ p : Fin T, term (rowOf hN hR t p) q)
    (h0 : ∀ t : Fin N, t.val % n = 0 → ∀ i, f t.val t.isLt i = 0 + block t i)
    (hs : ∀ t : Fin N, ¬t.val % n = 0 → ∀ i,
      f t.val t.isLt i = f (t.val - 1) (Nat.lt_of_le_of_lt (Nat.sub_le _ _) t.isLt) i + block t i)
    (t : Fin N) (ht : t.val + 1 = N) (j : (⟨2, ![1, W]⟩ : Shape).Idx) :
    f t.val t.isLt j = ∑ p : Fin R, term p (j 1) := by
  subst hN hR
  rw [Pipeline.eq_sum_fin_of_reset_step_apply_last f N (fun _ => 0) block h0 hs le_rfl t ht j, zero_add]
  have hj : ∀ t, block t j = ∑ p : Fin T, term (rowOf rfl rfl t p) (j 1) := fun t => by
    rw [← hb t (j 1), row_eta]
  simp only [hj]
  exact Fin.sum_mul_add_congr fun s k hl => rfl

/-- The same in thirty-two blocks of 256. -/
def rowAt {N : ℕ} (hN : N = 32) (t : Fin N) (p : Fin 256) : Fin 8192 := rowOf (T := 256) hN (by norm_num) t p

theorem sum_blocks {N : ℕ} (hN : N = 32) (f : (n : ℕ) → n < N → (⟨2, ![1, 1024]⟩ : Shape).Idx → EReal)
    (block : Fin N → (⟨2, ![1, 1024]⟩ : Shape).Idx → EReal) (term : Fin 8192 → Fin 1024 → EReal)
    (hb : ∀ t q, block t (ix2 0 q) = ∑ p : Fin 256, term (rowAt hN t p) q)
    (h0 : ∀ t : Fin N, t.val % 32 = 0 → ∀ i, f t.val t.isLt i = 0 + block t i)
    (hs : ∀ t : Fin N, ¬t.val % 32 = 0 → ∀ i,
      f t.val t.isLt i = f (t.val - 1) (Nat.lt_of_le_of_lt (Nat.sub_le _ _) t.isLt) i + block t i)
    (t : Fin N) (ht : t.val + 1 = N) (j : (⟨2, ![1, 1024]⟩ : Shape).Idx) :
    f t.val t.isLt j = ∑ p : Fin 8192, term p (j 1) :=
  sum_blocks_of hN (by norm_num) f block term hb h0 hs t ht j

end Cert.NormBwd

end
-- ==== Proof.FfnBwdUp.lean ====
/-
  The value of the backward of the up projection and of the modulated norm before it: the product by the transposed weight
  gives the modulated row's gradient; from it come, row by row, the stream's gradient, and, summed over the rows in blocks of
  256, the gradients of the norm's weight, the scale and the shift.
-/
module

public import Idealize.ShloMosaic.Lib.Pipeline.ValueKit
public import proofs.«01_k».proof.Proof.Common
public import proofs.«01_k».proof.Proof.NormBwd
public import proofs.«01_k».proof.Defs
public import proofs.«01_k».proof.Proof.Gen.Kernel3Ideal.Value
public import proofs.«01_k».proof.Proof.Gen.Kernel3Ideal.Skeleton
public import proofs.«01_k».proof.Proof.Gen.Reference3Ideal.Run
public import proofs.«01_k».proof.Proof.Gen.Reference3Ideal.Read

@[expose] public section

noncomputable section

namespace Cert.Kernel3Ideal.Hand

open Cert.Kernel3Ideal Cert.Kernel3Ideal.Gen Cert.Kernel3Ideal.Value Cert.Common Cert.NormBwd
open Idealize.ShloMosaic Idealize.ShloMosaic.TcCoe Idealize.SL.Sem
open Idealize.ShloMosaic.Pipeline (Dat)
open scoped BigOperators

section Block

variable (x0 : Vec Ideal S256x5632 .bf16) (x1 : Vec Ideal S1024x5632 .bf16) (x2 : Vec Ideal S256x1024 .f32)
  (x3 x4 : Vec Ideal S1x1024 .f32) (x5 : Vec Ideal S256x1024 .f32)

/-- A row of the block's product. -/
abbrev prodRow (p : Fin 256) : Fin 1024 → EReal := fun q => rowRow (M := 256) (K := 5632) (N := 1024) x0 x1 p q

theorem prod_apply (p : Fin 256) (q : Fin 1024) : (k0_pay8 x0 x1 (ix2 p q) : EReal) = prodRow x0 x1 p q := by
  unfold k0_pay8 prodRow rowRow
  pointwise

theorem invRoot_apply (p : Fin 256) : (k0_pay9 x2 (ix2 p 0) : EReal) = invRoot (row (M := 256) x2 p) := by
  unfold k0_pay9 invRoot spread row
  pointwise

theorem hat_apply (p : Fin 256) (q : Fin 1024) : (k0_pay10 x2 (ix2 p q) : EReal) = hat (row (M := 256) x2 p) q := by
  unfold k0_pay10 hat
  rw [← invRoot_apply x2 p]
  generalize k0_pay9 x2 = r
  pointwise

theorem scaled_apply (p : Fin 256) (q : Fin 1024) :
    (k0_pay13 x0 x1 x4 (ix2 p q) : EReal) = prodRow x0 x1 p q * (one + row (M := 1) x4 0 q) := by
  rw [← prod_apply x0 x1 p q]
  unfold k0_pay13
  generalize k0_pay8 x0 x1 = d
  pointwise

theorem hatGrad_apply (p : Fin 256) (q : Fin 1024) : (k0_pay15 x0 x1 x3 x4 (ix2 p q) : EReal)
    = hatGrad (row (M := 1) x3 0) (row (M := 1) x4 0) (prodRow x0 x1 p) q := by
  unfold hatGrad
  rw [← scaled_apply x0 x1 x4 p q]
  unfold k0_pay15
  generalize k0_pay13 x0 x1 x4 = d
  pointwise

/-- The block of the stream's gradient, at an element. -/
theorem grad_apply (p : Fin 256) (q : Fin 1024) :
    (k0_pay1 (k0_pay9 x2) (k0_pay15 x0 x1 x3 x4) (k0_pay16 x0 x1 x2 x3 x4) x5 (ix2 p q) : EReal)
      = x5 (ix2 p q) + rowGrad (row (M := 256) x2 p)
          (hatGrad (row (M := 1) x3 0) (row (M := 1) x4 0) (prodRow x0 x1 p)) q := by
  unfold rowGrad
  simp only [← hat_apply x2, ← hatGrad_apply x0 x1 x3 x4, ← invRoot_apply x2]
  unfold k0_pay1 k0_pay16
  generalize k0_pay9 x2 = r
  generalize k0_pay10 x2 = a
  generalize k0_pay15 x0 x1 x3 x4 = b
  pointwise

/-- The blocks' terms of the three sums over rows. -/
theorem shift_apply (q : Fin 1024) : (k0_pay11 x0 x1 (ix2 0 q) : EReal) = ∑ p : Fin 256, prodRow x0 x1 p q := by
  simp only [← prod_apply]
  unfold k0_pay11
  generalize k0_pay8 x0 x1 = d
  pointwise

theorem scale_apply (q : Fin 1024) : (k0_pay12 x0 x1 x2 x3 (ix2 0 q) : EReal)
    = ∑ p : Fin 256, prodRow x0 x1 p q * (hat (row (M := 256) x2 p) q * row (M := 1) x3 0 q) := by
  simp only [← prod_apply, ← hat_apply x2]
  unfold k0_pay12
  generalize k0_pay8 x0 x1 = d
  generalize k0_pay10 x2 = a
  pointwise

theorem weight_apply (q : Fin 1024) : (k0_pay14 x0 x1 x2 x4 (ix2 0 q) : EReal)
    = ∑ p : Fin 256, prodRow x0 x1 p q * (one + row (M := 1) x4 0 q) * hat (row (M := 256) x2 p) q := by
  simp only [← scaled_apply x0 x1 x4, ← hat_apply x2]
  unfold k0_pay14
  generalize k0_pay13 x0 x1 x4 = d
  generalize k0_pay10 x2 = a
  pointwise

end Block

variable (m : (ℓ : Loc nD τ sig) → Buf (Elt Ideal) ℓ)

/-- The six arrays on device `c`: the projection's gradient, its weight, the stream, the norm's weight, the scale, and the
    gradient that comes past the norm. -/
abbrev dab (c : Dev nD) : (⟨2, ![8192, 5632]⟩ : Shape).Idx → EReal := m ((c : Thread nD τ).loc main_arg0)
abbrev upW (c : Dev nD) : (⟨2, ![1024, 5632]⟩ : Shape).Idx → EReal := m ((c : Thread nD τ).loc main_arg1)
abbrev stream (c : Dev nD) : (⟨2, ![8192, 1024]⟩ : Shape).Idx → EReal := m ((c : Thread nD τ).loc main_arg2)
abbrev normW (c : Dev nD) : (⟨2, ![1, 1024]⟩ : Shape).Idx → EReal := m ((c : Thread nD τ).loc main_arg3)
abbrev scale (c : Dev nD) : (⟨2, ![1, 1024]⟩ : Shape).Idx → EReal := m ((c : Thread nD τ).loc main_arg4)
abbrev past (c : Dev nD) : (⟨2, ![8192, 1024]⟩ : Shape).Idx → EReal := m ((c : Thread nD τ).loc main_arg5)

/-- The gradient of the modulated row `p`. -/
abbrev du (c : Dev nD) (p : Fin 8192) : Fin 1024 → EReal := fun q => rowRow (dab m c) (upW m c) p q

/-- The row arrays' blocks are block `t` of their rows; the others are whole at every point. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

section Rows

variable (c : Dev nD) (t : Fin cfg0.N) (p : Fin 256) (r : Fin 8192) (h : r.val = t.val * 256 + p.val)
include h

/-- Row `p` of a block at point `t` is row `256 * t + p` of its array. -/
theorem du_eq : prodRow (iblk m c 0 t) (iblk m c 1 t) p = du m c r := by
  obtain ⟨⟨e0, f0⟩, ⟨e1, f1⟩, -⟩ := index_facts t
  funext q
  refine Finset.sum_congr rfl fun k _ => congrArg₂ (· * ·) (at2 (dab m c) _ _ ?_ ?_) (at2 (upW m c) _ _ ?_ ?_)
  · show win0_0.index t 0 * 256 + 1 * p.val = r.val; rw [e0]; omega
  · show win0_0.index t 1 * 5632 + 1 * k.val = k.val; rw [f0]; omega
  · show win0_1.index t 0 * 1024 + 1 * q.val = q.val; rw [e1]; omega
  · show win0_1.index t 1 * 5632 + 1 * k.val = k.val; rw [f1]; omega

theorem stream_eq : row (M := 256) (iblk m c 2 t) p = row (stream m c) r := by
  obtain ⟨-, -, ⟨e2, f2⟩, -⟩ := index_facts t
  funext k
  refine at2 (stream m c) _ _ ?_ ?_
  · show win0_2.index t 0 * 256 + 1 * p.val = r.val; rw [e2]; omega
  · show win0_2.index t 1 * 1024 + 1 * k.val = k.val; rw [f2]; omega

theorem past_eq (q : Fin 1024) : (iblk m c 5 t (ix2 p q) : EReal) = past m c (ix2 r q) := by
  obtain ⟨-, -, -, -, -, ⟨e5, f5⟩, -⟩ := index_facts t
  refine at2 (past m c) _ _ ?_ ?_
  · show win0_5.index t 0 * 256 + 1 * p.val = r.val; rw [e5]; omega
  · show win0_5.index t 1 * 1024 + 1 * q.val = q.val; rw [f5]; omega

end Rows

theorem normW_eq (c : Dev nD) (t : Fin cfg0.N) : row (M := 1) (iblk m c 3 t) 0 = row (normW m c) 0 := by
  obtain ⟨-, -, -, ⟨e3, f3⟩, -⟩ := index_facts t
  funext k
  refine at2 (normW m c) _ _ ?_ ?_
  · show win0_3.index t 0 * 1 + 1 * 0 = 0; rw [e3]
  · show win0_3.index t 1 * 1024 + 1 * k.val = k.val; rw [f3]; omega

theorem scale_eq (c : Dev nD) (t : Fin cfg0.N) : row (M := 1) (iblk m c 4 t) 0 = row (scale m c) 0 := by
  obtain ⟨-, -, -, -, ⟨e4, f4⟩, -⟩ := index_facts t
  funext k
  refine at2 (scale m c) _ _ ?_ ?_
  · show win0_4.index t 0 * 1 + 1 * 0 = 0; rw [e4]
  · show win0_4.index t 1 * 1024 + 1 * k.val = k.val; rw [f4]; omega

/-- The stream's gradient at every point: the first point and the later ones compute the same block. -/
theorem grad_at (c : Dev nD) (t : Fin cfg0.N) (y : S256x1024.Idx) : ((outsAt0 m c t.val t.isLt).1 y : EReal)
    = k0_pay1 (k0_pay9 (iblk m c 2 t)) (k0_pay15 (iblk m c 0 t) (iblk m c 1 t) (iblk m c 3 t) (iblk m c 4 t))
        (k0_pay16 (iblk m c 0 t) (iblk m c 1 t) (iblk m c 2 t) (iblk m c 3 t) (iblk m c 4 t)) (iblk m c 5 t) y := by
  by_cases h0 : t.val % 32 = 0
  · rw [outsAt0_A m c t h0]
    frame_out
  · rw [outsAt0_B m c t h0]
    frame_out

theorem out6 (c : Dev nD) : (dats m 0 c).arrAt 6 cfg0.N = fun i : (⟨2, ![8192, 1024]⟩ : Shape).Idx => past m c i
    + rowGrad (row (stream m c) (i 0)) (hatGrad (row (normW m c) 0) (row (scale m c) 0) (du m c (i 0))) (i 1) := by
  refine (dats m 0 c).arrAt_eq_of_covers 6 _ (by decide +kernel) fun t hf y => ?_
  blk_simp
  obtain ⟨-, -, -, -, -, -, ⟨e6, f6⟩, -⟩ := index_facts t
  have hr : ((win0_6.blk t).view.emb y 0).val = t.val * 256 + (y 0).val := by
    show win0_6.index t 0 * 256 + 1 * (y 0).val = _; rw [e6]; omega
  have hq : (win0_6.blk t).view.emb y 1 = y 1 := Fin.ext (by
    show win0_6.index t 1 * 1024 + 1 * (y 1).val = _; rw [f6]; omega)
  have hy := past_eq m c t (y 0) _ hr (y 1)
  have hg := grad_apply (iblk m c 0 t) (iblk m c 1 t) (iblk m c 2 t) (iblk m c 3 t) (iblk m c 4 t) (iblk m c 5 t) (y 0) (y 1)
  rw [hy, normW_eq, scale_eq, du_eq m c t (y 0) _ hr, stream_eq m c t (y 0) _ hr, ← hq] at hg
  rw [after0_6, grad_at]
  rw [hq, ix2_eta, ← hq, ix2_eta] at hg
  exact hg

/-- The last point. -/
@[irreducible] def lastPoint : Fin cfg0.N := ⟨31, by rw [show cfg0.N = 32 from N_0]; omega⟩

theorem lastPoint_val : lastPoint.val + 1 = cfg0.N := by
  unfold lastPoint
  exact N_0.symm

/-- The three sums over rows. -/
theorem out7 (c : Dev nD) : (dats m 0 c).arrAt 7 cfg0.N = fun j : (⟨2, ![1, 1024]⟩ : Shape).Idx =>
    ∑ p : Fin 8192, du m c p (j 1) * (one + row (scale m c) 0 (j 1)) * hat (row (stream m c) p) (j 1) := by
  refine (dats m 0 c).arrAt_eq_of_after_last 7 lastPoint (by decide +kernel) _ fun j => ?_
  blk_simp
  rw [after0_7]
  refine (sum_blocks N_0 (fun n hn => (outsAt0 m c n hn).2.1) (fun t => k0_pay14 (iblk m c 0 t) (iblk m c 1 t) (iblk m c 2 t) (iblk m c 4 t))
    (fun p q => du m c p q * (one + row (scale m c) 0 q) * hat (row (stream m c) p) q) (fun t q => ?_) (fun t h0 y => ?_)
    (fun t h0 y => ?_) lastPoint lastPoint_val _).trans rfl
  · rw [weight_apply, scale_eq]
    exact Finset.sum_congr rfl fun p _ => by rw [du_eq m c t p (rowAt N_0 t p) rfl, stream_eq m c t p (rowAt N_0 t p) rfl]
  · rw [outsAt0_A m c t h0]
    frame_out
    unfold k0_pay5 k0_pay2
    generalize k0_pay14 (F := Ideal) _ _ _ _ = d
    pointwise
  · rw [outsAt0_B m c t h0]
    frame_out
    unfold k0_pay5
    generalize k0_pay14 (F := Ideal) _ _ _ _ = d
    pointwise

theorem out8 (c : Dev nD) : (dats m 0 c).arrAt 8 cfg0.N = fun j : (⟨2, ![1, 1024]⟩ : Shape).Idx =>
    ∑ p : Fin 8192, du m c p (j 1) * (hat (row (stream m c) p) (j 1) * row (normW m c) 0 (j 1)) := by
  refine (dats m 0 c).arrAt_eq_of_after_last 8 lastPoint (by decide +kernel) _ fun j => ?_
  blk_simp
  rw [after0_8]
  refine (sum_blocks N_0 (fun n hn => (outsAt0 m c n hn).2.2.1) (fun t => k0_pay12 (iblk m c 0 t) (iblk m c 1 t) (iblk m c 2 t) (iblk m c 3 t))
    (fun p q => du m c p q * (hat (row (stream m c) p) q * row (normW m c) 0 q)) (fun t q => ?_) (fun t h0 y => ?_)
    (fun t h0 y => ?_) lastPoint lastPoint_val _).trans rfl
  · rw [scale_apply, normW_eq]
    exact Finset.sum_congr rfl fun p _ => by rw [du_eq m c t p (rowAt N_0 t p) rfl, stream_eq m c t p (rowAt N_0 t p) rfl]
  · rw [outsAt0_A m c t h0]
    frame_out
    unfold k0_pay6 k0_pay3
    generalize k0_pay12 (F := Ideal) _ _ _ _ = d
    pointwise
  · rw [outsAt0_B m c t h0]
    frame_out
    unfold k0_pay6
    generalize k0_pay12 (F := Ideal) _ _ _ _ = d
    pointwise

theorem out9 (c : Dev nD) : (dats m 0 c).arrAt 9 cfg0.N = fun j : (⟨2, ![1, 1024]⟩ : Shape).Idx =>
    ∑ p : Fin 8192, du m c p (j 1) := by
  refine (dats m 0 c).arrAt_eq_of_after_last 9 lastPoint (by decide +kernel) _ fun j => ?_
  blk_simp
  rw [after0_9]
  refine (sum_blocks N_0 (fun n hn => (outsAt0 m c n hn).2.2.2) (fun t => k0_pay11 (iblk m c 0 t) (iblk m c 1 t))
    (fun p q => du m c p q) (fun t q => ?_) (fun t h0 y => ?_)
    (fun t h0 y => ?_) lastPoint lastPoint_val _).trans rfl
  · rw [shift_apply]
    exact Finset.sum_congr rfl fun p _ => by rw [du_eq m c t p (rowAt N_0 t p) rfl]
  · rw [outsAt0_A m c t h0]
    frame_out
    unfold k0_pay7 k0_pay4
    generalize k0_pay11 (F := Ideal) _ _ = d
    pointwise
  · rw [outsAt0_B m c t h0]
    frame_out
    unfold k0_pay7
    generalize k0_pay11 (F := Ideal) _ _ = d
    pointwise

end Cert.Kernel3Ideal.Hand

namespace Cert.Proof

open Cert.Common Cert.NormBwd
open Idealize.ShloMosaic Idealize.ShloMosaic.TcCoe Idealize.SL.Sem
open scoped BigOperators

section Reference

open Cert.Reference3Ideal.Read

variable (x0 : (⟨2, ![8192, 5632]⟩ : Shape).Idx → EReal) (x1 : (⟨2, ![1024, 5632]⟩ : Shape).Idx → EReal)
  (x2 x5 : (⟨2, ![8192, 1024]⟩ : Shape).Idx → EReal) (x3 x4 : (⟨2, ![1, 1024]⟩ : Shape).Idx → EReal)

theorem reference3_spread (p : Fin 8192) : (val_main_v9 (F := Ideal) x2 (ix2 p 0) : EReal) = spread (row x2 p) := by
  unfold val_main_v9 val_main_v8 val_main_v7 val_main_v6 val_main_v5 val_main_v4 val_main_v3 val_main_cst_0 val_main_cst_1
    val_main_cst_2 spread row
  pointwise

theorem reference3_hat (p : Fin 8192) (q : Fin 1024) : (val_main_v15 (F := Ideal) x2 (ix2 p q) : EReal) = hat (row x2 p) q := by
  unfold hat invRoot
  rw [← reference3_spread x2 p]
  unfold val_main_v15 val_main_v14 val_main_v10
  generalize val_main_v9 (F := Ideal) x2 = v
  pointwise

theorem reference3_du (p : Fin 8192) (q : Fin 1024) :
    (val_main_v25 (F := Ideal) x0 x1 (ix2 p q) : EReal) = rowRow x0 x1 p q := by
  unfold val_main_v25 val_main_v1 val_main_v0 rowRow
  pointwise

theorem reference3_scaled (p : Fin 8192) (q : Fin 1024) :
    (val_main_v32 (F := Ideal) x0 x1 x4 (ix2 p q) : EReal) = rowRow x0 x1 p q * (one + row x4 0 q) := by
  rw [← reference3_du]
  unfold val_main_v32 val_main_v31 val_main_v19 val_main_v18 val_main_cst_4
  generalize val_main_v25 (F := Ideal) x0 x1 = d
  pointwise

theorem reference3_hatGrad (p : Fin 8192) (q : Fin 1024) : (val_main_v37 (F := Ideal) x0 x1 x3 x4 (ix2 p q) : EReal)
    = hatGrad (row x3 0) (row x4 0) (fun k => rowRow x0 x1 p k) q := by
  unfold hatGrad
  rw [← reference3_scaled]
  unfold val_main_v37 val_main_v36
  generalize val_main_v32 (F := Ideal) x0 x1 x4 = d
  pointwise

theorem reference3_share (p : Fin 8192) (q : Fin 1024) : (val_main_v48 (F := Ideal) x0 x1 x2 x3 x4 (ix2 p q) : EReal)
    = share (row x2 p) (hatGrad (row x3 0) (row x4 0) fun k => rowRow x0 x1 p k) := by
  unfold share invRoot
  simp only [← reference3_hatGrad, ← reference3_spread]
  unfold val_main_v48 val_main_v47 val_main_v46 val_main_v45 val_main_v44 val_main_v40 val_main_v39 val_main_v38 val_main_v13
    val_main_v12 val_main_v11 val_main_v10 val_main_cst_3 val_main_cst_8 val_main_cst_9 val_main_cst_10
  generalize val_main_v9 (F := Ideal) x2 = v
  generalize val_main_v37 (F := Ideal) x0 x1 x3 x4 = a
  pointwise
  exact Fin.sum_univ_one _

theorem reference3_grad (p : Fin 8192) (q : Fin 1024) : (val_main_v52 (F := Ideal) x0 x1 x2 x3 x4 x5 (ix2 p q) : EReal)
    = x5 (ix2 p q) + rowGrad (row x2 p) (hatGrad (row x3 0) (row x4 0) fun k => rowRow x0 x1 p k) q := by
  rw [rowGrad_eq, ← reference3_share x0 x1 x2 x3 x4 p q, ← reference3_hatGrad x0 x1 x3 x4 p q]
  unfold invRoot
  rw [← reference3_spread]
  unfold val_main_v52 val_main_v51 val_main_v50 val_main_v49 val_main_v43 val_main_v42 val_main_v41 val_main_v10
  generalize val_main_v9 (F := Ideal) x2 = v
  generalize val_main_v37 (F := Ideal) x0 x1 x3 x4 = a
  generalize val_main_v48 (F := Ideal) x0 x1 x2 x3 x4 = b
  pointwise

theorem reference3_weight (q : Fin 1024) : (val_main_v35 (F := Ideal) x0 x1 x2 x4 (ix2 0 q) : EReal)
    = ∑ p : Fin 8192, rowRow x0 x1 p q * (one + row x4 0 q) * hat (row x2 p) q := by
  simp only [← reference3_scaled, ← reference3_hat]
  simp only [mul_comm (val_main_v32 (F := Ideal) x0 x1 x4 _ : EReal)]
  unfold val_main_v35 val_main_v34 val_main_v33 val_main_cst_7
  generalize val_main_v32 (F := Ideal) x0 x1 x4 = d
  generalize val_main_v15 (F := Ideal) x2 = a
  pointwise

theorem reference3_scale (q : Fin 1024) : (val_main_v30 (F := Ideal) x0 x1 x2 x3 (ix2 0 q) : EReal)
    = ∑ p : Fin 8192, rowRow x0 x1 p q * (hat (row x2 p) q * row x3 0 q) := by
  simp only [← reference3_du, ← reference3_hat]
  simp only [mul_comm (val_main_v25 (F := Ideal) x0 x1 _ : EReal)]
  unfold val_main_v30 val_main_v29 val_main_v28 val_main_v17 val_main_v16 val_main_cst_6
  generalize val_main_v25 (F := Ideal) x0 x1 = d
  generalize val_main_v15 (F := Ideal) x2 = a
  pointwise

theorem reference3_shift (q : Fin 1024) :
    (val_main_v27 (F := Ideal) x0 x1 (ix2 0 q) : EReal) = ∑ p : Fin 8192, rowRow x0 x1 p q := by
  simp only [← reference3_du]
  unfold val_main_v27 val_main_v26 val_main_cst_5
  generalize val_main_v25 (F := Ideal) x0 x1 = d
  pointwise

/-- The four results, as arrays. -/
theorem reference3_grads : val_main_v52 (F := Ideal) x0 x1 x2 x3 x4 x5 = fun i : (⟨2, ![8192, 1024]⟩ : Shape).Idx =>
    (x5 i + rowGrad (row x2 (i 0)) (hatGrad (row x3 0) (row x4 0) fun k => rowRow x0 x1 (i 0) k) (i 1) : EReal) := funext fun i => by
  have e := reference3_grad x0 x1 x2 x5 x3 x4 (i 0) (i 1)
  rw [ix2_eta] at e
  exact e
theorem reference3_weights : val_main_v35 (F := Ideal) x0 x1 x2 x4 = fun j : (⟨2, ![1, 1024]⟩ : Shape).Idx =>
    (∑ p : Fin 8192, rowRow x0 x1 p (j 1) * (one + row x4 0 (j 1)) * hat (row x2 p) (j 1) : EReal) := funext fun j => by
  have e := reference3_weight x0 x1 x2 x4 (j 1)
  rw [row_eta] at e
  exact e
theorem reference3_scales : val_main_v30 (F := Ideal) x0 x1 x2 x3 = fun j : (⟨2, ![1, 1024]⟩ : Shape).Idx =>
    (∑ p : Fin 8192, rowRow x0 x1 p (j 1) * (hat (row x2 p) (j 1) * row x3 0 (j 1)) : EReal) := funext fun j => by
  have e := reference3_scale x0 x1 x2 x3 (j 1)
  rw [row_eta] at e
  exact e
theorem reference3_shifts : val_main_v27 (F := Ideal) x0 x1 = fun j : (⟨2, ![1, 1024]⟩ : Shape).Idx =>
    (∑ p : Fin 8192, rowRow x0 x1 p (j 1) : EReal) := funext fun j => by
  have e := reference3_shift x0 x1 (j 1)
  rw [row_eta] at e
  exact e

end Reference

/-- `ffn_bwd_up` equals its reference. -/
theorem algebraic3 : Cert.algebraic_Kernel3Ideal_Reference3Ideal := by
  intro m g m' g' _ hargs
  have run := Cert.Kernel3Ideal.Value.run_blocks (F := Ideal) m g
  simp only [Cert.Kernel3Ideal.Hand.out6, Cert.Kernel3Ideal.Hand.out7, Cert.Kernel3Ideal.Hand.out8, Cert.Kernel3Ideal.Hand.out9] at run
  refine ⟨_, _, _, _, run, ?_⟩
  refine (θ_run Cert.Reference3Ideal.defs _ _).mono (fun r h c => ?_) (Cert.Reference3Ideal.Value.run m' g')
  obtain ⟨h0, h1, h2, h3, keep⟩ := h c
  obtain ⟨a0, a1, a2, a3, a4, a5⟩ := hargs c
  rw [Cert.Reference3Ideal.Read.val_main_v52_eq, a0, a1, a2, a3, a4, a5] at h0
  rw [a0, a1, a2, a4] at h1
  rw [a0, a1, a2, a3] at h2
  rw [a0, a1] at h3
  exact ⟨h0.trans (reference3_grads _ _ _ _ _ _), h1.trans (reference3_weights _ _ _ _), h2.trans (reference3_scales _ _ _ _),
    h3.trans (reference3_shifts _ _), keep⟩

end Cert.Proof

end
-- ==== Proof.DwFfnDown.lean ====
/-
  The value of `dw_ffn_down`: the gradient of f @ w_down with respect to w_down.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel5Ideal.Value
public import proofs.«01_k».proof.Proof.Gen.Kernel5Ideal.Skeleton
public import proofs.«01_k».proof.Proof.Gen.Reference5Ideal.Run
public import proofs.«01_k».proof.Proof.Gen.Reference5Ideal.Read

@[expose] public section

noncomputable section

namespace Cert.Kernel5Ideal.Hand

open Cert.Kernel5Ideal Cert.Kernel5Ideal.Gen Cert.Kernel5Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x0 : Vec F S1024x1408 .bf16) (x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, h6.read_unread, View.ld_unit_zero (S := S1024x1408) hz,
    View.ld_unit_zero (S := S1024x1024) hz, View.ld_unit_zero (S := S1408x1024) hz]

/-- A later point adds its block product to what the scratch held. -/
theorem next_scratch (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x0 : Vec F S1024x1408 .bf16) (x1 : Vec F S1024x1024 .bf16) (xs : Vec F S1408x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1408) hz,
    View.ld_unit_zero (S := S1024x1024) hz, View.ld_unit_zero (S := S1408x1024) hz]

/-- The last point rounds the sum into the result's block. -/
theorem last_out (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x0 : Vec F S1024x1408 .bf16) (x1 : Vec F S1024x1024 .bf16) (xs : Vec F S1408x1024 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1408x1024) _ hz]
  simp only [View.readAt_eq_ld, h3.read_unread, h4.read_unread, h6.read_unread, View.ld_unit_zero (S := S1024x1408) hz,
    View.ld_unit_zero (S := S1024x1024) hz, View.ld_unit_zero (S := S1408x1024) hz]

end Point

variable (m : (ℓ : Loc nD τ sig) → Buf (Elt Ideal) ℓ) (ρ : Dev nD → PrngReg)

/-- The scratch after a point, at an element: what it held plus the sum over the block's 1024 rows. -/
theorem step_apply (xs : Vec Ideal S1408x1024 .f32) (x0 : Vec Ideal S1024x1408 .bf16) (x1 : Vec Ideal S1024x1024 .bf16)
    (p : Fin 1408) (q : Fin 1024) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1408x1024.Idx) : (k0_pay1 (F := Ideal) : FVec Ideal S1408x1024 .f32) i = (0 : EReal) := by
  unfold k0_pay1
  pointwise

/-! ## The blocks -/

/-- The two arrays on device `c`. -/
abbrev lhs (c : Dev nD) : (⟨2, ![8192, 2816]⟩ : Shape).Idx → EReal := m ((c : Thread nD τ).loc main_arg0)
abbrev rhs (c : Dev nD) : (⟨2, ![8192, 1024]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1408]⟩ : Shape).Idx → EReal := iblk m c 0 t
abbrev rblk (c : Dev nD) (t : Fin cfg0.N) : (⟨2, ![1024, 1024]⟩ : Shape).Idx → EReal := iblk m c 1 t

/-- A row's product of the two blocks is that row's product of the two arrays. -/
theorem block_prod (c : Dev nD) (t : Fin cfg0.N) (p : Fin 1408) (q : Fin 1024) (r : Fin 1024) :
    lblk m c t (ix2 r p) * rblk m c t (ix2 r q)
      = colProd (lhs m c) (rhs m c) (t.val / 8 / 1 * 1408 + p.val) (t.val / 8 % 1 * 1024 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1408 + 1 * p.val = _; rw [e1]; omega
  · show win0_1.index t 0 * 1024 + 1 * r.val = _; rw [e2]; omega
  · show win0_1.index t 1 * 1024 + 1 * q.val = _; rw [e3]; omega

/-! ## The accumulation -/

/-- At its last point run `j` writes the sum over all the rows: seven points leave the first seven blocks' sum in the
    scratch, and the eighth adds its own. -/
theorem out_eq (c : Dev nD) (p : Fin 1408) (q : Fin 1024) (j : ℕ) (h : 8 * j + 7 < cfg0.N) :
    ((outsAt0 m c (8 * j + 7) h).1 (ix2 p q) : EReal)
      = ∑ k ∈ Finset.range 8192,
          colProd (lhs m c) (rhs m c) (j / 1 * 1408 + p.val) (j % 1 * 1024 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1408 + p.val) (j % 1 * 1024 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1408 + p.val) (j % 1 * 1024 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 2816) (q : Fin 1024) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1408) + q.val / 1024) + 7 := by
    show 8 * (1 * (p.val / 1408 - 0) + 1 * (q.val / 1024 - 0)) + 7 = _
    omega
  have hb : 8 * (1 * (p.val / 1408) + q.val / 1024) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1408, Nat.mod_lt _ (by decide)⟩ ⟨q.val % 1024, Nat.mod_lt _ (by decide)⟩ from
    funext fun a => match a with
      | ⟨0, _⟩ => rfl
      | ⟨1, _⟩ => rfl]
  simp only [hpt]
  rw [out_eq m c _ _ _ hb]
  dsimp only
  rw [show (1 * (p.val / 1408) + q.val / 1024) / 1 * 1408 + p.val % 1408 = p.val from by omega,
    show (1 * (p.val / 1408) + q.val / 1024) % 1 * 1024 + q.val % 1024 = q.val from by omega]

end Cert.Kernel5Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference5_eq (x0 : (⟨2, ![8192, 2816]⟩ : Shape).Idx → EReal) (x1 : (⟨2, ![8192, 1024]⟩ : Shape).Idx → EReal)
    (p : Fin 2816) (q : Fin 1024) :
    (Cert.Reference5Ideal.Read.val_main_v4 (F := Ideal) x0 x1 (ix2 p q) : EReal) = ∑ k : Fin 8192, x0 (ix2 k p) * x1 (ix2 k q) := by
  rw [Cert.Reference5Ideal.Read.val_main_v4_apply, Ideal.truncf_def, Cert.Reference5Ideal.Read.val_main_v3_apply,
    Cert.Reference5Ideal.Read.val_main_v2_apply]
  refine Finset.sum_congr rfl fun k _ => ?_
  rw [Cert.Reference5Ideal.Read.val_main_v1_apply, Cert.Reference5Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_ffn_down` equals its reference. -/
theorem algebraic5 : Cert.algebraic_Kernel5Ideal_Reference5Ideal := by
  intro m g m' g' _ hargs
  refine ⟨fun c => Cert.Kernel5Ideal.Value.G2 m c, Cert.Kernel5Ideal.Value.run m g, ?_⟩
  refine (θ_run Cert.Reference5Ideal.defs _ _).mono (fun r h c => ⟨?_, (h c).2.1, (h c).2.2⟩) (Cert.Reference5Ideal.Value.run m' g')
  refine ((h c).1.trans (Cert.Reference5Ideal.Read.val_main_v4_eq (F := Ideal) _ _)).trans ?_
  rw [(hargs c).1, (hargs c).2]
  funext i
  rw [eq_ix2 i]
  exact (reference5_eq _ _ _ _).trans (Cert.Kernel5Ideal.Hand.result_eq m c _ _).symm

end Cert.Proof

end
-- ==== Proof.DwOut.lean ====
/-
  The value of `dw_out`: the gradient of merged @ w_out with respect to w_out.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel6Ideal.Value
public import proofs.«01_k».proof.Proof.Gen.Kernel6Ideal.Skeleton
public import proofs.«01_k».proof.Proof.Gen.Reference6Ideal.Run
public import proofs.«01_k».proof.Proof.Gen.Reference6Ideal.Read

@[expose] public section

noncomputable section

namespace Cert.Kernel6Ideal.Hand

open Cert.Kernel6Ideal Cert.Kernel6Ideal.Gen Cert.Kernel6Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 : Vec F S1024x1024 .bf16) (x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, h6.read_unread, View.ld_unit_zero (S := S1024x1024) hz,
    View.ld_unit_zero (S := S1024x1024) hz, View.ld_unit_zero (S := S1024x1024) hz]

/-- A later point adds its block product to what the scratch held. -/
theorem next_scratch (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x0 : Vec F S1024x1024 .bf16) (x1 : Vec F S1024x1024 .bf16) (xs : Vec F S1024x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x1024) hz, View.ld_unit_zero (S := S1024x1024) hz]

/-- The last point rounds the sum into the result's block. -/
theorem last_out (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 : Vec F S1024x1024 .bf16) (x1 : Vec F S1024x1024 .bf16) (xs : Vec F S1024x1024 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x1024) _ hz]
  simp only [View.readAt_eq_ld, h3.read_unread, h4.read_unread, h6.read_unread, View.ld_unit_zero (S := S1024x1024) hz,
    View.ld_unit_zero (S := S1024x1024) hz, View.ld_unit_zero (S := S1024x1024) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x1024 .f32) (x0 : Vec Ideal S1024x1024 .bf16) (x1 : Vec Ideal S1024x1024 .bf16)
    (p : Fin 1024) (q : Fin 1024) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x1024.Idx) : (k0_pay1 (F := Ideal) : FVec Ideal S1024x1024 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 1024]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 1024]⟩ : Shape).Idx → EReal := iblk m c 1 t

/-- A row's product of the two blocks is that row's product of the two arrays. -/
theorem block_prod (c : Dev nD) (t : Fin cfg0.N) (p : Fin 1024) (q : Fin 1024) (r : Fin 1024) :
    lblk m c t (ix2 r p) * rblk m c t (ix2 r q)
      = colProd (lhs m c) (rhs m c) (t.val / 8 / 1 * 1024 + p.val) (t.val / 8 % 1 * 1024 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 1024 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 1024) (j : ℕ) (h : 8 * j + 7 < cfg0.N) :
    ((outsAt0 m c (8 * j + 7) h).1 (ix2 p q) : EReal)
      = ∑ k ∈ Finset.range 8192,
          colProd (lhs m c) (rhs m c) (j / 1 * 1024 + p.val) (j % 1 * 1024 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1024 + p.val) (j % 1 * 1024 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1024 + p.val) (j % 1 * 1024 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 1024) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1024) + q.val / 1024) + 7 := by
    show 8 * (1 * (p.val / 1024 - 0) + 1 * (q.val / 1024 - 0)) + 7 = _
    omega
  have hb : 8 * (1 * (p.val / 1024) + q.val / 1024) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 1024, Nat.mod_lt _ (by decide)⟩ from
    funext fun a => match a with
      | ⟨0, _⟩ => rfl
      | ⟨1, _⟩ => rfl]
  simp only [hpt]
  rw [out_eq m c _ _ _ hb]
  dsimp only
  rw [show (1 * (p.val / 1024) + q.val / 1024) / 1 * 1024 + p.val % 1024 = p.val from by omega,
    show (1 * (p.val / 1024) + q.val / 1024) % 1 * 1024 + q.val % 1024 = q.val from by omega]

end Cert.Kernel6Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference6_eq (x0 : (⟨2, ![8192, 1024]⟩ : Shape).Idx → EReal) (x1 : (⟨2, ![8192, 1024]⟩ : Shape).Idx → EReal)
    (p : Fin 1024) (q : Fin 1024) :
    (Cert.Reference6Ideal.Read.val_main_v4 (F := Ideal) x0 x1 (ix2 p q) : EReal) = ∑ k : Fin 8192, x0 (ix2 k p) * x1 (ix2 k q) := by
  rw [Cert.Reference6Ideal.Read.val_main_v4_apply, Ideal.truncf_def, Cert.Reference6Ideal.Read.val_main_v3_apply,
    Cert.Reference6Ideal.Read.val_main_v2_apply]
  refine Finset.sum_congr rfl fun k _ => ?_
  rw [Cert.Reference6Ideal.Read.val_main_v1_apply, Cert.Reference6Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_out` equals its reference. -/
theorem algebraic6 : Cert.algebraic_Kernel6Ideal_Reference6Ideal := by
  intro m g m' g' _ hargs
  refine ⟨fun c => Cert.Kernel6Ideal.Value.G2 m c, Cert.Kernel6Ideal.Value.run m g, ?_⟩
  refine (θ_run Cert.Reference6Ideal.defs _ _).mono (fun r h c => ⟨?_, (h c).2.1, (h c).2.2⟩) (Cert.Reference6Ideal.Value.run m' g')
  refine ((h c).1.trans (Cert.Reference6Ideal.Read.val_main_v4_eq (F := Ideal) _ _)).trans ?_
  rw [(hargs c).1, (hargs c).2]
  funext i
  rw [eq_ix2 i]
  exact (reference6_eq _ _ _ _).trans (Cert.Kernel6Ideal.Hand.result_eq m c _ _).symm

end Cert.Proof

end
-- ==== Proof.DwAOut.lean ====
/-
  The value of `dw_a_out`: the gradient of ya @ w_a_out with respect to w_a_out.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel7Ideal.Value
public import proofs.«01_k».proof.Proof.Gen.Kernel7Ideal.Skeleton
public import proofs.«01_k».proof.Proof.Gen.Reference7Ideal.Run
public import proofs.«01_k».proof.Proof.Gen.Reference7Ideal.Read

@[expose] public section

noncomputable section

namespace Cert.Kernel7Ideal.Hand

open Cert.Kernel7Ideal Cert.Kernel7Ideal.Gen Cert.Kernel7Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x512 .bf16) (h3 : a3.IsWhole)
    (a4 : Memref sig .tc .vmem S1024x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x0 : Vec F S1024x512 .bf16) (x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, h6.read_unread, View.ld_unit_zero (S := S1024x512) hz,
    View.ld_unit_zero (S := S1024x1024) hz, View.ld_unit_zero (S := S512x1024) hz]

/-- A later point adds its block product to what the scratch held. -/
theorem next_scratch (c : Dev nD) (i : grid0.Coords) (a3 : Memref sig .tc .vmem S1024x512 .bf16) (h3 : a3.IsWhole)
    (a4 : Memref sig .tc .vmem S1024x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : ¬cond0_1 i)
    (x0 : Vec F S1024x512 .bf16) (x1 : Vec F S1024x1024 .bf16) (xs : Vec F S512x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz,
    View.ld_unit_zero (S := S1024x1024) hz, View.ld_unit_zero (S := S512x1024) hz]

/-- The last point rounds the sum into the result's block. -/
theorem last_out (c : Dev nD) (i : grid0.Coords) (a3 : Memref sig .tc .vmem S1024x512 .bf16) (h3 : a3.IsWhole)
    (a4 : Memref sig .tc .vmem S1024x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x0 : Vec F S1024x512 .bf16) (x1 : Vec F S1024x1024 .bf16) (xs : Vec F S512x1024 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S512x1024) _ hz]
  simp only [View.readAt_eq_ld, h3.read_unread, h4.read_unread, h6.read_unread, View.ld_unit_zero (S := S1024x512) hz,
    View.ld_unit_zero (S := S1024x1024) hz, View.ld_unit_zero (S := S512x1024) hz]

end Point

variable (m : (ℓ : Loc nD τ sig) → Buf (Elt Ideal) ℓ) (ρ : Dev nD → PrngReg)

/-- The scratch after a point, at an element: what it held plus the sum over the block's 1024 rows. -/
theorem step_apply (xs : Vec Ideal S512x1024 .f32) (x0 : Vec Ideal S1024x512 .bf16) (x1 : Vec Ideal S1024x1024 .bf16)
    (p : Fin 512) (q : Fin 1024) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S512x1024.Idx) : (k0_pay1 (F := Ideal) : FVec Ideal S512x1024 .f32) i = (0 : EReal) := by
  unfold k0_pay1
  pointwise

/-! ## The blocks -/

/-- The two arrays on device `c`. -/
abbrev lhs (c : Dev nD) : (⟨2, ![8192, 512]⟩ : Shape).Idx → EReal := m ((c : Thread nD τ).loc main_arg0)
abbrev rhs (c : Dev nD) : (⟨2, ![8192, 1024]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 512]⟩ : Shape).Idx → EReal := iblk m c 0 t
abbrev rblk (c : Dev nD) (t : Fin cfg0.N) : (⟨2, ![1024, 1024]⟩ : Shape).Idx → EReal := iblk m c 1 t

/-- A row's product of the two blocks is that row's product of the two arrays. -/
theorem block_prod (c : Dev nD) (t : Fin cfg0.N) (p : Fin 512) (q : Fin 1024) (r : Fin 1024) :
    lblk m c t (ix2 r p) * rblk m c t (ix2 r q)
      = colProd (lhs m c) (rhs m c) (t.val / 8 / 1 * 512 + p.val) (t.val / 8 % 1 * 1024 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 512 + 1 * p.val = _; rw [e1]; omega
  · show win0_1.index t 0 * 1024 + 1 * r.val = _; rw [e2]; omega
  · show win0_1.index t 1 * 1024 + 1 * q.val = _; rw [e3]; omega

/-! ## The accumulation -/

/-- At its last point run `j` writes the sum over all the rows: seven points leave the first seven blocks' sum in the
    scratch, and the eighth adds its own. -/
theorem out_eq (c : Dev nD) (p : Fin 512) (q : Fin 1024) (j : ℕ) (h : 8 * j + 7 < cfg0.N) :
    ((outsAt0 m c (8 * j + 7) h).1 (ix2 p q) : EReal)
      = ∑ k ∈ Finset.range 8192,
          colProd (lhs m c) (rhs m c) (j / 1 * 512 + p.val) (j % 1 * 1024 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 512 + p.val) (j % 1 * 1024 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 512 + p.val) (j % 1 * 1024 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 512) (q : Fin 1024) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 512) + q.val / 1024) + 7 := by
    show 8 * (1 * (p.val / 512 - 0) + 1 * (q.val / 1024 - 0)) + 7 = _
    omega
  have hb : 8 * (1 * (p.val / 512) + q.val / 1024) + 7 < cfg0.N := lt_of_lt_of_eq (by omega) N_0.symm
  unfold G2
  rw [dif_pos (hpt ▸ hb), ← outsAt0_sweep m c _ (hpt ▸ hb)]
  rw [show loc2Of (ix2 p q) = ix2 ⟨p.val % 512, Nat.mod_lt _ (by decide)⟩ ⟨q.val % 1024, Nat.mod_lt _ (by decide)⟩ from
    funext fun a => match a with
      | ⟨0, _⟩ => rfl
      | ⟨1, _⟩ => rfl]
  simp only [hpt]
  rw [out_eq m c _ _ _ hb]
  dsimp only
  rw [show (1 * (p.val / 512) + q.val / 1024) / 1 * 512 + p.val % 512 = p.val from by omega,
    show (1 * (p.val / 512) + q.val / 1024) % 1 * 1024 + q.val % 1024 = q.val from by omega]

end Cert.Kernel7Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference7_eq (x0 : (⟨2, ![8192, 512]⟩ : Shape).Idx → EReal) (x1 : (⟨2, ![8192, 1024]⟩ : Shape).Idx → EReal)
    (p : Fin 512) (q : Fin 1024) :
    (Cert.Reference7Ideal.Read.val_main_v4 (F := Ideal) x0 x1 (ix2 p q) : EReal) = ∑ k : Fin 8192, x0 (ix2 k p) * x1 (ix2 k q) := by
  rw [Cert.Reference7Ideal.Read.val_main_v4_apply, Ideal.truncf_def, Cert.Reference7Ideal.Read.val_main_v3_apply,
    Cert.Reference7Ideal.Read.val_main_v2_apply]
  refine Finset.sum_congr rfl fun k _ => ?_
  rw [Cert.Reference7Ideal.Read.val_main_v1_apply, Cert.Reference7Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_a_out` equals its reference. -/
theorem algebraic7 : Cert.algebraic_Kernel7Ideal_Reference7Ideal := by
  intro m g m' g' _ hargs
  refine ⟨fun c => Cert.Kernel7Ideal.Value.G2 m c, Cert.Kernel7Ideal.Value.run m g, ?_⟩
  refine (θ_run Cert.Reference7Ideal.defs _ _).mono (fun r h c => ⟨?_, (h c).2.1, (h c).2.2⟩) (Cert.Reference7Ideal.Value.run m' g')
  refine ((h c).1.trans (Cert.Reference7Ideal.Read.val_main_v4_eq (F := Ideal) _ _)).trans ?_
  rw [(hargs c).1, (hargs c).2]
  funext i
  rw [eq_ix2 i]
  exact (reference7_eq _ _ _ _).trans (Cert.Kernel7Ideal.Hand.result_eq m c _ _).symm

end Cert.Proof

end
-- ==== Proof.DwInQkv.lean ====
/-
  The value of `dw_in_qkv`: the gradient of u @ w_in with respect to the columns of w_in that give q, k and v.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel8Ideal.Value
public import proofs.«01_k».proof.Proof.Gen.Kernel8Ideal.Skeleton
public import proofs.«01_k».proof.Proof.Gen.Reference8Ideal.Run
public import proofs.«01_k».proof.Proof.Gen.Reference8Ideal.Read

@[expose] public section

noncomputable section

namespace Cert.Kernel8Ideal.Hand

open Cert.Kernel8Ideal Cert.Kernel8Ideal.Gen Cert.Kernel8Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x3072 .bf16) (h4 : a4.IsWhole) (a5 : Memref sig .tc .vmem S1024x3072 .bf16) (h5 : a5.IsWhole)
    (a6 : Memref sig .tc .vmem S1024x3072 .f32) (h6 : a6.IsWhole) (hc0 : cond0_0 i) (hc1 : ¬cond0_1 i)
    (x0 : Vec F S1024x1024 .bf16) (x1 : Vec F S1024x3072 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x3072) hz, View.readCov_unit_zero (S := S1024x3072) _ hz]
  simp only [View.readAt_eq_ld, h3.read_unread, h4.read_unread, h6.read_unread, View.ld_unit_zero (S := S1024x1024) hz,
    View.ld_unit_zero (S := S1024x3072) hz, View.ld_unit_zero (S := S1024x3072) hz]

/-- A later point adds its block product to what the scratch held. -/
theorem next_scratch (c : Dev nD) (i : grid0.Coords) (a3 : Memref sig .tc .vmem S1024x1024 .bf16) (h3 : a3.IsWhole)
    (a4 : Memref sig .tc .vmem S1024x3072 .bf16) (h4 : a4.IsWhole) (a5 : Memref sig .tc .vmem S1024x3072 .bf16) (h5 : a5.IsWhole)
    (a6 : Memref sig .tc .vmem S1024x3072 .f32) (h6 : a6.IsWhole) (hc0 : ¬cond0_0 i) (hc1 : ¬cond0_1 i)
    (x0 : Vec F S1024x1024 .bf16) (x1 : Vec F S1024x3072 .bf16) (xs : Vec F S1024x3072 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x3072) hz, View.ld_unit_zero (S := S1024x3072) hz]

/-- The last point rounds the sum into the result's block. -/
theorem last_out (c : Dev nD) (i : grid0.Coords) (a3 : Memref sig .tc .vmem S1024x1024 .bf16) (h3 : a3.IsWhole)
    (a4 : Memref sig .tc .vmem S1024x3072 .bf16) (h4 : a4.IsWhole) (a5 : Memref sig .tc .vmem S1024x3072 .bf16) (h5 : a5.IsWhole)
    (a6 : Memref sig .tc .vmem S1024x3072 .f32) (h6 : a6.IsWhole) (hc0 : ¬cond0_0 i) (hc1 : cond0_1 i)
    (x0 : Vec F S1024x1024 .bf16) (x1 : Vec F S1024x3072 .bf16) (xs : Vec F S1024x3072 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x3072) _ hz]
  simp only [View.readAt_eq_ld, h3.read_unread, h4.read_unread, h6.read_unread, View.ld_unit_zero (S := S1024x1024) hz,
    View.ld_unit_zero (S := S1024x3072) hz, View.ld_unit_zero (S := S1024x3072) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x3072 .f32) (x0 : Vec Ideal S1024x1024 .bf16) (x1 : Vec Ideal S1024x3072 .bf16)
    (p : Fin 1024) (q : Fin 3072) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x3072.Idx) : (k0_pay1 (F := Ideal) : FVec Ideal S1024x3072 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 3072]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 3072]⟩ : Shape).Idx → EReal := iblk m c 1 t

/-- A row's product of the two blocks is that row's product of the two arrays. -/
theorem block_prod (c : Dev nD) (t : Fin cfg0.N) (p : Fin 1024) (q : Fin 3072) (r : Fin 1024) :
    lblk m c t (ix2 r p) * rblk m c t (ix2 r q)
      = colProd (lhs m c) (rhs m c) (t.val / 8 / 1 * 1024 + p.val) (t.val / 8 % 1 * 3072 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 3072 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 3072) (j : ℕ) (h : 8 * j + 7 < cfg0.N) :
    ((outsAt0 m c (8 * j + 7) h).1 (ix2 p q) : EReal)
      = ∑ k ∈ Finset.range 8192,
          colProd (lhs m c) (rhs m c) (j / 1 * 1024 + p.val) (j % 1 * 3072 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1024 + p.val) (j % 1 * 3072 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1024 + p.val) (j % 1 * 3072 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 3072) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1024) + q.val / 3072) + 7 := by
    show 8 * (1 * (p.val / 1024 - 0) + 1 * (q.val / 3072 - 0)) + 7 = _
    omega
  have hb : 8 * (1 * (p.val / 1024) + q.val / 3072) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 3072, Nat.mod_lt _ (by decide)⟩ from
    funext fun a => match a with
      | ⟨0, _⟩ => rfl
      | ⟨1, _⟩ => rfl]
  simp only [hpt]
  rw [out_eq m c _ _ _ hb]
  dsimp only
  rw [show (1 * (p.val / 1024) + q.val / 3072) / 1 * 1024 + p.val % 1024 = p.val from by omega,
    show (1 * (p.val / 1024) + q.val / 3072) % 1 * 3072 + q.val % 3072 = q.val from by omega]

end Cert.Kernel8Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference8_eq (x0 : (⟨2, ![8192, 1024]⟩ : Shape).Idx → EReal) (x1 : (⟨2, ![8192, 3072]⟩ : Shape).Idx → EReal)
    (p : Fin 1024) (q : Fin 3072) :
    (Cert.Reference8Ideal.Read.val_main_v4 (F := Ideal) x0 x1 (ix2 p q) : EReal) = ∑ k : Fin 8192, x0 (ix2 k p) * x1 (ix2 k q) := by
  rw [Cert.Reference8Ideal.Read.val_main_v4_apply, Ideal.truncf_def, Cert.Reference8Ideal.Read.val_main_v3_apply,
    Cert.Reference8Ideal.Read.val_main_v2_apply]
  refine Finset.sum_congr rfl fun k _ => ?_
  rw [Cert.Reference8Ideal.Read.val_main_v1_apply, Cert.Reference8Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_in_qkv` equals its reference. -/
theorem algebraic8 : Cert.algebraic_Kernel8Ideal_Reference8Ideal := by
  intro m g m' g' _ hargs
  refine ⟨fun c => Cert.Kernel8Ideal.Value.G2 m c, Cert.Kernel8Ideal.Value.run m g, ?_⟩
  refine (θ_run Cert.Reference8Ideal.defs _ _).mono (fun r h c => ⟨?_, (h c).2.1, (h c).2.2⟩) (Cert.Reference8Ideal.Value.run m' g')
  refine ((h c).1.trans (Cert.Reference8Ideal.Read.val_main_v4_eq (F := Ideal) _ _)).trans ?_
  rw [(hargs c).1, (hargs c).2]
  funext i
  rw [eq_ix2 i]
  exact (reference8_eq _ _ _ _).trans (Cert.Kernel8Ideal.Hand.result_eq m c _ _).symm

end Cert.Proof

end
-- ==== Proof.DwInGate.lean ====
/-
  The value of `dw_in_gate`: the gradient of u @ w_in with respect to the columns of w_in that give the gates.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel9Ideal.Value
public import proofs.«01_k».proof.Proof.Gen.Kernel9Ideal.Skeleton
public import proofs.«01_k».proof.Proof.Gen.Reference9Ideal.Run
public import proofs.«01_k».proof.Proof.Gen.Reference9Ideal.Read

@[expose] public section

noncomputable section

namespace Cert.Kernel9Ideal.Hand

open Cert.Kernel9Ideal Cert.Kernel9Ideal.Gen Cert.Kernel9Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S1024x2048 .bf16) (h5 : a5.IsWhole)
    (a6 : Memref sig .tc .vmem S1024x2048 .f32) (h6 : a6.IsWhole) (hc0 : cond0_0 i) (hc1 : ¬cond0_1 i)
    (x0 : Vec F S1024x1024 .bf16) (x1 : Vec F S1024x2048 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, h6.read_unread, View.ld_unit_zero (S := S1024x1024) hz,
    View.ld_unit_zero (S := S1024x2048) hz, View.ld_unit_zero (S := S1024x2048) hz]

/-- A later point adds its block product to what the scratch held. -/
theorem next_scratch (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S1024x2048 .bf16) (h5 : a5.IsWhole)
    (a6 : Memref sig .tc .vmem S1024x2048 .f32) (h6 : a6.IsWhole) (hc0 : ¬cond0_0 i) (hc1 : ¬cond0_1 i)
    (x0 : Vec F S1024x1024 .bf16) (x1 : Vec F S1024x2048 .bf16) (xs : Vec F S1024x2048 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x2048) hz, View.ld_unit_zero (S := S1024x2048) hz]

/-- The last point rounds the sum into the result's block. -/
theorem last_out (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S1024x2048 .bf16) (h5 : a5.IsWhole)
    (a6 : Memref sig .tc .vmem S1024x2048 .f32) (h6 : a6.IsWhole) (hc0 : ¬cond0_0 i) (hc1 : cond0_1 i)
    (x0 : Vec F S1024x1024 .bf16) (x1 : Vec F S1024x2048 .bf16) (xs : Vec F S1024x2048 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x2048) _ hz]
  simp only [View.readAt_eq_ld, h3.read_unread, h4.read_unread, h6.read_unread, View.ld_unit_zero (S := S1024x1024) hz,
    View.ld_unit_zero (S := S1024x2048) hz, View.ld_unit_zero (S := S1024x2048) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x2048 .f32) (x0 : Vec Ideal S1024x1024 .bf16) (x1 : Vec Ideal S1024x2048 .bf16)
    (p : Fin 1024) (q : Fin 2048) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x2048.Idx) : (k0_pay1 (F := Ideal) : FVec Ideal S1024x2048 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 2048]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 2048]⟩ : Shape).Idx → EReal := iblk m c 1 t

/-- A row's product of the two blocks is that row's product of the two arrays. -/
theorem block_prod (c : Dev nD) (t : Fin cfg0.N) (p : Fin 1024) (q : Fin 2048) (r : Fin 1024) :
    lblk m c t (ix2 r p) * rblk m c t (ix2 r q)
      = colProd (lhs m c) (rhs m c) (t.val / 8 / 1 * 1024 + p.val) (t.val / 8 % 1 * 2048 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 2048 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 2048) (j : ℕ) (h : 8 * j + 7 < cfg0.N) :
    ((outsAt0 m c (8 * j + 7) h).1 (ix2 p q) : EReal)
      = ∑ k ∈ Finset.range 8192,
          colProd (lhs m c) (rhs m c) (j / 1 * 1024 + p.val) (j % 1 * 2048 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1024 + p.val) (j % 1 * 2048 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1024 + p.val) (j % 1 * 2048 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 2048) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1024) + q.val / 2048) + 7 := by
    show 8 * (1 * (p.val / 1024 - 0) + 1 * (q.val / 2048 - 0)) + 7 = _
    omega
  have hb : 8 * (1 * (p.val / 1024) + q.val / 2048) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 2048, Nat.mod_lt _ (by decide)⟩ from
    funext fun a => match a with
      | ⟨0, _⟩ => rfl
      | ⟨1, _⟩ => rfl]
  simp only [hpt]
  rw [out_eq m c _ _ _ hb]
  dsimp only
  rw [show (1 * (p.val / 1024) + q.val / 2048) / 1 * 1024 + p.val % 1024 = p.val from by omega,
    show (1 * (p.val / 1024) + q.val / 2048) % 1 * 2048 + q.val % 2048 = q.val from by omega]

end Cert.Kernel9Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference9_eq (x0 : (⟨2, ![8192, 1024]⟩ : Shape).Idx → EReal) (x1 : (⟨2, ![8192, 2048]⟩ : Shape).Idx → EReal)
    (p : Fin 1024) (q : Fin 2048) :
    (Cert.Reference9Ideal.Read.val_main_v4 (F := Ideal) x0 x1 (ix2 p q) : EReal) = ∑ k : Fin 8192, x0 (ix2 k p) * x1 (ix2 k q) := by
  rw [Cert.Reference9Ideal.Read.val_main_v4_apply, Ideal.truncf_def, Cert.Reference9Ideal.Read.val_main_v3_apply,
    Cert.Reference9Ideal.Read.val_main_v2_apply]
  refine Finset.sum_congr rfl fun k _ => ?_
  rw [Cert.Reference9Ideal.Read.val_main_v1_apply, Cert.Reference9Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_in_gate` equals its reference. -/
theorem algebraic9 : Cert.algebraic_Kernel9Ideal_Reference9Ideal := by
  intro m g m' g' _ hargs
  refine ⟨fun c => Cert.Kernel9Ideal.Value.G2 m c, Cert.Kernel9Ideal.Value.run m g, ?_⟩
  refine (θ_run Cert.Reference9Ideal.defs _ _).mono (fun r h c => ⟨?_, (h c).2.1, (h c).2.2⟩) (Cert.Reference9Ideal.Value.run m' g')
  refine ((h c).1.trans (Cert.Reference9Ideal.Read.val_main_v4_eq (F := Ideal) _ _)).trans ?_
  rw [(hargs c).1, (hargs c).2]
  funext i
  rw [eq_ix2 i]
  exact (reference9_eq _ _ _ _).trans (Cert.Kernel9Ideal.Hand.result_eq m c _ _).symm

end Cert.Proof

end
-- ==== Proof.DwInA.lean ====
/-
  The value of `dw_in_a`: the gradient of u @ w_in with respect to the columns of w_in that give the short convolution.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel10Ideal.Value
public import proofs.«01_k».proof.Proof.Gen.Kernel10Ideal.Skeleton
public import proofs.«01_k».proof.Proof.Gen.Reference10Ideal.Run
public import proofs.«01_k».proof.Proof.Gen.Reference10Ideal.Read

@[expose] public section

noncomputable section

namespace Cert.Kernel10Ideal.Hand

open Cert.Kernel10Ideal Cert.Kernel10Ideal.Gen Cert.Kernel10Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x1536 .bf16) (h4 : a4.IsWhole) (a5 : Memref sig .tc .vmem S1024x1536 .bf16) (h5 : a5.IsWhole)
    (a6 : Memref sig .tc .vmem S1024x1536 .f32) (h6 : a6.IsWhole) (hc0 : cond0_0 i) (hc1 : ¬cond0_1 i)
    (x0 : Vec F S1024x1024 .bf16) (x1 : Vec F S1024x1536 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1536) hz, View.readCov_unit_zero (S := S1024x1536) _ hz]
  simp only [View.readAt_eq_ld, h3.read_unread, h4.read_unread, h6.read_unread, View.ld_unit_zero (S := S1024x1024) hz,
    View.ld_unit_zero (S := S1024x1536) hz, View.ld_unit_zero (S := S1024x1536) hz]

/-- A later point adds its block product to what the scratch held. -/
theorem next_scratch (c : Dev nD) (i : grid0.Coords) (a3 : Memref sig .tc .vmem S1024x1024 .bf16) (h3 : a3.IsWhole)
    (a4 : Memref sig .tc .vmem S1024x1536 .bf16) (h4 : a4.IsWhole) (a5 : Memref sig .tc .vmem S1024x1536 .bf16) (h5 : a5.IsWhole)
    (a6 : Memref sig .tc .vmem S1024x1536 .f32) (h6 : a6.IsWhole) (hc0 : ¬cond0_0 i) (hc1 : ¬cond0_1 i)
    (x0 : Vec F S1024x1024 .bf16) (x1 : Vec F S1024x1536 .bf16) (xs : Vec F S1024x1536 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x1536) hz, View.ld_unit_zero (S := S1024x1536) hz]

/-- The last point rounds the sum into the result's block. -/
theorem last_out (c : Dev nD) (i : grid0.Coords) (a3 : Memref sig .tc .vmem S1024x1024 .bf16) (h3 : a3.IsWhole)
    (a4 : Memref sig .tc .vmem S1024x1536 .bf16) (h4 : a4.IsWhole) (a5 : Memref sig .tc .vmem S1024x1536 .bf16) (h5 : a5.IsWhole)
    (a6 : Memref sig .tc .vmem S1024x1536 .f32) (h6 : a6.IsWhole) (hc0 : ¬cond0_0 i) (hc1 : cond0_1 i)
    (x0 : Vec F S1024x1024 .bf16) (x1 : Vec F S1024x1536 .bf16) (xs : Vec F S1024x1536 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x1536) _ hz]
  simp only [View.readAt_eq_ld, h3.read_unread, h4.read_unread, h6.read_unread, View.ld_unit_zero (S := S1024x1024) hz,
    View.ld_unit_zero (S := S1024x1536) hz, View.ld_unit_zero (S := S1024x1536) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x1536 .f32) (x0 : Vec Ideal S1024x1024 .bf16) (x1 : Vec Ideal S1024x1536 .bf16)
    (p : Fin 1024) (q : Fin 1536) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x1536.Idx) : (k0_pay1 (F := Ideal) : FVec Ideal S1024x1536 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 1536]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 1536]⟩ : Shape).Idx → EReal := iblk m c 1 t

/-- A row's product of the two blocks is that row's product of the two arrays. -/
theorem block_prod (c : Dev nD) (t : Fin cfg0.N) (p : Fin 1024) (q : Fin 1536) (r : Fin 1024) :
    lblk m c t (ix2 r p) * rblk m c t (ix2 r q)
      = colProd (lhs m c) (rhs m c) (t.val / 8 / 1 * 1024 + p.val) (t.val / 8 % 1 * 1536 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 1536 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 1536) (j : ℕ) (h : 8 * j + 7 < cfg0.N) :
    ((outsAt0 m c (8 * j + 7) h).1 (ix2 p q) : EReal)
      = ∑ k ∈ Finset.range 8192,
          colProd (lhs m c) (rhs m c) (j / 1 * 1024 + p.val) (j % 1 * 1536 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1024 + p.val) (j % 1 * 1536 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1024 + p.val) (j % 1 * 1536 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 1536) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1024) + q.val / 1536) + 7 := by
    show 8 * (1 * (p.val / 1024 - 0) + 1 * (q.val / 1536 - 0)) + 7 = _
    omega
  have hb : 8 * (1 * (p.val / 1024) + q.val / 1536) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 1536, Nat.mod_lt _ (by decide)⟩ from
    funext fun a => match a with
      | ⟨0, _⟩ => rfl
      | ⟨1, _⟩ => rfl]
  simp only [hpt]
  rw [out_eq m c _ _ _ hb]
  dsimp only
  rw [show (1 * (p.val / 1024) + q.val / 1536) / 1 * 1024 + p.val % 1024 = p.val from by omega,
    show (1 * (p.val / 1024) + q.val / 1536) % 1 * 1536 + q.val % 1536 = q.val from by omega]

end Cert.Kernel10Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference10_eq (x0 : (⟨2, ![8192, 1024]⟩ : Shape).Idx → EReal) (x1 : (⟨2, ![8192, 1536]⟩ : Shape).Idx → EReal)
    (p : Fin 1024) (q : Fin 1536) :
    (Cert.Reference10Ideal.Read.val_main_v4 (F := Ideal) x0 x1 (ix2 p q) : EReal) = ∑ k : Fin 8192, x0 (ix2 k p) * x1 (ix2 k q) := by
  rw [Cert.Reference10Ideal.Read.val_main_v4_apply, Ideal.truncf_def, Cert.Reference10Ideal.Read.val_main_v3_apply,
    Cert.Reference10Ideal.Read.val_main_v2_apply]
  refine Finset.sum_congr rfl fun k _ => ?_
  rw [Cert.Reference10Ideal.Read.val_main_v1_apply, Cert.Reference10Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_in_a` equals its reference. -/
theorem algebraic10 : Cert.algebraic_Kernel10Ideal_Reference10Ideal := by
  intro m g m' g' _ hargs
  refine ⟨fun c => Cert.Kernel10Ideal.Value.G2 m c, Cert.Kernel10Ideal.Value.run m g, ?_⟩
  refine (θ_run Cert.Reference10Ideal.defs _ _).mono (fun r h c => ⟨?_, (h c).2.1, (h c).2.2⟩) (Cert.Reference10Ideal.Value.run m' g')
  refine ((h c).1.trans (Cert.Reference10Ideal.Read.val_main_v4_eq (F := Ideal) _ _)).trans ?_
  rw [(hargs c).1, (hargs c).2]
  funext i
  rw [eq_ix2 i]
  exact (reference10_eq _ _ _ _).trans (Cert.Kernel10Ideal.Hand.result_eq m c _ _).symm

end Cert.Proof

end
-- ==== Proof.DwInBa.lean ====
/-
  The value of `dw_in_ba`: the gradient of u @ w_in with respect to the columns of w_in that give beta and the decay.
  The call accumulates, over eight blocks of 1024 rows, the product of the transposed block of its first array by the block
  of its second in a scratch buffer, and rounds the scratch into the result at the eighth. The sum of the eight block sums is
  the sum over all 8192 rows, which is the reference's one product.
-/
module

public import proofs.«01_k».proof.Proof.Common
public import proofs.«01_k».proof.Defs
public import proofs.«01_k».proof.Proof.Gen.Kernel11Ideal.Value
public import proofs.«01_k».proof.Proof.Gen.Kernel11Ideal.Skeleton
public import proofs.«01_k».proof.Proof.Gen.Reference11Ideal.Run
public import proofs.«01_k».proof.Proof.Gen.Reference11Ideal.Read

@[expose] public section

noncomputable section

namespace Cert.Kernel11Ideal.Hand

open Cert.Kernel11Ideal Cert.Kernel11Ideal.Gen Cert.Kernel11Ideal.Value Cert.Common
open Idealize.ShloMosaic Idealize.ShloMosaic.TcCoe Idealize.SL.Sem
open Idealize.ShloMosaic.ValueIdx hiding ix2 eq_ix2
open Idealize.ShloMosaic.Pipeline (Dat)
open scoped BigOperators

/-! ## What one point leaves -/

section Point
variable {F : FTy → Type} [FloatOps F]

/-- A run's first point stores zero and adds the block product to it. -/
theorem first_scratch (c : Dev nD) (i : grid0.Coords) (a3 : Memref sig .tc .vmem S1024x1024 .bf16) (h3 : a3.IsWhole)
    (a4 : Memref sig .tc .vmem S1024x256 .bf16) (h4 : a4.IsWhole) (a5 : Memref sig .tc .vmem S1024x256 .bf16) (h5 : a5.IsWhole)
    (a6 : Memref sig .tc .vmem S1024x256 .f32) (h6 : a6.IsWhole) (hc0 : cond0_0 i) (hc1 : ¬cond0_1 i)
    (x0 : Vec F S1024x1024 .bf16) (x1 : Vec F S1024x256 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, h6.read_unread, View.ld_unit_zero (S := S1024x1024) hz,
    View.ld_unit_zero (S := S1024x256) hz, View.ld_unit_zero (S := S1024x256) hz]

/-- A later point adds its block product to what the scratch held. -/
theorem next_scratch (c : Dev nD) (i : grid0.Coords) (a3 : Memref sig .tc .vmem S1024x1024 .bf16) (h3 : a3.IsWhole)
    (a4 : Memref sig .tc .vmem S1024x256 .bf16) (h4 : a4.IsWhole) (a5 : Memref sig .tc .vmem S1024x256 .bf16) (h5 : a5.IsWhole)
    (a6 : Memref sig .tc .vmem S1024x256 .f32) (h6 : a6.IsWhole) (hc0 : ¬cond0_0 i) (hc1 : ¬cond0_1 i)
    (x0 : Vec F S1024x1024 .bf16) (x1 : Vec F S1024x256 .bf16) (xs : Vec F S1024x256 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1024x256) hz, View.ld_unit_zero (S := S1024x256) hz]

/-- The last point rounds the sum into the result's block. -/
theorem last_out (c : Dev nD) (i : grid0.Coords) (a3 : Memref sig .tc .vmem S1024x1024 .bf16) (h3 : a3.IsWhole)
    (a4 : Memref sig .tc .vmem S1024x256 .bf16) (h4 : a4.IsWhole) (a5 : Memref sig .tc .vmem S1024x256 .bf16) (h5 : a5.IsWhole)
    (a6 : Memref sig .tc .vmem S1024x256 .f32) (h6 : a6.IsWhole) (hc0 : ¬cond0_0 i) (hc1 : cond0_1 i)
    (x0 : Vec F S1024x1024 .bf16) (x1 : Vec F S1024x256 .bf16) (xs : Vec F S1024x256 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  rw [View.readCov_unit_zero (S := S1024x256) _ hz]
  simp only [View.readAt_eq_ld, h3.read_unread, h4.read_unread, h6.read_unread, View.ld_unit_zero (S := S1024x1024) hz,
    View.ld_unit_zero (S := S1024x256) hz, View.ld_unit_zero (S := S1024x256) hz]

end Point

variable (m : (ℓ : Loc nD τ sig) → Buf (Elt Ideal) ℓ) (ρ : Dev nD → PrngReg)

/-- The scratch after a point, at an element: what it held plus the sum over the block's 1024 rows. -/
theorem step_apply (xs : Vec Ideal S1024x256 .f32) (x0 : Vec Ideal S1024x1024 .bf16) (x1 : Vec Ideal S1024x256 .bf16)
    (p : Fin 1024) (q : Fin 256) :
    k0_pay2 xs x0 x1 (ix2 p q) = xs (ix2 p q) + ∑ r : Fin 1024, (x0 (ix2 r p) : EReal) * x1 (ix2 r q) := by
  unfold k0_pay2
  pointwise

/-- The zero a run starts from. -/
theorem zero_apply (i : S1024x256.Idx) : (k0_pay1 (F := Ideal) : FVec Ideal S1024x256 .f32) i = (0 : EReal) := by
  unfold k0_pay1
  pointwise

/-! ## The blocks -/

/-- The two arrays on device `c`. -/
abbrev lhs (c : Dev nD) : (⟨2, ![8192, 1024]⟩ : Shape).Idx → EReal := m ((c : Thread nD τ).loc main_arg0)
abbrev rhs (c : Dev nD) : (⟨2, ![8192, 256]⟩ : Shape).Idx → EReal := m ((c : Thread nD τ).loc main_arg1)

/-- The index maps in closed form. -/
theorem index_facts : ∀ t : Fin cfg0.N, win0_0.index t 0 = t.val % 8 ∧ win0_0.index t 1 = t.val / 8 / 1
    ∧ win0_1.index t 0 = t.val % 8 ∧ win0_1.index t 1 = t.val / 8 % 1 :=
  (by decide +kernel : ∀ t : Fin grid0.N, _)

/-- The two arrays' blocks at point `t`. -/
abbrev lblk (c : Dev nD) (t : Fin cfg0.N) : (⟨2, ![1024, 1024]⟩ : Shape).Idx → EReal := iblk m c 0 t
abbrev rblk (c : Dev nD) (t : Fin cfg0.N) : (⟨2, ![1024, 256]⟩ : Shape).Idx → EReal := iblk m c 1 t

/-- A row's product of the two blocks is that row's product of the two arrays. -/
theorem block_prod (c : Dev nD) (t : Fin cfg0.N) (p : Fin 1024) (q : Fin 256) (r : Fin 1024) :
    lblk m c t (ix2 r p) * rblk m c t (ix2 r q)
      = colProd (lhs m c) (rhs m c) (t.val / 8 / 1 * 1024 + p.val) (t.val / 8 % 1 * 256 + q.val) (t.val % 8 * 1024 + r.val) := by
  obtain ⟨e0, e1, e2, e3⟩ := index_facts t
  show lhs m c (((cfg0.win 0).blk t).view.emb (ix2 r p)) * rhs m c (((cfg0.win 1).blk t).view.emb (ix2 r q)) = _
  refine colProd_eq _ _ _ _ _ (((cfg0.win 0).blk t).view.emb (ix2 r p)) (((cfg0.win 1).blk t).view.emb (ix2 r q)) ?_ ?_ ?_ ?_
  · show win0_0.index t 0 * 1024 + 1 * r.val = _; rw [e0]; omega
  · show win0_0.index t 1 * 1024 + 1 * p.val = _; rw [e1]; omega
  · show win0_1.index t 0 * 1024 + 1 * r.val = _; rw [e2]; omega
  · show win0_1.index t 1 * 256 + 1 * q.val = _; rw [e3]; omega

/-! ## The accumulation -/

/-- At its last point run `j` writes the sum over all the rows: seven points leave the first seven blocks' sum in the
    scratch, and the eighth adds its own. -/
theorem out_eq (c : Dev nD) (p : Fin 1024) (q : Fin 256) (j : ℕ) (h : 8 * j + 7 < cfg0.N) :
    ((outsAt0 m c (8 * j + 7) h).1 (ix2 p q) : EReal)
      = ∑ k ∈ Finset.range 8192,
          colProd (lhs m c) (rhs m c) (j / 1 * 1024 + p.val) (j % 1 * 256 + q.val) k := by
  have hprod : ∀ (i : ℕ) (_ : i < 8) (hi : 8 * j + i < cfg0.N) (r : Fin 1024),
      lblk m c ⟨8 * j + i, hi⟩ (ix2 r p) * rblk m c ⟨8 * j + i, hi⟩ (ix2 r q)
        = colProd (lhs m c) (rhs m c) (j / 1 * 1024 + p.val) (j % 1 * 256 + q.val) (i * 1024 + r.val) := by
    intro i h8 hi r
    rw [block_prod]
    dsimp only
    rw [show (8 * j + i) / 8 = j by omega, show (8 * j + i) % 8 = i by omega]
  have hs := sweep_sum (fun n hn => ((outsAt0 m c n hn).2 (ix2 p q) : EReal))
    (colProd (lhs m c) (rhs m c) (j / 1 * 1024 + p.val) (j % 1 * 256 + q.val)) (8 * j) 1024 7
    (fun h0 => by
      rw [outsAt0_A m c ⟨8 * j, h0⟩ (by dsimp only; omega) (by dsimp only; omega)]
      dsimp only
      rw [first_scratch, step_apply, zero_apply, zero_add]
      exact Finset.sum_congr rfl fun r _ => hprod 0 (by omega) h0 r)
    (fun i h1 h0 hi => by
      rw [show outsAt0 m c (8 * j + (i + 1)) h1 = _ from
        outsAt0_B m c ⟨8 * j + i + 1, h1⟩ (by dsimp only; omega) (by dsimp only; omega)]
      dsimp only
      rw [next_scratch, step_apply]
      exact congrArg₂ (· + ·) rfl (Finset.sum_congr rfl fun r _ => hprod (i + 1) (by omega) h1 r))
    6 (by omega) (by omega)
  rw [show outsAt0 m c (8 * j + 7) h = _ from
    outsAt0_C m c ⟨8 * j + 6 + 1, h⟩ (by dsimp only; omega) (by dsimp only; omega)]
  dsimp only
  rw [last_out]
  unfold k0_pay3
  rw [ValueIdx.truncf_apply, step_apply]
  exact (congrArg₂ (· + ·) hs (Finset.sum_congr rfl fun r _ => hprod 7 (by omega) h r)).trans
    (sum_next_block _ 7 1024).symm

/-- The result array: the product of the transposed first array by the second. -/
theorem result_eq (c : Dev nD) (p : Fin 1024) (q : Fin 256) :
    (G2 m c (ix2 p q) : EReal) = ∑ k : Fin 8192, lhs m c (ix2 k p) * rhs m c (ix2 k q) := by
  rw [← sum_colProd]
  have hp := p.isLt
  have hq := q.isLt
  have hpt : pt2Of (ix2 p q) = 8 * (1 * (p.val / 1024) + q.val / 256) + 7 := by
    show 8 * (1 * (p.val / 1024 - 0) + 1 * (q.val / 256 - 0)) + 7 = _
    omega
  have hb : 8 * (1 * (p.val / 1024) + q.val / 256) + 7 < cfg0.N := lt_of_lt_of_eq (by omega) N_0.symm
  unfold G2
  rw [dif_pos (hpt ▸ hb), ← outsAt0_sweep m c _ (hpt ▸ hb)]
  rw [show loc2Of (ix2 p q) = ix2 ⟨p.val % 1024, Nat.mod_lt _ (by decide)⟩ ⟨q.val % 256, Nat.mod_lt _ (by decide)⟩ from
    funext fun a => match a with
      | ⟨0, _⟩ => rfl
      | ⟨1, _⟩ => rfl]
  simp only [hpt]
  rw [out_eq m c _ _ _ hb]
  dsimp only
  rw [show (1 * (p.val / 1024) + q.val / 256) / 1 * 1024 + p.val % 1024 = p.val from by omega,
    show (1 * (p.val / 1024) + q.val / 256) % 1 * 256 + q.val % 256 = q.val from by omega]

end Cert.Kernel11Ideal.Hand

namespace Cert.Proof

open Cert.Common
open Idealize.ShloMosaic Idealize.ShloMosaic.TcCoe Idealize.SL.Sem
open Idealize.ShloMosaic.ValueIdx hiding ix2 eq_ix2
open scoped BigOperators

/-- The reference's result is the same product. -/
theorem reference11_eq (x0 : (⟨2, ![8192, 1024]⟩ : Shape).Idx → EReal) (x1 : (⟨2, ![8192, 256]⟩ : Shape).Idx → EReal)
    (p : Fin 1024) (q : Fin 256) :
    (Cert.Reference11Ideal.Read.val_main_v4 (F := Ideal) x0 x1 (ix2 p q) : EReal) = ∑ k : Fin 8192, x0 (ix2 k p) * x1 (ix2 k q) := by
  rw [Cert.Reference11Ideal.Read.val_main_v4_apply, Ideal.truncf_def, Cert.Reference11Ideal.Read.val_main_v3_apply,
    Cert.Reference11Ideal.Read.val_main_v2_apply]
  refine Finset.sum_congr rfl fun k _ => ?_
  rw [Cert.Reference11Ideal.Read.val_main_v1_apply, Cert.Reference11Ideal.Read.val_main_v0_apply, Ideal.extf_def, Ideal.extf_def, mul_comm]
  exact congrArg₂ (fun i j => x0 i * x1 j)
    (funext fun a => match a with
      | ⟨0, _⟩ => rfl
      | ⟨1, _⟩ => rfl)
    (funext fun a => match a with
      | ⟨0, _⟩ => rfl
      | ⟨1, _⟩ => rfl)

/-- `dw_in_ba` equals its reference. -/
theorem algebraic11 : Cert.algebraic_Kernel11Ideal_Reference11Ideal := by
  intro m g m' g' _ hargs
  refine ⟨fun c => Cert.Kernel11Ideal.Value.G2 m c, Cert.Kernel11Ideal.Value.run m g, ?_⟩
  refine (θ_run Cert.Reference11Ideal.defs _ _).mono (fun r h c => ⟨?_, (h c).2.1, (h c).2.2⟩) (Cert.Reference11Ideal.Value.run m' g')
  refine ((h c).1.trans (Cert.Reference11Ideal.Read.val_main_v4_eq (F := Ideal) _ _)).trans ?_
  rw [(hargs c).1, (hargs c).2]
  funext i
  rw [eq_ix2 i]
  exact (reference11_eq _ _ _ _).trans (Cert.Kernel11Ideal.Hand.result_eq m c _ _).symm

end Cert.Proof

end
-- ==== Proof.FfnUp.Frame.lean ====
/-
  The forward gated products: the run of the printed call. At the first of the two points over a row block the body normalizes
  and modulates the block's rows into u; at every point it multiplies u by a column block of each half of the wide weight, in
  three column pieces, and writes both products and the gated product. u stays in its buffer through the second point.
-/
module

public import proofs.«01_k».proof.Proof.Gen.Kernel12Ideal.Frame
public import proofs.«01_k».proof.Proof.Gen.Kernel12Ideal.Skeleton
public import Idealize.ShloMosaic.Lib.Pipeline.TableIdle
public import Idealize.ShloMosaic.Lib.VecWindow
public import Idealize.ShloMosaic.Lib.WholeRead
public import Idealize.ShloMosaic.Lib.Pointwise.Index
public import Idealize.ShloMosaic.Lib.Claim

@[expose] public section

set_option maxRecDepth 16384

noncomputable section

namespace Cert.Kernel12Ideal.Hand

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A load of a whole buffer held at `x` gives `x`. -/
theorem load_all {s : Shape} {e : EltTy} {a : Memref sig .tc .vmem s e} (h : a.IsWhole) (x : Vec F s e) {off : Fin s.rank → ℕ}
    (inb : ∀ k, off k + s.size k ≤ s.size k) :
    View.readAt (Elt F) a.view (Rect.unit off s.size inb).toLoadRect (h.unread x) = x :=
  (View.readAt_full _ _ inb).trans (h.read_unread x)

/-- The columns of a block from `o` on. -/
def colsFrom {n : Nat} (o : Nat) (h : o + n ≤ 1408) (w : Vec F S1024x1408 .bf16) : Vec F ⟨2, ![1024, n]⟩ .bf16 :=
  fun y => w (ix2 (y 0) ⟨o + (y 1).val, Nat.lt_of_lt_of_le (Nat.add_lt_add_left (y 1).isLt o) h⟩)

/-- A load of a column piece of a whole buffer held at `w`. -/
theorem load_cols {n : Nat} {a : Memref sig .tc .vmem S1024x1408 .bf16} (ha : a.IsWhole) (w : Vec F S1024x1408 .bf16) {o : Nat} (h : o + n ≤ 1408)
    (inb : ∀ k, (![0, o] : Fin 2 → ℕ) k + (![1024, n] : Fin 2 → ℕ) k ≤ S1024x1408.size k) :
    View.readAt (Elt F) a.view (Rect.unit (s := S1024x1408) ![0, o] ![1024, n] inb).toLoadRect (ha.unread w) = colsFrom o h w :=
  funext fun y => (ha.readAt_unread w _ y).trans (congrArg w (funext fun k => Fin.ext (by
    match k with
    | ⟨0, _⟩ => show 0 + 1 * (y 0).val = (y 0).val; omega
    | ⟨1, _⟩ => show o + 1 * (y 1).val = o + (y 1).val; omega)))

/-- A block out of three column pieces. -/
def cols3 (b1 b2 : Vec F S1024x512 .bf16) (b3 : Vec F S1024x384 .bf16) : Vec F S1024x1408 .bf16 := fun y =>
  if h1 : (y 1).val < 512 then b1 (ix2 (y 0) ⟨(y 1).val, h1⟩)
  else if h2 : (y 1).val < 1024 then b2 (ix2 (y 0) ⟨(y 1).val - 512, by omega⟩)
  else b3 (ix2 (y 0) ⟨(y 1).val - 1024, by have : (y 1).val < 1408 := (y 1).isLt; omega⟩)

/-- What a block reads after the stores of its three column pieces. -/
theorem read_cols3 (a : Memref sig .tc .vmem S1024x1408 .bf16) (f : a.view.ty.Contents (Elt F)) (b1 b2 : Vec F S1024x512 .bf16)
    (b3 : Vec F S1024x384 .bf16) :
    a.view.read (Elt F) (a.view.writes (Elt F) f
      [⟨Rect.unit (s := S1024x1408) ![0, 1024] S1024x384.size inb_S1024x1408_S1024x384_0_1024, b3⟩,
        ⟨Rect.unit (s := S1024x1408) ![0, 512] S1024x512.size inb_S1024x1408_S1024x512_0_512, b2⟩,
        ⟨Rect.unit (s := S1024x1408) ![0, 0] S1024x512.size inb_S1024x1408_S1024x512_0_0, b1⟩]) = cols3 b1 b2 b3 := by
  funext y
  unfold cols3
  have hy : (y 1).val < 1408 := (y 1).isLt
  by_cases h2 : (y 1).val < 1024
  · refine (View.read_writes_cons_unit_of_not_mem _ _ _ _ _ y rfl 1 (.inl h2)).trans ?_
    by_cases h1 : (y 1).val < 512
    · rw [dif_pos h1]
      refine (View.read_writes_cons_unit_of_not_mem _ _ _ _ _ y rfl 1 (.inl h1)).trans ?_
      exact View.read_writes_cons_unit_of_mem _ _ _ _ _ y (ix2 (y 0) ⟨(y 1).val, h1⟩) rfl fun k => by
        match k with
        | ⟨0, _⟩ => exact (Nat.zero_add _).symm
        | ⟨1, _⟩ => exact (Nat.zero_add _).symm
    · rw [dif_neg h1, dif_pos h2]
      exact View.read_writes_cons_unit_of_mem _ _ _ _ _ y (ix2 (y 0) ⟨(y 1).val - 512, by omega⟩) rfl fun k => by
        match k with
        | ⟨0, _⟩ => exact (Nat.zero_add _).symm
        | ⟨1, _⟩ => show (y 1).val = 512 + ((y 1).val - 512); omega
  · rw [dif_neg (by omega), dif_neg h2]
    exact View.read_writes_cons_unit_of_mem _ _ _ _ _ y (ix2 (y 0) ⟨(y 1).val - 1024, by omega⟩) rfl fun k => by
      match k with
      | ⟨0, _⟩ => exact (Nat.zero_add _).symm
      | ⟨1, _⟩ => show (y 1).val = 1024 + ((y 1).val - 1024); omega

/-- The first product's block, -/
def aOf (u : Vec F S1024x1024 .bf16) (wa : Vec F S1024x1408 .bf16) : Vec F S1024x1408 .bf16 :=
  cols3 (k0_pay7 u (colsFrom 0 (by omega) wa)) (k0_pay12 (k0_pay5 u (colsFrom 512 (by omega) wa)))
    (k0_pay15 (k0_pay2 u) (colsFrom 1024 (by omega) wa))

/-- the second's -/
def bOf (u : Vec F S1024x1024 .bf16) (wb : Vec F S1024x1408 .bf16) : Vec F S1024x1408 .bf16 :=
  cols3 (k0_pay8 u (colsFrom 0 (by omega) wb)) (k0_pay13 (k0_pay6 u (colsFrom 512 (by omega) wb)))
    (k0_pay16 (k0_pay2 u) (colsFrom 1024 (by omega) wb))

/-- and the gated product's. -/
def fOf (u : Vec F S1024x1024 .bf16) (wa wb : Vec F S1024x1408 .bf16) : Vec F S1024x1408 .bf16 :=
  cols3 (k0_pay9 u (colsFrom 0 (by omega) wa) (colsFrom 0 (by omega) wb))
    (k0_pay14 (k0_pay5 u (colsFrom 512 (by omega) wa)) (k0_pay6 u (colsFrom 512 (by omega) wb)))
    (k0_pay17 (k0_pay2 u) (colsFrom 1024 (by omega) wa) (colsFrom 1024 (by omega) wb))

theorem aOf_eq {u v : Vec F S1024x1024 .bf16} {wa : Vec F S1024x1408 .bf16} {w0 w1 : Vec F S1024x512 .bf16} {w2 : Vec F S1024x384 .bf16}
    (hu : v = u) (h0 : w0 = colsFrom 0 (by omega) wa) (h1 : w1 = colsFrom 512 (by omega) wa) (h2 : w2 = colsFrom 1024 (by omega) wa) :
    cols3 (k0_pay7 v w0) (k0_pay12 (k0_pay5 v w1)) (k0_pay15 (k0_pay2 v) w2) = aOf u wa := by subst hu h0 h1 h2; rfl

theorem bOf_eq {u v : Vec F S1024x1024 .bf16} {wb : Vec F S1024x1408 .bf16} {w0 w1 : Vec F S1024x512 .bf16} {w2 : Vec F S1024x384 .bf16}
    (hu : v = u) (h0 : w0 = colsFrom 0 (by omega) wb) (h1 : w1 = colsFrom 512 (by omega) wb) (h2 : w2 = colsFrom 1024 (by omega) wb) :
    cols3 (k0_pay8 v w0) (k0_pay13 (k0_pay6 v w1)) (k0_pay16 (k0_pay2 v) w2) = bOf u wb := by subst hu h0 h1 h2; rfl

theorem fOf_eq {u v : Vec F S1024x1024 .bf16} {wa wb : Vec F S1024x1408 .bf16} {w0 w1 z0 z1 : Vec F S1024x512 .bf16}
    {w2 z2 : Vec F S1024x384 .bf16} (hu : v = u)
    (h0 : w0 = colsFrom 0 (by omega) wa) (h1 : w1 = colsFrom 512 (by omega) wa) (h2 : w2 = colsFrom 1024 (by omega) wa)
    (k0 : z0 = colsFrom 0 (by omega) wb) (k1 : z1 = colsFrom 512 (by omega) wb) (k2 : z2 = colsFrom 1024 (by omega) wb) :
    cols3 (k0_pay9 v w0 z0) (k0_pay14 (k0_pay5 v w1) (k0_pay6 v z1)) (k0_pay17 (k0_pay2 v) w2 z2) = fOf u wa wb := by
  subst hu h0 h1 h2 k0 k1 k2; rfl

section Body

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x1408 .bf16) (harg6 : arg6.IsWhole) (arg7 : Memref sig .tc .vmem S1024x1408 .bf16) (harg7 : arg7.IsWhole)
  (arg8 : Memref sig .tc .vmem S1024x1024 .bf16) (harg8 : arg8.IsWhole) (arg9 : Memref sig .tc .vmem S1024x1408 .bf16) (harg9 : arg9.IsWhole)
  (arg10 : Memref sig .tc .vmem S1024x1408 .bf16) (harg10 : arg10.IsWhole) (arg11 : Memref sig .tc .vmem S1024x1408 .bf16) (harg11 : arg11.IsWhole)
  (x0 : Vec F S1024x1024 .f32) (x1 x2 x3 : Vec F S1x1024 .f32) (x4 x5 : Vec F S1024x1408 .bf16)

set_option maxHeartbeats 2000000 in
/-- The body at the first point over a row block. -/
theorem run_first (hc : k0_cond1 i = 1#1) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d)
      ∗ ((owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare (k0_pay1 x0 x1 x2 x3) ∗ owns (c : Thread nD τ) arg9 fullShare (aOf (k0_pay1 x0 x1 x2 x3) x4)
          ∗ owns (c : Thread nD τ) arg10 fullShare (bOf (k0_pay1 x0 x1 x2 x3) x5) ∗ owns (c : Thread nD τ) arg11 fullShare (fOf (k0_pay1 x0 x1 x2 x3) x4 x5)) -∗ K ⟨⟩))
      ⊢ wp frame (wpE (defs₀ (F := F)) Variants.none c none) Set.univ
          (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  simp only [k0_part1_eq_skeleton, k0_part2_eq_skeleton]; unfold k0_part1_skel k0_part2_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩,
    ⟨%d6, %f6, -, H6⟩, ⟨%d7, %f7, -, H7⟩, ⟨%d8, %f8, -, H8⟩, ⟨%d9, %f9, -, H9⟩, Hk⟩
  obtain rfl := harg2.eq_unread h0; obtain rfl := harg3.eq_unread h1; obtain rfl := harg4.eq_unread h2
  obtain rfl := harg5.eq_unread h3; obtain rfl := harg6.eq_unread h4; obtain rfl := harg7.eq_unread h5
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    refine (View.read_writes_full _ _ _ _ _).trans ?_
    rw [load_all harg2, load_all harg3, load_all harg4, load_all harg5]
  isplitl [H7]
  · iexists _; isplitr; swap; · iexact H7
    ipureintro
    refine (read_cols3 _ _ _ _ _).trans (aOf_eq ?_ (load_cols harg6 _ _ _) (load_cols harg6 _ _ _) (load_cols harg6 _ _ _))
    · refine (View.readCov_full _ _ _ _ _).trans ?_
      rw [load_all harg2, load_all harg3, load_all harg4, load_all harg5]
  isplitl [H8]
  · iexists _; isplitr; swap; · iexact H8
    ipureintro
    refine (read_cols3 _ _ _ _ _).trans (bOf_eq ?_ (load_cols harg7 _ _ _) (load_cols harg7 _ _ _) (load_cols harg7 _ _ _))
    · refine (View.readCov_full _ _ _ _ _).trans ?_
      rw [load_all harg2, load_all harg3, load_all harg4, load_all harg5]
  iexists _; isplitr; swap; · iexact H9
  ipureintro
  refine (read_cols3 _ _ _ _ _).trans (fOf_eq ?_ (load_cols harg6 _ _ _) (load_cols harg6 _ _ _) (load_cols harg6 _ _ _)
    (load_cols harg7 _ _ _) (load_cols harg7 _ _ _) (load_cols harg7 _ _ _))
  · refine (View.readCov_full _ _ _ _ _).trans ?_
    rw [load_all harg2, load_all harg3, load_all harg4, load_all harg5]

set_option maxHeartbeats 2000000 in
/-- The body at the second point over a row block: u stays. -/
theorem run_next (hc : ¬ k0_cond1 i = 1#1) (x6 : Vec F S1024x1024 .bf16) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ owns (c : Thread nD τ) arg8 fullShare x6 ∗ (∃ d, owns (c : Thread nD τ) arg9 fullShare d)
      ∗ (∃ d, owns (c : Thread nD τ) arg10 fullShare d) ∗ (∃ d, owns (c : Thread nD τ) arg11 fullShare d)
      ∗ ((owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare x6 ∗ owns (c : Thread nD τ) arg9 fullShare (aOf x6 x4)
          ∗ owns (c : Thread nD τ) arg10 fullShare (bOf x6 x5) ∗ owns (c : Thread nD τ) arg11 fullShare (fOf x6 x4 x5)) -∗ K ⟨⟩))
      ⊢ wp frame (wpE (defs₀ (F := F)) Variants.none c none) Set.univ
          (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  simp only [k0_part1_eq_skeleton, k0_part2_eq_skeleton]; unfold k0_part1_skel k0_part2_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩,
    ⟨%f6, %h6, H6⟩, ⟨%d7, %f7, -, H7⟩, ⟨%d8, %f8, -, H8⟩, ⟨%d9, %f9, -, H9⟩, Hk⟩
  obtain rfl := harg2.eq_unread h0; obtain rfl := harg3.eq_unread h1; obtain rfl := harg4.eq_unread h2
  obtain rfl := harg5.eq_unread h3; obtain rfl := harg6.eq_unread h4; obtain rfl := harg7.eq_unread h5
  obtain rfl := harg8.eq_unread h6
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]
  · iexists _; isplitr; swap; · iexact H7
    ipureintro
    refine (read_cols3 _ _ _ _ _).trans (aOf_eq ?_ (load_cols harg6 _ _ _) (load_cols harg6 _ _ _) (load_cols harg6 _ _ _))
    · exact load_all harg8 _ _
  isplitl [H8]
  · iexists _; isplitr; swap; · iexact H8
    ipureintro
    refine (read_cols3 _ _ _ _ _).trans (bOf_eq ?_ (load_cols harg7 _ _ _) (load_cols harg7 _ _ _) (load_cols harg7 _ _ _))
    · exact load_all harg8 _ _
  iexists _; isplitr; swap; · iexact H9
  ipureintro
  refine (read_cols3 _ _ _ _ _).trans (fOf_eq ?_ (load_cols harg6 _ _ _) (load_cols harg6 _ _ _) (load_cols harg6 _ _ _)
    (load_cols harg7 _ _ _) (load_cols harg7 _ _ _) (load_cols harg7 _ _ _))
  · exact load_all harg8 _ _

end Body

variable (m : (ℓ : Loc nD τ sig) → Buf (Elt F) ℓ) (ρ : Dev nD → PrngReg)

/-- The first point over the row block of a point. -/
def firstOf (t : Fin cfg0.N) : Fin cfg0.N := ⟨t.val / 2 * 2, lt_of_le_of_lt (Nat.div_mul_le_self _ _) t.isLt⟩

theorem firstOf_first (t : Fin cfg0.N) (h : t.val % 2 = 0) : firstOf t = t := Fin.ext (by show t.val / 2 * 2 = t.val; omega)

theorem firstOf_pred (t : Fin cfg0.N) (h : t.val % 2 ≠ 0) : firstOf ⟨t.val - 1, by omega⟩ = firstOf t :=
  Fin.ext (by show (t.val - 1) / 2 * 2 = t.val / 2 * 2; omega)

/-- The normalized rows of a point's row block, -/
def uAt (c : Dev nD) (t : Fin cfg0.N) : Vec F S1024x1024 .bf16 :=
  k0_pay1 (iblk m c 0 (firstOf t)) (iblk m c 1 (firstOf t)) (iblk m c 2 (firstOf t)) (iblk m c 3 (firstOf t))

/-- their products by the two halves' column blocks -/
def aAt (c : Dev nD) (t : Fin cfg0.N) : Vec F S1024x1408 .bf16 := aOf (uAt m c t) (iblk m c 4 t)
def bAt (c : Dev nD) (t : Fin cfg0.N) : Vec F S1024x1408 .bf16 := bOf (uAt m c t) (iblk m c 5 t)

/-- and the gated product. -/
def fAt (c : Dev nD) (t : Fin cfg0.N) : Vec F S1024x1408 .bf16 := fOf (uAt m c t) (iblk m c 4 t) (iblk m c 5 t)

/-- What the body leaves in each buffer at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => uAt m c t
    | ⟨7, _⟩ => aAt m c t
    | ⟨8, _⟩ => bAt m c t
    | ⟨9, _⟩ => fAt m c t
    | ⟨_ + 10, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = uAt m c t := by dsimp only [dats]
theorem after_7 (c : Dev nD) (t) : (dats m 0 c).after 7 t = aAt m c t := by dsimp only [dats]
theorem after_8 (c : Dev nD) (t) : (dats m 0 c).after 8 t = bAt m c t := by dsimp only [dats]
theorem after_9 (c : Dev nD) (t) : (dats m 0 c).after 9 t = fAt m c t := by dsimp only [dats]
theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d
theorem before_4 (c : Dev nD) (t d) : (dats m 0 c).before 4 t d = iblk m c 4 t := before0_4_of m (dats m 0 c) (A_eq m c 4) (after_4 m c) t d
theorem before_5 (c : Dev nD) (t d) : (dats m 0 c).before 5 t d = iblk m c 5 t := before0_5_of m (dats m 0 c) (A_eq m c 5) (after_5 m c) t d

/-- The body's condition holds at the first of every two points. -/
theorem cond_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem idle_6 : ∀ t : Fin cfg0.N, cfg0.idle 6 (cfg0.grid.coords t) = !decide (t.val % 2 = 0) :=
  (by decide +kernel : ∀ t : Fin grid0.N, (!(k0_cond1 (grid0.coords t) == 1#1)) = !decide (t.val % 2 = 0))

/-- The buffer of u holds what the body stored until its block is written back. -/
theorem fresh_6 : ∀ t : Fin cfg0.N, cfg0.fresh 6 t.val = decide (t.val % 2 = 0) :=
  (by decide +kernel : ∀ t : Fin grid0.N, cfg0.fresh 6 t.val = decide (t.val % 2 = 0))

theorem before_6 (c : Dev nD) (t : Fin cfg0.N) (h : t.val % 2 ≠ 0) (d) : (dats m 0 c).before 6 t d = uAt m c t := by
  rw [Dat.before_out_traj (dats m 0 c) 6 rfl (fun _ _ => rfl) (fun t _ _ hf => by
    rw [fresh_6] at hf
    rw [after_6, after_6]; unfold uAt
    rw [firstOf_pred t (of_decide_eq_false hf)]) t.val t rfl d, fresh_6, if_neg (by simpa using h), after_6]
  unfold uAt
  rw [firstOf_pred t h]

/-- Before the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)) ∗ (∃ d, owns (c : Thread nD τ) (st0_9 t) fullShare ((dats m 0 c).before 9 t d)))

/-- and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t) ∗ owns (c : Thread nD τ) (st0_9 t) fullShare ((dats m 0 c).after 9 t))

set_option maxHeartbeats 4000000 in
/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9]
  by_cases h : t.val % 2 = 0
  · unfold aAt bAt fAt uAt
    rw [firstOf_first t h]
    iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    iapply (run_first (F := F) c (grid0.coords t) _ _ _ _ _ _ _ _ _ _ _ _ _ _ _ _ _ _ _ _ _ _ _ _ _ _ ((cond_iff t).mpr h) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro HH
    isplitl [HΦ]; · iexact HΦ
    isplitl [HO]; · iexact HO
    iexact HH
  · simp only [before_6 m c t h]
    unfold aAt bAt fAt
    iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    iapply (run_next (F := F) c (grid0.coords t) _ _ _ _ _ _ _ _ _ _ _ _ _ _ _ _ _ _ _ _ _ _ _ _ _ _ (fun hc => h ((cond_iff t).mp hc)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro HH
    isplitl [HΦ]; · iexact HΦ
    isplitl [HO]; · iexact HO
    iexact HH

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. Where a buffer is left alone it holds what it held. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, HO, H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · rcases h : cfg0.idle 6 (cfg0.grid.coords t) with _ | _
    · iexact H6
    · rw [idle_6] at h
      rcases (cfg0.win 6).flush t with _ | _
      · iexists (fun _ => Classical.arbitrary _)
        rw [before_6 m c t (by simpa using h), after_6]
        iexact H6
      · iexact H6
  isplitl [H7]; · iexact H7
  isplitl [H8]; · iexact H8
  iexact H9

-- the launch theorem's implicit arguments are found by unifying its conclusion with this statement
set_option backward.isDefEq.respectTransparency.types false in
/-- From any memory with zero counters every weakly fair execution of @main ends with every counter at zero and the windows'
    arrays at what the points wrote back. -/
theorem run_main :
    θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run's arrays alone. -/
theorem run_arrays : θ_run defs (onTc (τ := τ) (main (F := F))) (s₀ m ρ) (Pipeline.FramePost cfgs (dats m) 0 (V m)) :=
  (θ_run defs _ _).mono (fun _ h => h.1) (run_main m ρ)

/-- The frame: every argument is as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_arrays m ρ)) ((θ_run defs _ _).mono (fun _ h => h.2) (run_main m ρ))

end Cert.Kernel12Ideal.Hand

end
-- ==== Proof.FfnUp.Machine.lean ====
/-
  The frame of the forward gated products over the machine's floats. The program printed for the machine and the one
  printed for the extended reals are the same text, and the run is proved over any float values.
-/
module

public import proofs.«01_k».proof.Proof.FfnUp.Frame
public import proofs.«01_k».proof.Defs
public import proofs.«01_k».proof.Proof.Gen.Kernel12

@[expose] public section

namespace Cert.Proof

open Idealize.ShloMosaic Idealize.SL.Sem

variable {F : FTy → Type} [FloatOps F]

set_option maxHeartbeats 40000000 in
/-- The two programs' bodies are the same text. -/
theorem body_eq12 : Cert.Kernel12.cc0_ffn_up (F := F) = Cert.Kernel12Ideal.cc0_ffn_up (F := F) := rfl

set_option maxHeartbeats 40000000 in
/-- So are their body tables, -/
theorem table_eq12 : Cert.Kernel12.defs₀ (F := F) = Cert.Kernel12Ideal.defs₀ (F := F) := by
  unfold Cert.Kernel12.defs₀ Cert.Kernel12Ideal.defs₀
  refine congrArg _ (funext fun l => funext fun a => ?_)
  match l, a with
  | 0, (t, s) => rfl
  | ⟨_ + 1, h⟩, _ => exact absurd h (Nat.not_lt.2 (Nat.le_add_left _ _))

set_option maxHeartbeats 40000000 in
/-- and their tables with the pipelines. -/
theorem defs_eq12 : Cert.Kernel12.defs (F := F) = Cert.Kernel12Ideal.defs (F := F) :=
  congrArg (Idealize.ShloMosaic.Pipeline.defs (Cert.Kernel12Ideal.pcfgs (F := F))) table_eq12

set_option maxHeartbeats 40000000 in
/-- Over the machine's floats the call ends, with its arguments unchanged and every counter at zero. -/
theorem frame_kernel12 : Cert.quiescent_Kernel12 := fun m ρ _ => by
  have h := Cert.Kernel12Ideal.Hand.frame (F := Bits) m ρ
  rw [← defs_eq12] at h
  exact h

end Cert.Proof

end
-- ==== Proof.FfnUp.Value.lean ====
/-
  The value of the forward products into the feed-forward layer: the stream's rows normalized and modulated, their products by
  the two halves of the up weight, and the gated product of the two.
-/
module

public import Idealize.ShloMosaic.Lib.Pipeline.ValueKit
public import proofs.«01_k».proof.Proof.Common
public import proofs.«01_k».proof.Proof.NormBwd
public import proofs.«01_k».proof.Defs
public import proofs.«01_k».proof.Proof.FfnUp.Frame
public import proofs.«01_k».proof.Proof.Gen.Reference12Ideal.Run
public import proofs.«01_k».proof.Proof.Gen.Reference12Ideal.Read

@[expose] public section

noncomputable section

namespace Cert.Kernel12Ideal.Hand

open Cert.Kernel12Ideal Cert.Kernel12Ideal.Gen Cert.Common Cert.NormBwd
open Idealize.ShloMosaic Idealize.ShloMosaic.TcCoe Idealize.SL.Sem
open Idealize.ShloMosaic.Pipeline (Dat)
open scoped BigOperators

section Block

variable (h : Vec Ideal S1024x1024 .f32) (n s b : Vec Ideal S1x1024 .f32) (u : Vec Ideal S1024x1024 .bf16)
  (w z : Vec Ideal S1024x512 .bf16) (w' z' : Vec Ideal S1024x384 .bf16) (wa wb : Vec Ideal S1024x1408 .bf16) (p : Fin 1024)

theorem mod_apply (q : Fin 1024) : (k0_pay1 h n s b (ix2 p q) : EReal)
    = modRow (row (M := 1024) h p) (row (M := 1) n 0) (row (M := 1) s 0) (row (M := 1) b 0) q := by
  unfold k0_pay1 modRow hat invRoot spread row
  pointwise

/-- The products by a column piece at an element. -/
abbrev dot (q : Fin 512) : EReal := rowDot (M := 1024) (K := 1024) (N := 512) u w p q
abbrev dot' (q : Fin 384) : EReal := rowDot (M := 1024) (K := 1024) (N := 384) u w' p q

theorem pay3_apply (q : Fin 512) : (k0_pay3 u w (ix2 p q) : EReal) = dot u w p q := by
  unfold k0_pay3 k0_pay2 dot rowDot
  pointwise

theorem pay4_apply (q : Fin 512) : (k0_pay4 u w (ix2 p q) : EReal) = dot u w p q := by
  unfold k0_pay4 k0_pay2 dot rowDot
  pointwise

theorem pay5_apply (q : Fin 512) : (k0_pay5 u w (ix2 p q) : EReal) = dot u w p q := by
  unfold k0_pay5 k0_pay2 dot rowDot
  pointwise

theorem pay6_apply (q : Fin 512) : (k0_pay6 u w (ix2 p q) : EReal) = dot u w p q := by
  unfold k0_pay6 k0_pay2 dot rowDot
  pointwise

theorem pay10_apply (q : Fin 384) : (k0_pay10 (k0_pay2 u) w' (ix2 p q) : EReal) = dot' u w' p q := by
  unfold k0_pay10 k0_pay2 dot' rowDot
  pointwise

theorem pay11_apply (q : Fin 384) : (k0_pay11 (k0_pay2 u) w' (ix2 p q) : EReal) = dot' u w' p q := by
  unfold k0_pay11 k0_pay2 dot' rowDot
  pointwise

theorem pay9_apply (q : Fin 512) : (k0_pay9 u w z (ix2 p q) : EReal) = silu (dot u w p q) * dot u z p q := by
  rw [← pay3_apply, ← pay4_apply]
  unfold k0_pay9 silu
  generalize k0_pay3 u w = x
  generalize k0_pay4 u z = y
  pointwise
  rw [zero_sub]

theorem pay14_apply (q : Fin 512) : (k0_pay14 (k0_pay5 u w) (k0_pay6 u z) (ix2 p q) : EReal) = silu (dot u w p q) * dot u z p q := by
  rw [← pay5_apply, ← pay6_apply]
  unfold k0_pay14 silu
  generalize k0_pay5 u w = x
  generalize k0_pay6 u z = y
  pointwise
  rw [zero_sub]

theorem pay17_apply (q : Fin 384) : (k0_pay17 (k0_pay2 u) w' z' (ix2 p q) : EReal) = silu (dot' u w' p q) * dot' u z' p q := by
  rw [← pay10_apply, ← pay11_apply]
  unfold k0_pay17 silu
  generalize k0_pay10 (k0_pay2 u) w' = x
  generalize k0_pay11 (k0_pay2 u) z' = y
  pointwise
  rw [zero_sub]

/-- A block out of three column pieces, when each is a piece of one function of the column. -/
theorem cols3_apply (b1 b2 : Vec Ideal S1024x512 .bf16) (b3 : Vec Ideal S1024x384 .bf16) (f : Fin 1408 → EReal)
    (h1 : ∀ q : Fin 512, (b1 (ix2 p q) : EReal) = f ⟨0 + q.val, by omega⟩) (h2 : ∀ q : Fin 512, (b2 (ix2 p q) : EReal) = f ⟨512 + q.val, by omega⟩)
    (h3 : ∀ q : Fin 384, (b3 (ix2 p q) : EReal) = f ⟨1024 + q.val, by omega⟩) (q : Fin 1408) : (cols3 b1 b2 b3 (ix2 p q) : EReal) = f q := by
  unfold cols3
  by_cases c1 : q.val < 512
  · rw [dif_pos (show ((ix2 p q : S1024x1408.Idx) 1).val < 512 from c1)]
    exact (h1 ⟨q.val, c1⟩).trans (congrArg f (Fin.ext (Nat.zero_add _)))
  rw [dif_neg (show ¬((ix2 p q : S1024x1408.Idx) 1).val < 512 from c1)]
  by_cases c2 : q.val < 1024
  · rw [dif_pos (show ((ix2 p q : S1024x1408.Idx) 1).val < 1024 from c2)]
    exact (h2 ⟨q.val - 512, by omega⟩).trans (congrArg f (Fin.ext (show 512 + (q.val - 512) = q.val by omega)))
  rw [dif_neg (show ¬((ix2 p q : S1024x1408.Idx) 1).val < 1024 from c2)]
  exact (h3 ⟨q.val - 1024, by omega⟩).trans (congrArg f (Fin.ext (show 1024 + (q.val - 1024) = q.val by omega)))

theorem aOf_apply (q : Fin 1408) : (aOf u wa (ix2 p q) : EReal) = rowDot (M := 1024) (K := 1024) (N := 1408) u wa p q :=
  cols3_apply p _ _ _ (rowDot (M := 1024) (K := 1024) (N := 1408) u wa p) (pay3_apply u _ p) (pay5_apply u _ p) (pay10_apply u _ p) q

theorem bOf_apply (q : Fin 1408) : (bOf u wb (ix2 p q) : EReal) = rowDot (M := 1024) (K := 1024) (N := 1408) u wb p q :=
  cols3_apply p _ _ _ (rowDot (M := 1024) (K := 1024) (N := 1408) u wb p) (pay4_apply u _ p) (pay6_apply u _ p) (pay11_apply u _ p) q

theorem fOf_apply (q : Fin 1408) : (fOf u wa wb (ix2 p q) : EReal)
    = silu (rowDot (M := 1024) (K := 1024) (N := 1408) u wa p q) * rowDot (M := 1024) (K := 1024) (N := 1408) u wb p q :=
  cols3_apply p _ _ _ (fun q => silu (rowDot (M := 1024) (K := 1024) (N := 1408) u wa p q) * rowDot (M := 1024) (K := 1024) (N := 1408) u wb p q)
    (pay9_apply u _ _ p) (pay14_apply u _ _ p) (pay17_apply u _ _ p) q

end Block

variable (m : (ℓ : Loc nD τ sig) → Buf (Elt Ideal) ℓ) (ρ : Dev nD → PrngReg)

/-- The arguments. -/
abbrev stream (c : Dev nD) : (⟨2, ![8192, 1024]⟩ : Shape).Idx → EReal := m ((c : Thread nD τ).loc main_arg0)
abbrev normW (c : Dev nD) : (⟨2, ![1, 1024]⟩ : Shape).Idx → EReal := m ((c : Thread nD τ).loc main_arg1)
abbrev scale (c : Dev nD) : (⟨2, ![1, 1024]⟩ : Shape).Idx → EReal := m ((c : Thread nD τ).loc main_arg2)
abbrev shift (c : Dev nD) : (⟨2, ![1, 1024]⟩ : Shape).Idx → EReal := m ((c : Thread nD τ).loc main_arg3)
abbrev upW (c : Dev nD) : (⟨2, ![1024, 5632]⟩ : Shape).Idx → EReal := m ((c : Thread nD τ).loc main_arg4)

/-- A modulated row, -/
def modAt (c : Dev nD) (r : Fin 8192) : Fin 1024 → EReal :=
  modRow (row (stream m c) r) (row (normW m c) 0) (row (scale m c) 0) (row (shift m c) 0)

/-- and its product by a column of the weight: the first half's columns are the gates', the second half's the gated. -/
def prodAt (c : Dev nD) (r : Fin 8192) (s : Fin 5632) : EReal := ∑ k : Fin 1024, modAt m c r k * upW m c (ix2 k s)

abbrev lo (q : Fin 2816) : Fin 5632 := ⟨q.val, by omega⟩
abbrev hi (q : Fin 2816) : Fin 5632 := ⟨2816 + q.val, by omega⟩

/-- Point `t` is on row block `t / 2` and on column block `t % 2` of each half; -/
theorem block_index : ∀ t : Fin cfg0.N, (win0_0.index t 0 = t.val / 2 ∧ win0_0.index t 1 = 0)
    ∧ (win0_4.index t 0 = 0 ∧ win0_4.index t 1 = t.val % 2) ∧ (win0_5.index t 0 = 0 ∧ win0_5.index t 1 = t.val % 2 + 2)
    ∧ (win0_6.index t 0 = t.val / 2 ∧ win0_6.index t 1 = 0) ∧ (win0_7.index t 0 = t.val / 2 ∧ win0_7.index t 1 = t.val % 2)
    ∧ (win0_8.index t 0 = t.val / 2 ∧ win0_8.index t 1 = t.val % 2) ∧ (win0_9.index t 0 = t.val / 2 ∧ win0_9.index t 1 = t.val % 2) :=
  (by decide +kernel : ∀ t : Fin grid0.N, _)

/-- the row arguments are whole at every point. -/
theorem whole_index : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin grid0.N, _)

section Rows

variable (c : Dev nD) (t : Fin cfg0.N) (p : Fin 1024) (r : Fin 8192) (hr : r.val = t.val / 2 * 1024 + p.val)
include hr

/-- Row `p` of the block of modulated rows is that of the array's row. -/
theorem u_eq (q : Fin 1024) : (uAt m c t (ix2 p q) : EReal) = modAt m c r q := by
  obtain ⟨⟨e0, f0⟩, -⟩ := block_index (firstOf t)
  obtain ⟨⟨e1, f1⟩, ⟨e2, f2⟩, ⟨e3, f3⟩⟩ := whole_index (firstOf t)
  have ht : (firstOf t).val / 2 = t.val / 2 := by show t.val / 2 * 2 / 2 = _; omega
  rw [ht] at e0
  refine (mod_apply _ _ _ _ p q).trans ?_
  unfold modAt
  congr 1 <;> funext k
  · refine at2 (stream m c) _ _ ?_ ?_
    · show win0_0.index (firstOf t) 0 * 1024 + 1 * p.val = r.val; rw [e0]; omega
    · show win0_0.index (firstOf t) 1 * 1024 + 1 * k.val = k.val; rw [f0]; omega
  · refine at2 (normW m c) _ _ ?_ ?_
    · show win0_1.index (firstOf t) 0 * 1 + 1 * 0 = 0; rw [e1]
    · show win0_1.index (firstOf t) 1 * 1024 + 1 * k.val = k.val; rw [f1]; omega
  · refine at2 (scale m c) _ _ ?_ ?_
    · show win0_2.index (firstOf t) 0 * 1 + 1 * 0 = 0; rw [e2]
    · show win0_2.index (firstOf t) 1 * 1024 + 1 * k.val = k.val; rw [f2]; omega
  · refine at2 (shift m c) _ _ ?_ ?_
    · show win0_3.index (firstOf t) 0 * 1 + 1 * 0 = 0; rw [e3]
    · show win0_3.index (firstOf t) 1 * 1024 + 1 * k.val = k.val; rw [f3]; omega

variable (q : Fin 1408) (s : Fin 2816) (hs : s.val = t.val % 2 * 1408 + q.val)
include hs

/-- The products by the blocks of the two halves. -/
theorem a_dot : rowDot (M := 1024) (K := 1024) (N := 1408) (uAt m c t) (iblk m c 4 t) p q = prodAt m c r (lo s) := by
  obtain ⟨-, ⟨e, f⟩, -⟩ := block_index t
  refine Finset.sum_congr rfl fun k _ => congrArg₂ (· * ·) (u_eq m c t p r hr k) (at2 (upW m c) _ _ ?_ ?_)
  · show win0_4.index t 0 * 1024 + 1 * k.val = k.val; rw [e]; omega
  · show win0_4.index t 1 * 1408 + 1 * q.val = s.val; rw [f]; omega

theorem b_dot : rowDot (M := 1024) (K := 1024) (N := 1408) (uAt m c t) (iblk m c 5 t) p q = prodAt m c r (hi s) := by
  obtain ⟨-, -, ⟨e, f⟩, -⟩ := block_index t
  refine Finset.sum_congr rfl fun k _ => congrArg₂ (· * ·) (u_eq m c t p r hr k) (at2 (upW m c) _ _ ?_ ?_)
  · show win0_5.index t 0 * 1024 + 1 * k.val = k.val; rw [e]; omega
  · show win0_5.index t 1 * 1408 + 1 * q.val = 2816 + s.val; rw [f]; omega

theorem a_eq : (aAt m c t (ix2 p q) : EReal) = prodAt m c r (lo s) := (aOf_apply _ _ p q).trans (a_dot m c t p r hr q s hs)

theorem b_eq : (bAt m c t (ix2 p q) : EReal) = prodAt m c r (hi s) := (bOf_apply _ _ p q).trans (b_dot m c t p r hr q s hs)

theorem f_eq : (fAt m c t (ix2 p q) : EReal) = silu (prodAt m c r (lo s)) * prodAt m c r (hi s) :=
  (fOf_apply _ _ _ p q).trans (congrArg₂ (fun a b => silu a * b) (a_dot m c t p r hr q s hs) (b_dot m c t p r hr q s hs))

end Rows

theorem out6 (c : Dev nD) : (dats m 0 c).arrAt 6 cfg0.N = fun i : (⟨2, ![8192, 1024]⟩ : Shape).Idx => modAt m c (i 0) (i 1) := by
  refine (dats m 0 c).arrAt_eq_of_covers 6 _ (by decide +kernel) fun t hf y => ?_
  blk_simp
  obtain ⟨-, -, -, ⟨e, f⟩, -⟩ := block_index t
  have hr : ((win0_6.blk t).view.emb y 0).val = t.val / 2 * 1024 + (y 0).val := by
    show win0_6.index t 0 * 1024 + 1 * (y 0).val = _; rw [e]; omega
  have hq : (win0_6.blk t).view.emb y 1 = y 1 := Fin.ext (by
    show win0_6.index t 1 * 1024 + 1 * (y 1).val = _; rw [f]; omega)
  have hu := u_eq m c t (y 0) _ hr (y 1)
  rw [after_6]
  rw [ix2_eta, ← hq] at hu
  exact hu

theorem out7 (c : Dev nD) : (dats m 0 c).arrAt 7 cfg0.N
    = fun i : (⟨2, ![8192, 2816]⟩ : Shape).Idx => prodAt m c (i 0) (lo (i 1)) := by
  refine (dats m 0 c).arrAt_eq_of_covers 7 _ (by decide +kernel) fun t hf y => ?_
  blk_simp
  obtain ⟨-, -, -, -, ⟨e, f⟩, -⟩ := block_index t
  have hr : ((win0_7.blk t).view.emb y 0).val = t.val / 2 * 1024 + (y 0).val := by
    show win0_7.index t 0 * 1024 + 1 * (y 0).val = _; rw [e]; omega
  have hs : ((win0_7.blk t).view.emb y 1).val = t.val % 2 * 1408 + (y 1).val := by
    show win0_7.index t 1 * 1408 + 1 * (y 1).val = _; rw [f]; omega
  have hp := a_eq m c t (y 0) _ hr (y 1) _ hs
  rw [after_7]
  rw [ix2_eta] at hp
  exact hp

theorem out8 (c : Dev nD) : (dats m 0 c).arrAt 8 cfg0.N
    = fun i : (⟨2, ![8192, 2816]⟩ : Shape).Idx => prodAt m c (i 0) (hi (i 1)) := by
  refine (dats m 0 c).arrAt_eq_of_covers 8 _ (by decide +kernel) fun t hf y => ?_
  blk_simp
  obtain ⟨-, -, -, -, -, ⟨e, f⟩, -⟩ := block_index t
  have hr : ((win0_8.blk t).view.emb y 0).val = t.val / 2 * 1024 + (y 0).val := by
    show win0_8.index t 0 * 1024 + 1 * (y 0).val = _; rw [e]; omega
  have hs : ((win0_8.blk t).view.emb y 1).val = t.val % 2 * 1408 + (y 1).val := by
    show win0_8.index t 1 * 1408 + 1 * (y 1).val = _; rw [f]; omega
  have hp := b_eq m c t (y 0) _ hr (y 1) _ hs
  rw [after_8]
  rw [ix2_eta] at hp
  exact hp

theorem out9 (c : Dev nD) : (dats m 0 c).arrAt 9 cfg0.N
    = fun i : (⟨2, ![8192, 2816]⟩ : Shape).Idx => silu (prodAt m c (i 0) (lo (i 1))) * prodAt m c (i 0) (hi (i 1)) := by
  refine (dats m 0 c).arrAt_eq_of_covers 9 _ (by decide +kernel) fun t hf y => ?_
  blk_simp
  obtain ⟨-, -, -, -, -, -, ⟨e, f⟩⟩ := block_index t
  have hr : ((win0_9.blk t).view.emb y 0).val = t.val / 2 * 1024 + (y 0).val := by
    show win0_9.index t 0 * 1024 + 1 * (y 0).val = _; rw [e]; omega
  have hs : ((win0_9.blk t).view.emb y 1).val = t.val % 2 * 1408 + (y 1).val := by
    show win0_9.index t 1 * 1408 + 1 * (y 1).val = _; rw [f]; omega
  have hp := f_eq m c t (y 0) _ hr (y 1) _ hs
  rw [after_9]
  rw [ix2_eta] at hp
  exact hp

/-- An argument's array after the run is as launched. -/
theorem kept {r : PUnit × MemSt nD τ sig (Elt Ideal)} (h : Pipeline.FramePost cfgs (dats m) 0 (V m) r) (c : Dev nD) (w : Fin cfg0.W)
    (hw : (cfg0.win w).isOut = false) : r.2.mem ((cfg0.win w).arr.view.loc (c.tc : Thread nD τ)) = V m c (Pipeline.arrRef spec0 w) :=
  ((h c).1 w).trans (((dats m 0 c).arrAt_in w hw _).trans (A_eq m c w))

/-- The run with the result arrays named and the arguments unchanged. -/
theorem run_blocks : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7, (h c).1 8, (h c).1 9, kept m h c 0 rfl, kept m h c 1 rfl, kept m h c 2 rfl,
    kept m h c 3 rfl, kept m h c 4 rfl⟩) (run_arrays m ρ)

end Cert.Kernel12Ideal.Hand

namespace Cert.Proof

open Cert.Common Cert.NormBwd
open Idealize.ShloMosaic Idealize.ShloMosaic.TcCoe Idealize.SL.Sem
open scoped BigOperators

section Reference

open Cert.Reference12Ideal.Read Cert.Kernel12Ideal.Hand

variable (x0 : (⟨2, ![8192, 1024]⟩ : Shape).Idx → EReal) (x1 x2 x3 : (⟨2, ![1, 1024]⟩ : Shape).Idx → EReal)
  (x4 : (⟨2, ![1024, 5632]⟩ : Shape).Idx → EReal)

theorem reference12_spread (p : Fin 8192) : (val_main_v6 (F := Ideal) x0 (ix2 p 0) : EReal) = spread (row x0 p) := by
  unfold val_main_v6 val_main_v5 val_main_v4 val_main_v3 val_main_v2 val_main_v1 val_main_v0 val_main_cst val_main_cst_0
    val_main_cst_1 spread row
  pointwise

theorem reference12_mod (p : Fin 8192) (q : Fin 1024) : (val_main_v17 (F := Ideal) x0 x1 x2 x3 (ix2 p q) : EReal)
    = modRow (row x0 p) (row x1 0) (row x2 0) (row x3 0) q := by
  unfold modRow hat invRoot
  rw [← reference12_spread x0 p]
  unfold val_main_v17 val_main_v16 val_main_v15 val_main_v14 val_main_v13 val_main_v12 val_main_v11 val_main_v10 val_main_v9
    val_main_v8 val_main_v7 val_main_cst_2
  generalize val_main_v6 (F := Ideal) x0 = v
  pointwise

theorem reference12_prod (p : Fin 8192) (s : Fin 5632) : (val_main_v19 (F := Ideal) x0 x1 x2 x3 x4 (ix2 p s) : EReal)
    = ∑ k : Fin 1024, modRow (row x0 p) (row x1 0) (row x2 0) (row x3 0) k * x4 (ix2 k s) := by
  simp only [← reference12_mod]
  unfold val_main_v19 val_main_v18
  generalize val_main_v17 (F := Ideal) x0 x1 x2 x3 = u
  pointwise

theorem reference12_rows_at (p : Fin 8192) (q : Fin 1024) : (val_main_v22 (F := Ideal) x0 x1 x2 x3 (ix2 p q) : EReal)
    = modRow (row x0 p) (row x1 0) (row x2 0) (row x3 0) q := by
  rw [← reference12_mod]
  unfold val_main_v22
  generalize val_main_v17 (F := Ideal) x0 x1 x2 x3 = u
  pointwise

theorem reference12_a_at (p : Fin 8192) (q : Fin 2816) : (val_main_v23 (F := Ideal) x0 x1 x2 x3 x4 (ix2 p q) : EReal)
    = ∑ k : Fin 1024, modRow (row x0 p) (row x1 0) (row x2 0) (row x3 0) k * x4 (ix2 k (lo q)) := by
  rw [← reference12_prod]
  unfold val_main_v23 val_main_v20
  generalize val_main_v19 (F := Ideal) x0 x1 x2 x3 x4 = u
  pointwise

theorem reference12_b_at (p : Fin 8192) (q : Fin 2816) : (val_main_v24 (F := Ideal) x0 x1 x2 x3 x4 (ix2 p q) : EReal)
    = ∑ k : Fin 1024, modRow (row x0 p) (row x1 0) (row x2 0) (row x3 0) k * x4 (ix2 k (hi q)) := by
  rw [← reference12_prod]
  unfold val_main_v24 val_main_v21
  generalize val_main_v19 (F := Ideal) x0 x1 x2 x3 x4 = u
  pointwise

theorem reference12_f_at (p : Fin 8192) (q : Fin 2816) : (val_main_v27 (F := Ideal) x0 x1 x2 x3 x4 (ix2 p q) : EReal)
    = silu (∑ k : Fin 1024, modRow (row x0 p) (row x1 0) (row x2 0) (row x3 0) k * x4 (ix2 k (lo q)))
      * ∑ k : Fin 1024, modRow (row x0 p) (row x1 0) (row x2 0) (row x3 0) k * x4 (ix2 k (hi q)) := by
  rw [← reference12_prod, ← reference12_prod]
  unfold val_main_v27 val_main_v26 val_main_v25 val_main_call0_v5 val_main_call0_v4 val_main_call0_cst_0 val_main_call0_v3
    val_main_call0_v2 val_main_call0_cst val_main_call0_v1 val_main_call0_v0 val_main_v20 val_main_v21 silu
  generalize val_main_v19 (F := Ideal) x0 x1 x2 x3 x4 = u
  pointwise

end Reference

/-- Over the extended reals the call computes the reference's modulated rows, their two products and the gated product. -/
theorem algebraic12 : Cert.algebraic_Kernel12Ideal_Reference12Ideal := by
  intro m g m' g' _ hargs
  have run := Cert.Kernel12Ideal.Hand.run_blocks m g
  simp only [Cert.Kernel12Ideal.Hand.out6, Cert.Kernel12Ideal.Hand.out7, Cert.Kernel12Ideal.Hand.out8, Cert.Kernel12Ideal.Hand.out9] at run
  refine ⟨_, _, _, _, run, ?_⟩
  refine (θ_run Cert.Reference12Ideal.defs _ _).mono (fun r h c => ?_) (Cert.Reference12Ideal.Value.run m' g')
  obtain ⟨h0, h1, h2, h3, keep⟩ := h c
  obtain ⟨a0, a1, a2, a3, a4⟩ := hargs c
  rw [Cert.Reference12Ideal.Read.val_main_v22_eq, a0, a1, a2, a3] at h0
  rw [Cert.Reference12Ideal.Read.val_main_v23_eq, a0, a1, a2, a3, a4] at h1
  rw [Cert.Reference12Ideal.Read.val_main_v24_eq, a0, a1, a2, a3, a4] at h2
  rw [Cert.Reference12Ideal.Read.val_main_v27_eq, a0, a1, a2, a3, a4] at h3
  refine ⟨h0.trans (funext fun i => ?_), h1.trans (funext fun i => ?_), h2.trans (funext fun i => ?_), h3.trans (funext fun i => ?_), keep⟩
  · exact (congrArg _ (ix2_eta i).symm).trans (reference12_rows_at _ _ _ _ (i 0) (i 1))
  · exact (congrArg _ (ix2_eta i).symm).trans (reference12_a_at _ _ _ _ _ (i 0) (i 1))
  · exact (congrArg _ (ix2_eta i).symm).trans (reference12_b_at _ _ _ _ _ (i 0) (i 1))
  · exact (congrArg _ (ix2_eta i).symm).trans (reference12_f_at _ _ _ _ _ (i 0) (i 1))

end Cert.Proof

end
-- ==== Proof.FfnDown.lean ====
/-
  The value of the down projection: the product of the activations by the down weight, and the half step that adds it to the
  stream, in blocks of 512 rows against the whole weight.
-/
module

public import Idealize.ShloMosaic.Lib.Pipeline.ValueKit
public import proofs.«01_k».proof.Proof.Common
public import proofs.«01_k».proof.Defs
public import proofs.«01_k».proof.Proof.Gen.Kernel13Ideal.Value
public import proofs.«01_k».proof.Proof.Gen.Kernel13Ideal.Skeleton
public import proofs.«01_k».proof.Proof.Gen.Reference13Ideal.Run
public import proofs.«01_k».proof.Proof.Gen.Reference13Ideal.Read

@[expose] public section

noncomputable section

namespace Cert.Kernel13Ideal.Hand

open Cert.Kernel13Ideal Cert.Kernel13Ideal.Gen Cert.Kernel13Ideal.Value Cert.Common
open Idealize.ShloMosaic Idealize.ShloMosaic.TcCoe Idealize.SL.Sem
open Idealize.ShloMosaic.Pipeline (Dat)
open scoped BigOperators

/-- The stream after the half step, at an element: what it was plus half the gate times the product. -/
def halfStep (h g y : EReal) : EReal := h + Ideal.ofBits .f32 0x3F000000#32 * g * y

variable (m : (ℓ : Loc nD τ sig) → Buf (Elt Ideal) ℓ)

/-- The four arrays on device `c`: the activations, the weight, the stream and the gate's row. -/
abbrev act (c : Dev nD) : (⟨2, ![8192, 2816]⟩ : Shape).Idx → EReal := m ((c : Thread nD τ).loc main_arg0)
abbrev weight (c : Dev nD) : (⟨2, ![2816, 1024]⟩ : Shape).Idx → EReal := m ((c : Thread nD τ).loc main_arg1)
abbrev stream (c : Dev nD) : (⟨2, ![8192, 1024]⟩ : Shape).Idx → EReal := m ((c : Thread nD τ).loc main_arg2)
abbrev gate (c : Dev nD) : (⟨2, ![1, 1024]⟩ : Shape).Idx → EReal := m ((c : Thread nD τ).loc main_arg3)

/-- The row arrays' blocks are block `t` of their rows; the weight and the gate are whole at every point. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0)
    ∧ (win0_5.index t 0 = t.val ∧ win0_5.index t 1 = 0) :=
  (by decide +kernel : ∀ t : Fin grid0.N, _)

/-- The block's product at an element. -/
theorem prod_apply (x0 : Vec Ideal S512x2816 .bf16) (x1 : Vec Ideal S2816x1024 .bf16) (y : S512x1024.Idx) :
    (k0_pay1 x0 x1 y : EReal) = rowDot (M := 512) (K := 2816) (N := 1024) x0 x1 (y 0) (y 1) := by
  unfold k0_pay1 rowDot
  pointwise

/-- The blocks at point `t`, at an element, are the arrays at row `512 * t` plus the element's. -/
theorem block_eq (c : Dev nD) (t : Fin cfg0.N) (y : S512x1024.Idx) (i : (⟨2, ![8192, 1024]⟩ : Shape).Idx)
    (h0 : (i 0).val = t.val * 512 + (y 0).val) (h1 : (i 1).val = (y 1).val) :
    rowDot (M := 512) (K := 2816) (N := 1024) (iblk m c 0 t) (iblk m c 1 t) (y 0) (y 1) = rowDot (act m c) (weight m c) (i 0) (i 1)
      ∧ iblk m c 2 t y = stream m c i ∧ iblk m c 3 t (ix2 0 (y 1)) = gate m c (ix2 0 (i 1)) := by
  obtain ⟨⟨a0, a1⟩, ⟨b0, b1⟩, ⟨c0, c1⟩, ⟨d0, d1⟩, _⟩ := index_facts t
  refine ⟨Finset.sum_congr rfl fun k _ => congrArg₂ (· * ·) (at2 (act m c) _ _ ?_ ?_) (at2 (weight m c) _ _ ?_ ?_),
    at2 (stream m c) _ _ ?_ ?_, at2 (gate m c) _ _ ?_ ?_⟩
  · show win0_0.index t 0 * 512 + 1 * (y 0).val = (i 0).val; rw [a0, h0]; omega
  · show win0_0.index t 1 * 2816 + 1 * k.val = k.val; rw [a1]; omega
  · show win0_1.index t 0 * 2816 + 1 * k.val = k.val; rw [b0]; omega
  · show win0_1.index t 1 * 1024 + 1 * (y 1).val = (i 1).val; rw [b1, h1]; omega
  · show win0_2.index t 0 * 512 + 1 * (y 0).val = (i 0).val; rw [c0, h0]; omega
  · show win0_2.index t 1 * 1024 + 1 * (y 1).val = (i 1).val; rw [c1, h1]; omega
  · show win0_3.index t 0 * 1 + 1 * 0 = 0; rw [d0]
  · show win0_3.index t 1 * 1024 + 1 * (y 1).val = (i 1).val; rw [d1, h1]; omega

/-! ## The two arrays after the run -/

theorem out4 (c : Dev nD) : (dats m 0 c).arrAt 4 cfg0.N = fun i => rowDot (act m c) (weight m c) (i 0) (i 1) := by
  refine (dats m 0 c).arrAt_eq_of_covers 4 _ (by decide +kernel) fun t hf y => ?_
  obtain ⟨_, _, _, _, ⟨e0, e1⟩, _⟩ := index_facts t
  blk_simp
  rw [after0_4]
  frame_out
  exact (prod_apply _ _ _).trans (block_eq m c t y (((cfg0.win 4).blk t).view.emb y)
    (by show win0_4.index t 0 * 512 + 1 * (y 0).val = _; rw [e0]; omega)
    (by show win0_4.index t 1 * 1024 + 1 * (y 1).val = _; rw [e1]; omega)).1

theorem out5 (c : Dev nD) : (dats m 0 c).arrAt 5 cfg0.N
    = fun i => halfStep (stream m c i) (gate m c (ix2 0 (i 1))) (rowDot (act m c) (weight m c) (i 0) (i 1)) := by
  refine (dats m 0 c).arrAt_eq_of_covers 5 _ (by decide +kernel) fun t hf y => ?_
  obtain ⟨_, _, _, _, _, ⟨e0, e1⟩⟩ := index_facts t
  blk_simp
  rw [after0_5]
  frame_out
  obtain ⟨r0, r1, r2⟩ := block_eq m c t y (((cfg0.win 5).blk t).view.emb y)
    (by show win0_5.index t 0 * 512 + 1 * (y 0).val = _; rw [e0]; omega)
    (by show win0_5.index t 1 * 1024 + 1 * (y 1).val = _; rw [e1]; omega)
  refine Eq.trans ?_ (congrArg₂ (· + ·) r1 (congrArg₂ (· * ·) (congrArg (_ * ·) r2) r0))
  rw [← prod_apply]
  unfold k0_pay3
  generalize k0_pay1 (iblk m c 0 t) (iblk m c 1 t) = p
  pointwise

end Cert.Kernel13Ideal.Hand

namespace Cert.Proof

open Cert.Common Cert.Kernel13Ideal.Hand
open Idealize.ShloMosaic Idealize.ShloMosaic.TcCoe Idealize.SL.Sem
open scoped BigOperators

/-- The reference's product. -/
theorem reference13_prod (x0 : (⟨2, ![8192, 2816]⟩ : Shape).Idx → EReal) (x1 : (⟨2, ![2816, 1024]⟩ : Shape).Idx → EReal) :
    Cert.Reference13Ideal.Read.val_main_v2 (F := Ideal) x0 x1 = fun i => rowDot x0 x1 (i 0) (i 1) := by
  funext i
  rw [Cert.Reference13Ideal.Read.val_main_v2_apply]
  exact Finset.sum_congr rfl fun k _ => congrArg₂ (· * ·) (at2 x0 _ _ rfl rfl) (at2 x1 _ _ rfl rfl)

/-- The reference's stream. -/
theorem reference13_step (x0 : (⟨2, ![8192, 2816]⟩ : Shape).Idx → EReal) (x1 : (⟨2, ![2816, 1024]⟩ : Shape).Idx → EReal)
    (x2 : (⟨2, ![8192, 1024]⟩ : Shape).Idx → EReal) (x3 : (⟨2, ![1, 1024]⟩ : Shape).Idx → EReal) :
    Cert.Reference13Ideal.Read.val_main_v8 (F := Ideal) x0 x1 x2 x3
      = fun i => halfStep (x2 i) (x3 (ix2 0 (i 1))) (rowDot x0 x1 (i 0) (i 1)) := by
  funext i
  rw [Cert.Reference13Ideal.Read.val_main_v8_apply, Cert.Reference13Ideal.Read.val_main_v7_apply,
    Cert.Reference13Ideal.Read.val_main_v6_apply, reference13_prod]
  exact congrArg (fun z => halfStep (x2 i) z (rowDot x0 x1 (i 0) (i 1))) (at2 x3 _ (ix2 0 (i 1)) rfl rfl)

/-- `ffn_down` equals its reference. -/
theorem algebraic13 : Cert.algebraic_Kernel13Ideal_Reference13Ideal := by
  intro m g m' g' _ hargs
  have run := Cert.Kernel13Ideal.Value.run_blocks (F := Ideal) m g
  simp only [out4, out5] at run
  refine ⟨_, _, run, ?_⟩
  refine (θ_run Cert.Reference13Ideal.defs _ _).mono (fun r h c => ?_) (Cert.Reference13Ideal.Value.run m' g')
  obtain ⟨h0, h1, keep⟩ := h c
  obtain ⟨a0, a1, a2, a3⟩ := hargs c
  rw [a0, a1] at h0 h1
  rw [a2, a3] at h1
  exact ⟨h0.trans (reference13_prod _ _), h1.trans (reference13_step _ _ _ _), keep⟩

end Cert.Proof

end
-- ==== Proof.InProj.Frame.lean ====
/-
  The forward products into the mixer: the run of the printed call. At the first of the five points over a row block the
  body normalizes and modulates the block's rows into u and multiplies u by the narrow weight; at every point it multiplies u
  by a column block of the wide weight. u and its narrow product stay in their buffers through the other four points.
-/
module

public import proofs.«01_k».proof.Proof.Gen.Kernel14Ideal.Frame
public import proofs.«01_k».proof.Proof.Gen.Kernel14Ideal.Skeleton
public import Idealize.ShloMosaic.Lib.Pipeline.TableIdle
public import Idealize.ShloMosaic.Lib.VecWindow
public import Idealize.ShloMosaic.Lib.Claim

@[expose] public section

set_option maxRecDepth 16384

noncomputable section

namespace Cert.Kernel14Ideal.Hand

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A load of a whole buffer held at `x` gives `x`. -/
theorem load_all {s : Shape} {e : EltTy} {a : Memref sig .tc .vmem s e} (h : a.IsWhole) (x : Vec F s e) {off : Fin s.rank → ℕ}
    (inb : ∀ k, off k + s.size k ≤ s.size k) :
    View.readAt (Elt F) a.view (Rect.unit off s.size inb).toLoadRect (h.unread x) = x :=
  (View.readAt_full _ _ inb).trans (h.read_unread x)

section Body

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x1536 .bf16) (harg6 : arg6.IsWhole) (arg7 : Memref sig .tc .vmem S1024x256 .bf16) (harg7 : arg7.IsWhole)
  (arg8 : Memref sig .tc .vmem S1024x1024 .bf16) (harg8 : arg8.IsWhole) (arg9 : Memref sig .tc .vmem S1024x1536 .bf16) (harg9 : arg9.IsWhole)
  (arg10 : Memref sig .tc .vmem S1024x256 .f32) (harg10 : arg10.IsWhole)
  (x0 : Vec F S1024x1024 .f32) (x1 x2 x3 : Vec F S1x1024 .f32) (x4 : Vec F S1024x1536 .bf16) (x5 : Vec F S1024x256 .bf16)

set_option maxHeartbeats 1000000 in
/-- The body at the first point over a row block. -/
theorem run_first (hc : k0_cond1 i = 1#1) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ (∃ d, owns (c : Thread nD τ) arg8 fullShare d) ∗ (∃ d, owns (c : Thread nD τ) arg9 fullShare d)
      ∗ (∃ d, owns (c : Thread nD τ) arg10 fullShare d)
      ∗ ((owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare (k0_pay1 x0 x1 x2 x3)
          ∗ owns (c : Thread nD τ) arg9 fullShare (k0_pay3 (k0_pay1 x0 x1 x2 x3) x4)
          ∗ owns (c : Thread nD τ) arg10 fullShare (k0_pay2 x0 x1 x2 x3 x5)) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩,
    ⟨%d6, %f6, -, H6⟩, ⟨%d7, %f7, -, H7⟩, ⟨%d8, %f8, -, H8⟩, Hk⟩
  obtain rfl := harg2.eq_unread h0; obtain rfl := harg3.eq_unread h1; obtain rfl := harg4.eq_unread h2
  obtain rfl := harg5.eq_unread h3; obtain rfl := harg6.eq_unread h4; obtain rfl := harg7.eq_unread h5
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    refine (View.read_writes_full _ _ _ _ _).trans ?_
    rw [load_all harg2, load_all harg3, load_all harg4, load_all harg5]
  isplitl [H7]
  · iexists _; isplitr; swap; · iexact H7
    ipureintro
    refine (View.read_writes_full _ _ _ _ _).trans ?_
    refine congrArg₂ k0_pay3 ((View.readCov_full _ _ _ _ _).trans ?_) (load_all harg6 _ _)
    rw [load_all harg2, load_all harg3, load_all harg4, load_all harg5]
  iexists _; isplitr; swap; · iexact H8
  ipureintro
  refine (View.read_writes_full _ _ _ _ _).trans ?_
  rw [load_all harg2, load_all harg3, load_all harg4, load_all harg5, load_all harg7]

set_option maxHeartbeats 1000000 in
/-- The body at the other points over a row block: u and its narrow product stay. -/
theorem run_next (hc : ¬ k0_cond1 i = 1#1) (x6 : Vec F S1024x1024 .bf16) (x8 : Vec F S1024x256 .f32) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ (∃ d, owns (c : Thread nD τ) arg9 fullShare d)
      ∗ owns (c : Thread nD τ) arg10 fullShare x8
      ∗ ((owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6
          ∗ owns (c : Thread nD τ) arg9 fullShare (k0_pay3 x6 x4)
          ∗ owns (c : Thread nD τ) arg10 fullShare x8) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩,
    ⟨%f6, %h6, H6⟩, ⟨%d7, %f7, -, H7⟩, ⟨%f8, %h8, H8⟩, Hk⟩
  obtain rfl := harg2.eq_unread h0; obtain rfl := harg3.eq_unread h1; obtain rfl := harg4.eq_unread h2
  obtain rfl := harg5.eq_unread h3; obtain rfl := harg6.eq_unread h4; obtain rfl := harg7.eq_unread h5
  obtain rfl := harg8.eq_unread h6; obtain rfl := harg10.eq_unread h8
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]
  · iexists _; isplitr; swap; · iexact H7
    ipureintro
    refine (View.read_writes_full _ _ _ _ _).trans ?_
    rw [load_all harg8, load_all harg6]
  iexists _; isplitr; · ipureintro; exact harg10.read_unread _
  iexact H8

end Body

variable (m : (ℓ : Loc nD τ sig) → Buf (Elt F) ℓ) (ρ : Dev nD → PrngReg)

/-- The first point over the row block of a point. -/
def firstOf (t : Fin cfg0.N) : Fin cfg0.N := ⟨t.val / 5 * 5, lt_of_le_of_lt (Nat.div_mul_le_self _ _) t.isLt⟩

theorem firstOf_first (t : Fin cfg0.N) (h : t.val % 5 = 0) : firstOf t = t := Fin.ext (by show t.val / 5 * 5 = t.val; omega)

theorem firstOf_pred (t : Fin cfg0.N) (h : t.val % 5 ≠ 0) : firstOf ⟨t.val - 1, by omega⟩ = firstOf t :=
  Fin.ext (by show (t.val - 1) / 5 * 5 = t.val / 5 * 5; omega)

/-- The normalized rows of a point's row block, -/
def uAt (c : Dev nD) (t : Fin cfg0.N) : Vec F S1024x1024 .bf16 :=
  k0_pay1 (iblk m c 0 (firstOf t)) (iblk m c 1 (firstOf t)) (iblk m c 2 (firstOf t)) (iblk m c 3 (firstOf t))

/-- their product by the wide weight's column block, -/
def pAt (c : Dev nD) (t : Fin cfg0.N) : Vec F S1024x1536 .bf16 := k0_pay3 (uAt m c t) (iblk m c 4 t)

/-- and their product by the narrow weight. -/
def baAt (c : Dev nD) (t : Fin cfg0.N) : Vec F S1024x256 .f32 :=
  k0_pay2 (iblk m c 0 (firstOf t)) (iblk m c 1 (firstOf t)) (iblk m c 2 (firstOf t)) (iblk m c 3 (firstOf t)) (iblk m c 5 (firstOf t))

/-- What the body leaves in each buffer at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => uAt m c t
    | ⟨7, _⟩ => pAt m c t
    | ⟨8, _⟩ => baAt m c t
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = uAt m c t := by dsimp only [dats]
theorem after_7 (c : Dev nD) (t) : (dats m 0 c).after 7 t = pAt m c t := by dsimp only [dats]
theorem after_8 (c : Dev nD) (t) : (dats m 0 c).after 8 t = baAt m c t := by dsimp only [dats]
theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d
theorem before_4 (c : Dev nD) (t d) : (dats m 0 c).before 4 t d = iblk m c 4 t := before0_4_of m (dats m 0 c) (A_eq m c 4) (after_4 m c) t d
theorem before_5 (c : Dev nD) (t d) : (dats m 0 c).before 5 t d = iblk m c 5 t := before0_5_of m (dats m 0 c) (A_eq m c 5) (after_5 m c) t d

/-- The body's condition holds at the first of every five points. -/
theorem cond_iff : ∀ t : Fin cfg0.N, k0_cond1 (grid0.coords t) = 1#1 ↔ t.val % 5 = 0 :=
  (by decide +kernel : ∀ t : Fin grid0.N, k0_cond1 (grid0.coords t) = 1#1 ↔ t.val % 5 = 0)

theorem idle_6 : ∀ t : Fin cfg0.N, cfg0.idle 6 (cfg0.grid.coords t) = !decide (t.val % 5 = 0) :=
  (by decide +kernel : ∀ t : Fin grid0.N, (!(k0_cond1 (grid0.coords t) == 1#1)) = !decide (t.val % 5 = 0))
theorem idle_8 : ∀ t : Fin cfg0.N, cfg0.idle 8 (cfg0.grid.coords t) = !decide (t.val % 5 = 0) :=
  (by decide +kernel : ∀ t : Fin grid0.N, (!(k0_cond1 (grid0.coords t) == 1#1)) = !decide (t.val % 5 = 0))

/-- A buffer of window 6 or 8 holds what the body stored until its block is written back. -/
theorem fresh_6 : ∀ t : Fin cfg0.N, cfg0.fresh 6 t.val = decide (t.val % 5 = 0) :=
  (by decide +kernel : ∀ t : Fin grid0.N, cfg0.fresh 6 t.val = decide (t.val % 5 = 0))
theorem fresh_8 : ∀ t : Fin cfg0.N, cfg0.fresh 8 t.val = decide (t.val % 5 = 0) :=
  (by decide +kernel : ∀ t : Fin grid0.N, cfg0.fresh 8 t.val = decide (t.val % 5 = 0))

theorem before_6 (c : Dev nD) (t : Fin cfg0.N) (h : t.val % 5 ≠ 0) (d) : (dats m 0 c).before 6 t d = uAt m c t := by
  rw [Dat.before_out_traj (dats m 0 c) 6 rfl (fun _ _ => rfl) (fun t _ _ hf => by
    rw [fresh_6] at hf
    rw [after_6, after_6]; unfold uAt
    rw [firstOf_pred t (of_decide_eq_false hf)]) t.val t rfl d, fresh_6, if_neg (by simpa using h), after_6]
  unfold uAt
  rw [firstOf_pred t h]
theorem before_8 (c : Dev nD) (t : Fin cfg0.N) (h : t.val % 5 ≠ 0) (d) : (dats m 0 c).before 8 t d = baAt m c t := by
  rw [Dat.before_out_traj (dats m 0 c) 8 rfl (fun _ _ => rfl) (fun t _ _ hf => by
    rw [fresh_8] at hf
    rw [after_8, after_8]; unfold baAt
    rw [firstOf_pred t (of_decide_eq_false hf)]) t.val t rfl d, fresh_8, if_neg (by simpa using h), after_8]
  unfold baAt
  rw [firstOf_pred t h]

/-- Before the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

/-- and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

set_option maxHeartbeats 4000000 in
/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  by_cases h : t.val % 5 = 0
  · unfold pAt uAt baAt
    rw [firstOf_first t h]
    iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (run_first (F := F) c (grid0.coords t) _ _ _ _ _ _ _ _ _ _ _ _ _ _ _ _ _ _ _ _ _ _ _ _ ((cond_iff t).mpr h) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro HH
    isplitl [HΦ]; · iexact HΦ
    isplitl [HO]; · iexact HO
    iexact HH
  · simp only [before_6 m c t h, before_8 m c t h]
    unfold pAt
    iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (run_next (F := F) c (grid0.coords t) _ _ _ _ _ _ _ _ _ _ _ _ _ _ _ _ _ _ _ _ _ _ _ _ (fun hc => h ((cond_iff t).mp hc)) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro HH
    isplitl [HΦ]; · iexact HΦ
    isplitl [HO]; · iexact HO
    iexact HH

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. Where a buffer is left alone it holds what it held. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, HO, H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · rcases h : cfg0.idle 6 (cfg0.grid.coords t) with _ | _
    · iexact H6
    · rw [idle_6] at h
      rcases (cfg0.win 6).flush t with _ | _
      · iexists (fun _ => Classical.arbitrary _)
        rw [before_6 m c t (by simpa using h), after_6]
        iexact H6
      · iexact H6
  isplitl [H7]; · iexact H7
  rcases h : cfg0.idle 8 (cfg0.grid.coords t) with _ | _
  · iexact H8
  · rw [idle_8] at h
    rcases (cfg0.win 8).flush t with _ | _
    · iexists (fun _ => Classical.arbitrary _)
      rw [before_8 m c t (by simpa using h), after_8]
      iexact H8
    · iexact H8

-- the launch theorem's implicit arguments are found by unifying its conclusion with this statement
set_option backward.isDefEq.respectTransparency.types false in
/-- From any memory with zero counters every weakly fair execution of @main ends with every counter at zero and the windows'
    arrays at what the points wrote back. -/
theorem run_main :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's arrays alone. -/
theorem run_arrays : θ_run defs (onTc (τ := τ) (main (F := F))) (s₀ m ρ) (Pipeline.FramePost cfgs (dats m) 0 (V m)) :=
  (θ_run defs _ _).mono (fun _ h => h.1) (run_main m ρ)

/-- The frame: every argument is as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_arrays m ρ)) ((θ_run defs _ _).mono (fun _ h => h.2) (run_main m ρ))

end Cert.Kernel14Ideal.Hand

end
-- ==== Proof.InProj.Machine.lean ====
/-
  The frame of the forward products into the mixer over the machine's floats. The program printed for the machine and the one
  printed for the extended reals are the same text, and the run is proved over any float values.
-/
module

public import proofs.«01_k».proof.Proof.InProj.Frame
public import proofs.«01_k».proof.Defs
public import proofs.«01_k».proof.Proof.Gen.Kernel14

@[expose] public section

namespace Cert.Proof

open Idealize.ShloMosaic Idealize.SL.Sem

variable {F : FTy → Type} [FloatOps F]

set_option maxHeartbeats 40000000 in
/-- The two programs' bodies are the same text. -/
theorem body_eq14 : Cert.Kernel14.cc0_in_proj (F := F) = Cert.Kernel14Ideal.cc0_in_proj (F := F) := rfl

set_option maxHeartbeats 40000000 in
/-- So are their body tables, -/
theorem table_eq14 : Cert.Kernel14.defs₀ (F := F) = Cert.Kernel14Ideal.defs₀ (F := F) := by
  unfold Cert.Kernel14.defs₀ Cert.Kernel14Ideal.defs₀
  refine congrArg _ (funext fun l => funext fun a => ?_)
  match l, a with
  | 0, (t, s) => rfl
  | ⟨_ + 1, h⟩, _ => exact absurd h (Nat.not_lt.2 (Nat.le_add_left _ _))

set_option maxHeartbeats 40000000 in
/-- and their tables with the pipelines. -/
theorem defs_eq14 : Cert.Kernel14.defs (F := F) = Cert.Kernel14Ideal.defs (F := F) :=
  congrArg (Idealize.ShloMosaic.Pipeline.defs (Cert.Kernel14Ideal.pcfgs (F := F))) table_eq14

set_option maxHeartbeats 40000000 in
/-- Over the machine's floats the call ends, with its arguments unchanged and every counter at zero. -/
theorem frame_kernel14 : Cert.quiescent_Kernel14 := fun m ρ _ => by
  have h := Cert.Kernel14Ideal.Hand.frame (F := Bits) m ρ
  rw [← defs_eq14] at h
  exact h

end Cert.Proof

end
-- ==== Proof.InProj.Value.lean ====
/-
  The value of the forward products into the mixer: the stream's rows normalized and modulated, and their products by the wide
  weight and by the narrow one.
-/
module

public import Idealize.ShloMosaic.Lib.Pipeline.ValueKit
public import proofs.«01_k».proof.Proof.Common
public import proofs.«01_k».proof.Proof.NormBwd
public import proofs.«01_k».proof.Defs
public import proofs.«01_k».proof.Proof.InProj.Frame
public import proofs.«01_k».proof.Proof.Gen.Reference14Ideal.Run
public import proofs.«01_k».proof.Proof.Gen.Reference14Ideal.Read

@[expose] public section

noncomputable section

namespace Cert.Kernel14Ideal.Hand

open Cert.Kernel14Ideal Cert.Kernel14Ideal.Gen Cert.Common Cert.NormBwd
open Idealize.ShloMosaic Idealize.ShloMosaic.TcCoe Idealize.SL.Sem
open Idealize.ShloMosaic.Pipeline (Dat)
open scoped BigOperators

section Block

variable (h : Vec Ideal S1024x1024 .f32) (w s b : Vec Ideal S1x1024 .f32) (u : Vec Ideal S1024x1024 .bf16)
  (v : Vec Ideal S1024x256 .bf16) (z : Vec Ideal S1024x1536 .bf16)

theorem mod_apply (p q : Fin 1024) : (k0_pay1 h w s b (ix2 p q) : EReal)
    = modRow (row (M := 1024) h p) (row (M := 1) w 0) (row (M := 1) s 0) (row (M := 1) b 0) q := by
  unfold k0_pay1 modRow hat invRoot spread row
  pointwise

theorem narrow_apply (p : Fin 1024) (q : Fin 256) : (k0_pay2 h w s b v (ix2 p q) : EReal)
    = ∑ k : Fin 1024, (k0_pay1 h w s b (ix2 p k) : EReal) * v (ix2 k q) := by
  unfold k0_pay2
  generalize k0_pay1 h w s b = u
  pointwise

theorem wide_apply (p : Fin 1024) (q : Fin 1536) : (k0_pay3 u z (ix2 p q) : EReal) = ∑ k : Fin 1024, (u (ix2 p k) : EReal) * z (ix2 k q) := by
  unfold k0_pay3
  pointwise

end Block

variable (m : (ℓ : Loc nD τ sig) → Buf (Elt Ideal) ℓ) (ρ : Dev nD → PrngReg)

/-- The arguments. -/
abbrev stream (c : Dev nD) : (⟨2, ![8192, 1024]⟩ : Shape).Idx → EReal := m ((c : Thread nD τ).loc main_arg0)
abbrev normW (c : Dev nD) : (⟨2, ![1, 1024]⟩ : Shape).Idx → EReal := m ((c : Thread nD τ).loc main_arg1)
abbrev scale (c : Dev nD) : (⟨2, ![1, 1024]⟩ : Shape).Idx → EReal := m ((c : Thread nD τ).loc main_arg2)
abbrev shift (c : Dev nD) : (⟨2, ![1, 1024]⟩ : Shape).Idx → EReal := m ((c : Thread nD τ).loc main_arg3)
abbrev mainW (c : Dev nD) : (⟨2, ![1024, 7680]⟩ : Shape).Idx → EReal := m ((c : Thread nD τ).loc main_arg4)
abbrev decayW (c : Dev nD) : (⟨2, ![1024, 256]⟩ : Shape).Idx → EReal := m ((c : Thread nD τ).loc main_arg5)

/-- A modulated row. -/
def modAt (c : Dev nD) (r : Fin 8192) : Fin 1024 → EReal :=
  modRow (row (stream m c) r) (row (normW m c) 0) (row (scale m c) 0) (row (shift m c) 0)

/-- Point `t` is on row block `t / 5` and on column block `t % 5` of the wide weight; -/
theorem block_index : ∀ t : Fin cfg0.N, (win0_0.index t 0 = t.val / 5 ∧ win0_0.index t 1 = 0)
    ∧ (win0_4.index t 0 = 0 ∧ win0_4.index t 1 = t.val % 5) ∧ (win0_6.index t 0 = t.val / 5 ∧ win0_6.index t 1 = 0)
    ∧ (win0_7.index t 0 = t.val / 5 ∧ win0_7.index t 1 = t.val % 5) ∧ (win0_8.index t 0 = t.val / 5 ∧ win0_8.index t 1 = 0) :=
  (by decide +kernel : ∀ t : Fin grid0.N, _)

/-- the other arguments are whole at every point. -/
theorem whole_index : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_5.index t 0 = 0 ∧ win0_5.index t 1 = 0) :=
  (by decide +kernel : ∀ t : Fin grid0.N, _)

section Rows

variable (c : Dev nD) (t : Fin cfg0.N) (p : Fin 1024) (r : Fin 8192) (hr : r.val = t.val / 5 * 1024 + p.val)
include hr

/-- Row `p` of the block of modulated rows is that of the array's row. -/
theorem u_eq (q : Fin 1024) : (uAt m c t (ix2 p q) : EReal) = modAt m c r q := by
  obtain ⟨⟨e0, f0⟩, -⟩ := block_index (firstOf t)
  obtain ⟨⟨e1, f1⟩, ⟨e2, f2⟩, ⟨e3, f3⟩, -⟩ := whole_index (firstOf t)
  have ht : (firstOf t).val / 5 = t.val / 5 := by show t.val / 5 * 5 / 5 = _; omega
  rw [ht] at e0
  refine (mod_apply _ _ _ _ p q).trans ?_
  unfold modAt
  congr 1 <;> funext k
  · refine at2 (stream m c) _ _ ?_ ?_
    · show win0_0.index (firstOf t) 0 * 1024 + 1 * p.val = r.val; rw [e0]; omega
    · show win0_0.index (firstOf t) 1 * 1024 + 1 * k.val = k.val; rw [f0]; omega
  · refine at2 (normW m c) _ _ ?_ ?_
    · show win0_1.index (firstOf t) 0 * 1 + 1 * 0 = 0; rw [e1]
    · show win0_1.index (firstOf t) 1 * 1024 + 1 * k.val = k.val; rw [f1]; omega
  · refine at2 (scale m c) _ _ ?_ ?_
    · show win0_2.index (firstOf t) 0 * 1 + 1 * 0 = 0; rw [e2]
    · show win0_2.index (firstOf t) 1 * 1024 + 1 * k.val = k.val; rw [f2]; omega
  · refine at2 (shift m c) _ _ ?_ ?_
    · show win0_3.index (firstOf t) 0 * 1 + 1 * 0 = 0; rw [e3]
    · show win0_3.index (firstOf t) 1 * 1024 + 1 * k.val = k.val; rw [f3]; omega

theorem p_eq (q : Fin 1536) (s : Fin 7680) (hs : s.val = t.val % 5 * 1536 + q.val) :
    (pAt m c t (ix2 p q) : EReal) = ∑ k : Fin 1024, modAt m c r k * mainW m c (ix2 k s) := by
  obtain ⟨-, ⟨e, f⟩, -⟩ := block_index t
  refine (wide_apply _ _ p q).trans (Finset.sum_congr rfl fun k _ => congrArg₂ (· * ·) (u_eq m c t p r hr k) (at2 (mainW m c) _ _ ?_ ?_))
  · show win0_4.index t 0 * 1024 + 1 * k.val = k.val; rw [e]; omega
  · show win0_4.index t 1 * 1536 + 1 * q.val = s.val; rw [f]; omega

theorem ba_eq (q : Fin 256) : (baAt m c t (ix2 p q) : EReal) = ∑ k : Fin 1024, modAt m c r k * decayW m c (ix2 k q) := by
  obtain ⟨-, -, -, ⟨e, f⟩⟩ := whole_index (firstOf t)
  refine (narrow_apply _ _ _ _ _ p q).trans (Finset.sum_congr rfl fun k _ => congrArg₂ (· * ·) (u_eq m c t p r hr k) (at2 (decayW m c) _ _ ?_ ?_))
  · show win0_5.index (firstOf t) 0 * 1024 + 1 * k.val = k.val; rw [e]; omega
  · show win0_5.index (firstOf t) 1 * 256 + 1 * q.val = q.val; rw [f]; omega

end Rows

theorem out6 (c : Dev nD) : (dats m 0 c).arrAt 6 cfg0.N = fun i : (⟨2, ![8192, 1024]⟩ : Shape).Idx => modAt m c (i 0) (i 1) := by
  refine (dats m 0 c).arrAt_eq_of_covers 6 _ (by decide +kernel) fun t hf y => ?_
  blk_simp
  obtain ⟨-, -, ⟨e, f⟩, -⟩ := block_index t
  have hr : ((win0_6.blk t).view.emb y 0).val = t.val / 5 * 1024 + (y 0).val := by
    show win0_6.index t 0 * 1024 + 1 * (y 0).val = _; rw [e]; omega
  have hq : (win0_6.blk t).view.emb y 1 = y 1 := Fin.ext (by
    show win0_6.index t 1 * 1024 + 1 * (y 1).val = _; rw [f]; omega)
  have hu := u_eq m c t (y 0) _ hr (y 1)
  rw [after_6]
  rw [ix2_eta, ← hq] at hu
  exact hu

theorem out7 (c : Dev nD) : (dats m 0 c).arrAt 7 cfg0.N
    = fun i : (⟨2, ![8192, 7680]⟩ : Shape).Idx => ∑ k : Fin 1024, modAt m c (i 0) k * mainW m c (ix2 k (i 1)) := by
  refine (dats m 0 c).arrAt_eq_of_covers 7 _ (by decide +kernel) fun t hf y => ?_
  blk_simp
  obtain ⟨-, -, -, ⟨e, f⟩, -⟩ := block_index t
  have hr : ((win0_7.blk t).view.emb y 0).val = t.val / 5 * 1024 + (y 0).val := by
    show win0_7.index t 0 * 1024 + 1 * (y 0).val = _; rw [e]; omega
  have hs : ((win0_7.blk t).view.emb y 1).val = t.val % 5 * 1536 + (y 1).val := by
    show win0_7.index t 1 * 1536 + 1 * (y 1).val = _; rw [f]; omega
  have hp := p_eq m c t (y 0) _ hr (y 1) _ hs
  rw [after_7]
  rw [ix2_eta] at hp
  exact hp

theorem out8 (c : Dev nD) : (dats m 0 c).arrAt 8 cfg0.N
    = fun i : (⟨2, ![8192, 256]⟩ : Shape).Idx => ∑ k : Fin 1024, modAt m c (i 0) k * decayW m c (ix2 k (i 1)) := by
  refine (dats m 0 c).arrAt_eq_of_covers 8 _ (by decide +kernel) fun t hf y => ?_
  blk_simp
  obtain ⟨-, -, -, -, ⟨e, f⟩⟩ := block_index t
  have hr : ((win0_8.blk t).view.emb y 0).val = t.val / 5 * 1024 + (y 0).val := by
    show win0_8.index t 0 * 1024 + 1 * (y 0).val = _; rw [e]; omega
  have hq : (win0_8.blk t).view.emb y 1 = y 1 := Fin.ext (by
    show win0_8.index t 1 * 256 + 1 * (y 1).val = _; rw [f]; omega)
  have hb := ba_eq m c t (y 0) _ hr (y 1)
  rw [after_8]
  rw [ix2_eta, ← hq] at hb
  exact hb

/-- An argument's array after the run is as launched. -/
theorem kept {r : PUnit × MemSt nD τ sig (Elt Ideal)} (h : Pipeline.FramePost cfgs (dats m) 0 (V m) r) (c : Dev nD) (w : Fin cfg0.W)
    (hw : (cfg0.win w).isOut = false) : r.2.mem ((cfg0.win w).arr.view.loc (c.tc : Thread nD τ)) = V m c (Pipeline.arrRef spec0 w) :=
  ((h c).1 w).trans (((dats m 0 c).arrAt_in w hw _).trans (A_eq m c w))

/-- The run with the result arrays named and the arguments unchanged. -/
theorem run_blocks : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, kept m h c 0 rfl, kept m h c 1 rfl, kept m h c 2 rfl,
    kept m h c 3 rfl, kept m h c 4 rfl, kept m h c 5 rfl⟩) (run_arrays m ρ)

end Cert.Kernel14Ideal.Hand

namespace Cert.Proof

open Cert.Common Cert.NormBwd
open Idealize.ShloMosaic Idealize.ShloMosaic.TcCoe Idealize.SL.Sem
open scoped BigOperators

section Reference

open Cert.Reference14Ideal.Read

variable (x0 : (⟨2, ![8192, 1024]⟩ : Shape).Idx → EReal) (x1 x2 x3 : (⟨2, ![1, 1024]⟩ : Shape).Idx → EReal)
  (x4 : (⟨2, ![1024, 7680]⟩ : Shape).Idx → EReal) (x5 : (⟨2, ![1024, 256]⟩ : Shape).Idx → EReal)

theorem reference14_spread (p : Fin 8192) : (val_main_v8 (F := Ideal) x0 (ix2 p 0) : EReal) = spread (row x0 p) := by
  unfold val_main_v8 val_main_v7 val_main_v6 val_main_v5 val_main_v4 val_main_v3 val_main_v2 val_main_cst val_main_cst_0
    val_main_cst_1 spread row
  pointwise

theorem reference14_mod (p : Fin 8192) (q : Fin 1024) : (val_main_v19 (F := Ideal) x0 x1 x2 x3 (ix2 p q) : EReal)
    = modRow (row x0 p) (row x1 0) (row x2 0) (row x3 0) q := by
  unfold modRow hat invRoot
  rw [← reference14_spread x0 p]
  unfold val_main_v19 val_main_v18 val_main_v17 val_main_v16 val_main_v15 val_main_v14 val_main_v13 val_main_v12 val_main_v11
    val_main_v10 val_main_v9 val_main_cst_2
  generalize val_main_v8 (F := Ideal) x0 = v
  pointwise

theorem reference14_rows_at (p : Fin 8192) (q : Fin 1024) : (val_main_v20 (F := Ideal) x0 x1 x2 x3 (ix2 p q) : EReal)
    = modRow (row x0 p) (row x1 0) (row x2 0) (row x3 0) q := by
  rw [← reference14_mod]
  unfold val_main_v20
  generalize val_main_v19 (F := Ideal) x0 x1 x2 x3 = u
  pointwise

theorem reference14_wide_at (p : Fin 8192) (q : Fin 7680) : (val_main_v22 (F := Ideal) x0 x1 x2 x3 x4 (ix2 p q) : EReal)
    = ∑ k : Fin 1024, modRow (row x0 p) (row x1 0) (row x2 0) (row x3 0) k * x4 (ix2 k q) := by
  simp only [← reference14_mod]
  unfold val_main_v22 val_main_v21 val_main_v0
  generalize val_main_v19 (F := Ideal) x0 x1 x2 x3 = u
  pointwise

theorem reference14_narrow_at (p : Fin 8192) (q : Fin 256) : (val_main_v23 (F := Ideal) x0 x1 x2 x3 x5 (ix2 p q) : EReal)
    = ∑ k : Fin 1024, modRow (row x0 p) (row x1 0) (row x2 0) (row x3 0) k * x5 (ix2 k q) := by
  simp only [← reference14_mod]
  unfold val_main_v23 val_main_v1
  generalize val_main_v19 (F := Ideal) x0 x1 x2 x3 = u
  pointwise

theorem reference14_rows : val_main_v20 (F := Ideal) x0 x1 x2 x3 = fun i : (⟨2, ![8192, 1024]⟩ : Shape).Idx =>
    modRow (row x0 (i 0)) (row x1 0) (row x2 0) (row x3 0) (i 1) := by
  funext i
  exact (congrArg _ (ix2_eta i).symm).trans (reference14_rows_at x0 x1 x2 x3 (i 0) (i 1))

theorem reference14_wide : val_main_v22 (F := Ideal) x0 x1 x2 x3 x4 = fun i : (⟨2, ![8192, 7680]⟩ : Shape).Idx =>
    ∑ k : Fin 1024, modRow (row x0 (i 0)) (row x1 0) (row x2 0) (row x3 0) k * x4 (ix2 k (i 1)) := by
  funext i
  exact (congrArg _ (ix2_eta i).symm).trans (reference14_wide_at x0 x1 x2 x3 x4 (i 0) (i 1))

theorem reference14_narrow : val_main_v23 (F := Ideal) x0 x1 x2 x3 x5 = fun i : (⟨2, ![8192, 256]⟩ : Shape).Idx =>
    ∑ k : Fin 1024, modRow (row x0 (i 0)) (row x1 0) (row x2 0) (row x3 0) k * x5 (ix2 k (i 1)) := by
  funext i
  exact (congrArg _ (ix2_eta i).symm).trans (reference14_narrow_at x0 x1 x2 x3 x5 (i 0) (i 1))

end Reference

/-- Over the extended reals the call computes the reference's modulated rows and their two products. -/
theorem algebraic14 : Cert.algebraic_Kernel14Ideal_Reference14Ideal := by
  intro m g m' g' _ hargs
  have run := Cert.Kernel14Ideal.Hand.run_blocks m g
  simp only [Cert.Kernel14Ideal.Hand.out6, Cert.Kernel14Ideal.Hand.out7, Cert.Kernel14Ideal.Hand.out8] at run
  refine ⟨_, _, _, run, ?_⟩
  refine (θ_run Cert.Reference14Ideal.defs _ _).mono (fun r h c => ?_) (Cert.Reference14Ideal.Value.run m' g')
  obtain ⟨h0, h1, h2, keep⟩ := h c
  obtain ⟨a0, a1, a2, a3, a4, a5⟩ := hargs c
  rw [Cert.Reference14Ideal.Read.val_main_v20_eq, a0, a1, a2, a3] at h0
  rw [Cert.Reference14Ideal.Read.val_main_v22_eq, a0, a1, a2, a3, a4] at h1
  rw [Cert.Reference14Ideal.Read.val_main_v23_eq, a0, a1, a2, a3, a5] at h2
  exact ⟨h0.trans (reference14_rows _ _ _ _), h1.trans (reference14_wide _ _ _ _ _), h2.trans (reference14_narrow _ _ _ _ _), keep⟩

end Cert.Proof

end
-- ==== Proof.InProjBwd.lean ====
/-
  The value of the backward of the input projection and of the modulated norm before it: five products by slices of the
  transposed weights, added up, give the modulated row's gradient; from it come, row by row, the stream's gradient, and,
  summed over the rows in blocks of 256, the gradients of the norm's weight, the scale and the shift.
-/
module

public import Idealize.ShloMosaic.Lib.Pipeline.ValueKit
public import proofs.«01_k».proof.Proof.Common
public import proofs.«01_k».proof.Proof.NormBwd
public import proofs.«01_k».proof.Defs
public import proofs.«01_k».proof.Proof.Gen.Kernel15Ideal.Value
public import proofs.«01_k».proof.Proof.Gen.Kernel15Ideal.Skeleton
public import proofs.«01_k».proof.Proof.Gen.Reference15Ideal.Run
public import proofs.«01_k».proof.Proof.Gen.Reference15Ideal.Read

@[expose] public section

noncomputable section

namespace Cert.InProjBwd

open Cert.Common Cert.NormBwd
open Idealize.ShloMosaic
open scoped BigOperators

/-- Row `p` of a piece's gradient times row `q` of the weight, from the piece's first column `s` on. -/
def pieceRow {K : ℕ} (s : ℕ) (hs : s + K ≤ 7680) (x : (⟨2, ![8192, K]⟩ : Shape).Idx → EReal)
    (w : (⟨2, ![1024, 7680]⟩ : Shape).Idx → EReal) (p : Fin 8192) (q : Fin 1024) : EReal :=
  ∑ k : Fin K, x (ix2 p k) * w (ix2 q ⟨s + k.val, by have := k.isLt; omega⟩)

/-- The gradient of a modulated row: the four pieces of the projection and the two decay columns' product. -/
def modGrad (x0 : (⟨2, ![8192, 3072]⟩ : Shape).Idx → EReal) (x1 : (⟨2, ![8192, 1024]⟩ : Shape).Idx → EReal)
    (x2 : (⟨2, ![8192, 2048]⟩ : Shape).Idx → EReal) (x3 : (⟨2, ![8192, 1536]⟩ : Shape).Idx → EReal)
    (x4 : (⟨2, ![8192, 256]⟩ : Shape).Idx → EReal) (w : (⟨2, ![1024, 7680]⟩ : Shape).Idx → EReal)
    (v : (⟨2, ![1024, 256]⟩ : Shape).Idx → EReal) (p : Fin 8192) (q : Fin 1024) : EReal :=
  pieceRow 0 (by omega) x0 w p q + pieceRow 3072 (by omega) x1 w p q + pieceRow 4096 (by omega) x2 w p q
    + pieceRow 6144 (by omega) x3 w p q + rowRow x4 v p q

end Cert.InProjBwd

namespace Cert.Kernel15Ideal.Hand

open Cert.Kernel15Ideal Cert.Kernel15Ideal.Gen Cert.Kernel15Ideal.Value Cert.Common Cert.NormBwd Cert.InProjBwd
open Idealize.ShloMosaic Idealize.ShloMosaic.TcCoe Idealize.SL.Sem
open Idealize.ShloMosaic.Pipeline (Dat)
open scoped BigOperators

section Block

variable (x0 : Vec Ideal S256x3072 .bf16) (x1 : Vec Ideal S256x1024 .bf16) (x2 : Vec Ideal S256x2048 .bf16)
  (x3 : Vec Ideal S256x1536 .bf16) (x4 : Vec Ideal S256x256 .bf16) (w0 : Vec Ideal S1024x3072 .bf16)
  (w1 : Vec Ideal S1024x1024 .bf16) (w2 : Vec Ideal S1024x2048 .bf16) (w3 : Vec Ideal S1024x1536 .bf16)
  (w4 : Vec Ideal S1024x256 .bf16) (d h e : Vec Ideal S256x1024 .f32) (w s v : Vec Ideal S1x1024 .f32)

theorem prod_apply (p : Fin 256) (q : Fin 1024) : (k0_pay3 x0 w0 x1 w1 x2 w2 x3 w3 x4 w4 (ix2 p q) : EReal)
    = rowRow (M := 256) (K := 3072) (N := 1024) x0 w0 p q + rowRow (M := 256) (K := 1024) (N := 1024) x1 w1 p q
      + rowRow (M := 256) (K := 2048) (N := 1024) x2 w2 p q + rowRow (M := 256) (K := 1536) (N := 1024) x3 w3 p q
      + rowRow (M := 256) (K := 256) (N := 1024) x4 w4 p q := by
  unfold k0_pay3 rowRow
  pointwise

theorem invRoot_apply (p : Fin 256) :
    (k0_pay6 (k0_pay4 h) (k0_pay5 (F := Ideal)) (ix2 p 0) : EReal) = invRoot (row (M := 256) h p) := by
  unfold k0_pay6 k0_pay4 k0_pay5 invRoot spread row
  pointwise

theorem hat_apply (p : Fin 256) (q : Fin 1024) :
    (k0_pay7 h (k0_pay4 h) (k0_pay5 (F := Ideal)) (ix2 p q) : EReal) = hat (row (M := 256) h p) q := by
  unfold k0_pay7 hat
  rw [← invRoot_apply h p]
  generalize k0_pay6 (k0_pay4 h) (k0_pay5 (F := Ideal)) = r
  pointwise

theorem scaled_apply (p : Fin 256) (q : Fin 1024) :
    (k0_pay10 d s (ix2 p q) : EReal) = row (M := 256) d p q * (one + row (M := 1) s 0 q) := by
  unfold k0_pay10
  pointwise

/-- The block of the stream's gradient, at an element. -/
theorem grad_apply (p : Fin 256) (q : Fin 1024) :
    (k0_pay11 d h w s (k0_pay4 h) (k0_pay5 (F := Ideal)) e (ix2 p q) : EReal)
      = e (ix2 p q) + rowGrad (row (M := 256) h p)
          (hatGrad (row (M := 1) w 0) (row (M := 1) s 0) (row (M := 256) d p)) q := by
  unfold rowGrad hatGrad
  simp only [← hat_apply h, ← scaled_apply d s, ← invRoot_apply h p]
  unfold k0_pay11
  generalize k0_pay6 (k0_pay4 h) (k0_pay5 (F := Ideal)) = r
  generalize k0_pay7 h (k0_pay4 h) (k0_pay5 (F := Ideal)) = a
  generalize k0_pay10 d s = b
  pointwise

/-- What a block adds to each of the three sums over rows. -/
theorem shift_apply (q : Fin 1024) :
    (k0_pay2 (k0_pay8 d) v (ix2 0 q) : EReal) = v (ix2 0 q) + ∑ p : Fin 256, row (M := 256) d p q := by
  unfold k0_pay2 k0_pay8
  pointwise

theorem scale_apply (q : Fin 1024) :
    (k0_pay1 (k0_pay9 d h w (k0_pay4 h) (k0_pay5 (F := Ideal))) v (ix2 0 q) : EReal)
      = v (ix2 0 q) + ∑ p : Fin 256, row (M := 256) d p q * (hat (row (M := 256) h p) q * row (M := 1) w 0 q) := by
  simp only [← hat_apply h]
  unfold k0_pay1 k0_pay9
  generalize k0_pay7 h (k0_pay4 h) (k0_pay5 (F := Ideal)) = a
  pointwise

theorem weight_apply (q : Fin 1024) : (k0_pay15 d h s (k0_pay4 h) (k0_pay5 (F := Ideal)) v (ix2 0 q) : EReal)
    = v (ix2 0 q)
      + ∑ p : Fin 256, row (M := 256) d p q * (one + row (M := 1) s 0 q) * hat (row (M := 256) h p) q := by
  simp only [← scaled_apply d s, ← hat_apply h]
  unfold k0_pay15
  generalize k0_pay10 d s = b
  generalize k0_pay7 h (k0_pay4 h) (k0_pay5 (F := Ideal)) = a
  pointwise

end Block

variable (m : (ℓ : Loc nD τ sig) → Buf (Elt Ideal) ℓ)

/-- The arrays on device `c`: the four pieces' gradients, the decay columns' gradient, their two weights, the stream, the
    norm's weight, the scale, and the gradient that comes past the norm. -/
abbrev dQkv (c : Dev nD) : (⟨2, ![8192, 3072]⟩ : Shape).Idx → EReal := m ((c : Thread nD τ).loc main_arg0)
abbrev dGate (c : Dev nD) : (⟨2, ![8192, 1024]⟩ : Shape).Idx → EReal := m ((c : Thread nD τ).loc main_arg1)
abbrev dPair (c : Dev nD) : (⟨2, ![8192, 2048]⟩ : Shape).Idx → EReal := m ((c : Thread nD τ).loc main_arg2)
abbrev dBranch (c : Dev nD) : (⟨2, ![8192, 1536]⟩ : Shape).Idx → EReal := m ((c : Thread nD τ).loc main_arg3)
abbrev dDecay (c : Dev nD) : (⟨2, ![8192, 256]⟩ : Shape).Idx → EReal := m ((c : Thread nD τ).loc main_arg4)
abbrev mainW (c : Dev nD) : (⟨2, ![1024, 7680]⟩ : Shape).Idx → EReal := m ((c : Thread nD τ).loc main_arg5)
abbrev decayW (c : Dev nD) : (⟨2, ![1024, 256]⟩ : Shape).Idx → EReal := m ((c : Thread nD τ).loc main_arg6)
abbrev stream (c : Dev nD) : (⟨2, ![8192, 1024]⟩ : Shape).Idx → EReal := m ((c : Thread nD τ).loc main_arg7)
abbrev normW (c : Dev nD) : (⟨2, ![1, 1024]⟩ : Shape).Idx → EReal := m ((c : Thread nD τ).loc main_arg8)
abbrev scale (c : Dev nD) : (⟨2, ![1, 1024]⟩ : Shape).Idx → EReal := m ((c : Thread nD τ).loc main_arg9)
abbrev past (c : Dev nD) : (⟨2, ![8192, 1024]⟩ : Shape).Idx → EReal := m ((c : Thread nD τ).loc main_arg10)

/-- The gradient of the modulated row `p`. -/
abbrev du (c : Dev nD) (p : Fin 8192) : Fin 1024 → EReal :=
  fun q => modGrad (dQkv m c) (dGate m c) (dPair m c) (dBranch m c) (dDecay m c) (mainW m c) (decayW m c) p q

/-- The block of modulated rows' gradients at a point. -/
abbrev duBlock (c : Dev nD) (t : Fin cfg0.N) : Vec Ideal S256x1024 .f32 :=
  k0_pay3 (iblk m c 0 t) (X0_5 m c t) (iblk m c 1 t) (X0_6 m c t) (iblk m c 2 t) (X0_7 m c t) (iblk m c 3 t) (iblk m c 8 t)
    (iblk m c 4 t) (iblk m c 9 t)

/-- The row arrays' blocks are block `t` of their rows; -/
theorem row_index : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_10.index t 0 = t.val ∧ win0_10.index t 1 = 0) ∧ (win0_13.index t 0 = t.val ∧ win0_13.index t 1 = 0)
    ∧ (win0_14.index t 0 = t.val ∧ win0_14.index t 1 = 0) :=
  (by decide +kernel : ∀ t : Fin grid0.N, _)

/-- the weight is cut into column blocks of four widths; the others are whole. Every point reads the same ones. -/
theorem fixed_index : ∀ t : Fin cfg0.N, (win0_5.index t 0 = 0 ∧ win0_5.index t 1 = 0)
    ∧ (win0_6.index t 0 = 0 ∧ win0_6.index t 1 = 3) ∧ (win0_7.index t 0 = 0 ∧ win0_7.index t 1 = 2)
    ∧ (win0_8.index t 0 = 0 ∧ win0_8.index t 1 = 4) ∧ (win0_9.index t 0 = 0 ∧ win0_9.index t 1 = 0)
    ∧ (win0_11.index t 0 = 0 ∧ win0_11.index t 1 = 0) ∧ (win0_12.index t 0 = 0 ∧ win0_12.index t 1 = 0) :=
  (by decide +kernel : ∀ t : Fin grid0.N, _)

section Weights

variable (c : Dev nD) (t : Fin cfg0.N) (q : Fin 1024)

/-- The weight's four column blocks. -/
theorem w0_eq (k : Fin 3072) : (X0_5 m c t (ix2 q k) : EReal) = mainW m c (ix2 q ⟨0 + k.val, by have := k.isLt; omega⟩) := by
  obtain ⟨⟨e, f⟩, -⟩ := fixed_index t
  unfold X0_5 Pipeline.Window.fill
  rw [dif_pos (moved0_5 t _)]
  refine at2 (mainW m c) _ _ ?_ ?_
  · show win0_5.index t 0 * 1024 + 1 * q.val = q.val; rw [e]; omega
  · show win0_5.index t 1 * 3072 + 1 * k.val = 0 + k.val; rw [f]; omega

theorem w1_eq (k : Fin 1024) : (X0_6 m c t (ix2 q k) : EReal) = mainW m c (ix2 q ⟨3072 + k.val, by have := k.isLt; omega⟩) := by
  obtain ⟨-, ⟨e, f⟩, -⟩ := fixed_index t
  unfold X0_6 Pipeline.Window.fill
  rw [dif_pos (moved0_6 t _)]
  refine at2 (mainW m c) _ _ ?_ ?_
  · show win0_6.index t 0 * 1024 + 1 * q.val = q.val; rw [e]; omega
  · show win0_6.index t 1 * 1024 + 1 * k.val = 3072 + k.val; rw [f]; omega

theorem w2_eq (k : Fin 2048) : (X0_7 m c t (ix2 q k) : EReal) = mainW m c (ix2 q ⟨4096 + k.val, by have := k.isLt; omega⟩) := by
  obtain ⟨-, -, ⟨e, f⟩, -⟩ := fixed_index t
  unfold X0_7 Pipeline.Window.fill
  rw [dif_pos (moved0_7 t _)]
  refine at2 (mainW m c) _ _ ?_ ?_
  · show win0_7.index t 0 * 1024 + 1 * q.val = q.val; rw [e]; omega
  · show win0_7.index t 1 * 2048 + 1 * k.val = 4096 + k.val; rw [f]; omega

theorem w3_eq (k : Fin 1536) : (iblk m c 8 t (ix2 q k) : EReal) = mainW m c (ix2 q ⟨6144 + k.val, by have := k.isLt; omega⟩) := by
  obtain ⟨-, -, -, ⟨e, f⟩, -⟩ := fixed_index t
  refine at2 (mainW m c) _ _ ?_ ?_
  · show win0_8.index t 0 * 1024 + 1 * q.val = q.val; rw [e]; omega
  · show win0_8.index t 1 * 1536 + 1 * k.val = 6144 + k.val; rw [f]; omega

theorem w4_eq (k : Fin 256) : (iblk m c 9 t (ix2 q k) : EReal) = decayW m c (ix2 q k) := by
  obtain ⟨-, -, -, -, ⟨e, f⟩, -⟩ := fixed_index t
  refine at2 (decayW m c) _ _ ?_ ?_
  · show win0_9.index t 0 * 1024 + 1 * q.val = q.val; rw [e]; omega
  · show win0_9.index t 1 * 256 + 1 * k.val = k.val; rw [f]; omega

theorem normW_eq : row (M := 1) (iblk m c 11 t) 0 = row (normW m c) 0 := by
  obtain ⟨-, -, -, -, -, ⟨e, f⟩, -⟩ := fixed_index t
  funext k
  refine at2 (normW m c) _ _ ?_ ?_
  · show win0_11.index t 0 * 1 + 1 * 0 = 0; rw [e]
  · show win0_11.index t 1 * 1024 + 1 * k.val = k.val; rw [f]; omega

theorem scale_eq : row (M := 1) (iblk m c 12 t) 0 = row (scale m c) 0 := by
  obtain ⟨-, -, -, -, -, -, ⟨e, f⟩⟩ := fixed_index t
  funext k
  refine at2 (scale m c) _ _ ?_ ?_
  · show win0_12.index t 0 * 1 + 1 * 0 = 0; rw [e]
  · show win0_12.index t 1 * 1024 + 1 * k.val = k.val; rw [f]; omega

end Weights

section Rows

variable (c : Dev nD) (t : Fin cfg0.N) (p : Fin 256) (r : Fin 8192) (h : r.val = t.val * 256 + p.val)
include h

/-- Row `p` of a block at point `t` is row `256 * t + p` of its array. -/
theorem du_eq : row (M := 256) (duBlock m c t) p = du m c r := by
  obtain ⟨⟨e0, f0⟩, ⟨e1, f1⟩, ⟨e2, f2⟩, ⟨e3, f3⟩, ⟨e4, f4⟩, -⟩ := row_index t
  funext q
  refine (prod_apply _ _ _ _ _ _ _ _ _ _ p q).trans ?_
  refine congrArg₂ (· + ·) (congrArg₂ (· + ·) (congrArg₂ (· + ·) (congrArg₂ (· + ·) ?_ ?_) ?_) ?_) ?_
  · refine Finset.sum_congr rfl fun k _ => congrArg₂ (· * ·) (at2 (dQkv m c) _ _ ?_ ?_) (w0_eq m c t q k)
    · show win0_0.index t 0 * 256 + 1 * p.val = r.val; rw [e0]; omega
    · show win0_0.index t 1 * 3072 + 1 * k.val = k.val; rw [f0]; omega
  · refine Finset.sum_congr rfl fun k _ => congrArg₂ (· * ·) (at2 (dGate m c) _ _ ?_ ?_) (w1_eq m c t q k)
    · show win0_1.index t 0 * 256 + 1 * p.val = r.val; rw [e1]; omega
    · show win0_1.index t 1 * 1024 + 1 * k.val = k.val; rw [f1]; omega
  · refine Finset.sum_congr rfl fun k _ => congrArg₂ (· * ·) (at2 (dPair m c) _ _ ?_ ?_) (w2_eq m c t q k)
    · show win0_2.index t 0 * 256 + 1 * p.val = r.val; rw [e2]; omega
    · show win0_2.index t 1 * 2048 + 1 * k.val = k.val; rw [f2]; omega
  · refine Finset.sum_congr rfl fun k _ => congrArg₂ (· * ·) (at2 (dBranch m c) _ _ ?_ ?_) (w3_eq m c t q k)
    · show win0_3.index t 0 * 256 + 1 * p.val = r.val; rw [e3]; omega
    · show win0_3.index t 1 * 1536 + 1 * k.val = k.val; rw [f3]; omega
  · refine Finset.sum_congr rfl fun k _ => congrArg₂ (· * ·) (at2 (dDecay m c) _ _ ?_ ?_) (w4_eq m c t q k)
    · show win0_4.index t 0 * 256 + 1 * p.val = r.val; rw [e4]; omega
    · show win0_4.index t 1 * 256 + 1 * k.val = k.val; rw [f4]; omega

theorem stream_eq : row (M := 256) (iblk m c 10 t) p = row (stream m c) r := by
  obtain ⟨-, -, -, -, -, ⟨e, f⟩, -⟩ := row_index t
  funext k
  refine at2 (stream m c) _ _ ?_ ?_
  · show win0_10.index t 0 * 256 + 1 * p.val = r.val; rw [e]; omega
  · show win0_10.index t 1 * 1024 + 1 * k.val = k.val; rw [f]; omega

theorem past_eq (q : Fin 1024) : (iblk m c 13 t (ix2 p q) : EReal) = past m c (ix2 r q) := by
  obtain ⟨-, -, -, -, -, -, ⟨e, f⟩, -⟩ := row_index t
  refine at2 (past m c) _ _ ?_ ?_
  · show win0_13.index t 0 * 256 + 1 * p.val = r.val; rw [e]; omega
  · show win0_13.index t 1 * 1024 + 1 * q.val = q.val; rw [f]; omega

end Rows

/-- The stream's gradient at every point: the first point and the later ones compute the same block. -/
theorem grad_at (c : Dev nD) (t : Fin cfg0.N) (y : S256x1024.Idx) : ((outsAt0 m c t.val t.isLt).1 y : EReal)
    = k0_pay11 (duBlock m c t) (iblk m c 10 t) (iblk m c 11 t) (iblk m c 12 t) (k0_pay4 (iblk m c 10 t)) (k0_pay5 (F := Ideal))
        (iblk m c 13 t) y := by
  by_cases h0 : t.val % 32 = 0
  · rw [outsAt0_A m c t h0]
    frame_out
  · rw [outsAt0_B m c t h0]
    frame_out

theorem out14 (c : Dev nD) : (dats m 0 c).arrAt 14 cfg0.N = fun i : (⟨2, ![8192, 1024]⟩ : Shape).Idx => past m c i
    + rowGrad (row (stream m c) (i 0)) (hatGrad (row (normW m c) 0) (row (scale m c) 0) (du m c (i 0))) (i 1) := by
  refine (dats m 0 c).arrAt_eq_of_covers 14 _ (by decide +kernel) fun t hf y => ?_
  blk_simp
  obtain ⟨-, -, -, -, -, -, -, ⟨e, f⟩⟩ := row_index t
  have hr : ((win0_14.blk t).view.emb y 0).val = t.val * 256 + (y 0).val := by
    show win0_14.index t 0 * 256 + 1 * (y 0).val = _; rw [e]; omega
  have hq : (win0_14.blk t).view.emb y 1 = y 1 := Fin.ext (by
    show win0_14.index t 1 * 1024 + 1 * (y 1).val = _; rw [f]; omega)
  have hy := past_eq m c t (y 0) _ hr (y 1)
  have hg := grad_apply (duBlock m c t) (iblk m c 10 t) (iblk m c 13 t) (iblk m c 11 t) (iblk m c 12 t) (y 0) (y 1)
  rw [hy, normW_eq, scale_eq, du_eq m c t (y 0) _ hr, stream_eq m c t (y 0) _ hr, ← hq] at hg
  rw [after0_14, grad_at]
  rw [hq, ix2_eta, ← hq, ix2_eta] at hg
  exact hg

/-- The last point. -/
@[irreducible] def lastPoint : Fin cfg0.N := ⟨31, by rw [show cfg0.N = 32 from N_0]; omega⟩

theorem lastPoint_val : lastPoint.val + 1 = cfg0.N := by
  unfold lastPoint
  exact N_0.symm

/-- A row's terms of the three sums over rows. -/
def weightTerm (c : Dev nD) (p : Fin 8192) (q : Fin 1024) : EReal :=
  du m c p q * (one + row (scale m c) 0 q) * hat (row (stream m c) p) q
def scaleTerm (c : Dev nD) (p : Fin 8192) (q : Fin 1024) : EReal :=
  du m c p q * (hat (row (stream m c) p) q * row (normW m c) 0 q)
def shiftTerm (c : Dev nD) (p : Fin 8192) (q : Fin 1024) : EReal := du m c p q

section Sums

variable (c : Dev nD) (t : Fin cfg0.N) (v : Vec Ideal S1x1024 .f32) (y : S1x1024.Idx)

/-- What a point adds to them. -/
theorem weight_at : (k0_pay15 (duBlock m c t) (iblk m c 10 t) (iblk m c 12 t) (k0_pay4 (iblk m c 10 t)) (k0_pay5 (F := Ideal)) v y : EReal)
    = v y + ∑ p : Fin 256, weightTerm m c (rowAt N_0 t p) (y 1) := by
  have e := weight_apply (duBlock m c t) (iblk m c 10 t) (iblk m c 12 t) v (y 1)
  rw [row_eta, scale_eq] at e
  refine e.trans (congrArg (v y + ·) (Finset.sum_congr rfl fun p _ => ?_))
  rw [du_eq m c t p (rowAt N_0 t p) rfl, stream_eq m c t p (rowAt N_0 t p) rfl]
  rfl

theorem scale_at :
    (k0_pay1 (k0_pay9 (duBlock m c t) (iblk m c 10 t) (iblk m c 11 t) (k0_pay4 (iblk m c 10 t)) (k0_pay5 (F := Ideal))) v y : EReal)
      = v y + ∑ p : Fin 256, scaleTerm m c (rowAt N_0 t p) (y 1) := by
  have e := scale_apply (duBlock m c t) (iblk m c 10 t) (iblk m c 11 t) v (y 1)
  rw [row_eta, normW_eq] at e
  refine e.trans (congrArg (v y + ·) (Finset.sum_congr rfl fun p _ => ?_))
  rw [du_eq m c t p (rowAt N_0 t p) rfl, stream_eq m c t p (rowAt N_0 t p) rfl]
  rfl

theorem shift_at : (k0_pay2 (k0_pay8 (duBlock m c t)) v y : EReal)
    = v y + ∑ p : Fin 256, shiftTerm m c (rowAt N_0 t p) (y 1) := by
  have e := shift_apply (duBlock m c t) v (y 1)
  rw [row_eta] at e
  refine e.trans (congrArg (v y + ·) (Finset.sum_congr rfl fun p _ => ?_))
  rw [du_eq m c t p (rowAt N_0 t p) rfl]
  rfl

end Sums

/-- The three sums over rows. -/
theorem out15 (c : Dev nD) : (dats m 0 c).arrAt 15 cfg0.N
    = fun j : (⟨2, ![1, 1024]⟩ : Shape).Idx => ∑ p : Fin 8192, weightTerm m c p (j 1) := by
  refine (dats m 0 c).arrAt_eq_of_after_last 15 lastPoint (by decide +kernel) _ fun j => ?_
  blk_simp
  rw [after0_15]
  refine (sum_blocks N_0 (fun n hn => (outsAt0 m c n hn).2.1) (fun t i => ∑ p : Fin 256, weightTerm m c (rowAt N_0 t p) (i 1))
    (weightTerm m c) (fun t q => rfl) (fun t h0 y => ?_) (fun t h0 y => ?_) lastPoint lastPoint_val _).trans rfl
  · rw [outsAt0_A m c t h0]
    frame_out
    refine (weight_at m c t _ y).trans (congrArg (· + _) ?_)
    unfold k0_pay12
    exact ofBits_zero
  · rw [outsAt0_B m c t h0]
    frame_out
    exact weight_at m c t _ y

theorem out16 (c : Dev nD) : (dats m 0 c).arrAt 16 cfg0.N
    = fun j : (⟨2, ![1, 1024]⟩ : Shape).Idx => ∑ p : Fin 8192, scaleTerm m c p (j 1) := by
  refine (dats m 0 c).arrAt_eq_of_after_last 16 lastPoint (by decide +kernel) _ fun j => ?_
  blk_simp
  rw [after0_16]
  refine (sum_blocks N_0 (fun n hn => (outsAt0 m c n hn).2.2.1) (fun t i => ∑ p : Fin 256, scaleTerm m c (rowAt N_0 t p) (i 1))
    (scaleTerm m c) (fun t q => rfl) (fun t h0 y => ?_) (fun t h0 y => ?_) lastPoint lastPoint_val _).trans rfl
  · rw [outsAt0_A m c t h0]
    frame_out
    refine (scale_at m c t _ y).trans (congrArg (· + _) ?_)
    unfold k0_pay13
    exact ofBits_zero
  · rw [outsAt0_B m c t h0]
    frame_out
    exact scale_at m c t _ y

theorem out17 (c : Dev nD) : (dats m 0 c).arrAt 17 cfg0.N
    = fun j : (⟨2, ![1, 1024]⟩ : Shape).Idx => ∑ p : Fin 8192, shiftTerm m c p (j 1) := by
  refine (dats m 0 c).arrAt_eq_of_after_last 17 lastPoint (by decide +kernel) _ fun j => ?_
  blk_simp
  rw [after0_17]
  refine (sum_blocks N_0 (fun n hn => (outsAt0 m c n hn).2.2.2) (fun t i => ∑ p : Fin 256, shiftTerm m c (rowAt N_0 t p) (i 1))
    (shiftTerm m c) (fun t q => rfl) (fun t h0 y => ?_) (fun t h0 y => ?_) lastPoint lastPoint_val _).trans rfl
  · rw [outsAt0_A m c t h0]
    frame_out
    refine (shift_at m c t _ y).trans (congrArg (· + _) ?_)
    unfold k0_pay14
    exact ofBits_zero
  · rw [outsAt0_B m c t h0]
    frame_out
    exact shift_at m c t _ y

end Cert.Kernel15Ideal.Hand

namespace Cert.Proof

open Cert.Common Cert.NormBwd Cert.InProjBwd
open Idealize.ShloMosaic Idealize.ShloMosaic.TcCoe Idealize.SL.Sem
open scoped BigOperators

section Reference

open Cert.Reference15Ideal.Read

variable (x0 : (⟨2, ![8192, 3072]⟩ : Shape).Idx → EReal) (x1 : (⟨2, ![8192, 1024]⟩ : Shape).Idx → EReal)
  (x2 : (⟨2, ![8192, 2048]⟩ : Shape).Idx → EReal) (x3 : (⟨2, ![8192, 1536]⟩ : Shape).Idx → EReal)
  (x4 : (⟨2, ![8192, 256]⟩ : Shape).Idx → EReal) (x5 : (⟨2, ![1024, 7680]⟩ : Shape).Idx → EReal)
  (x6 : (⟨2, ![1024, 256]⟩ : Shape).Idx → EReal) (x7 x10 : (⟨2, ![8192, 1024]⟩ : Shape).Idx → EReal)
  (x8 x9 : (⟨2, ![1, 1024]⟩ : Shape).Idx → EReal)

theorem reference15_spread (p : Fin 8192) : (val_main_v14 (F := Ideal) x7 (ix2 p 0) : EReal) = spread (row x7 p) := by
  unfold val_main_v14 val_main_v13 val_main_v12 val_main_v11 val_main_v10 val_main_v9 val_main_v8 val_main_cst_0 val_main_cst_1
    val_main_cst_2 spread row
  pointwise

theorem reference15_hat (p : Fin 8192) (q : Fin 1024) : (val_main_v20 (F := Ideal) x7 (ix2 p q) : EReal) = hat (row x7 p) q := by
  unfold hat invRoot
  rw [← reference15_spread x7 p]
  unfold val_main_v20 val_main_v19 val_main_v15
  generalize val_main_v14 (F := Ideal) x7 = v
  pointwise

/-- One product over the pieces side by side is the sum of the pieces' products. -/
theorem reference15_du (p : Fin 8192) (q : Fin 1024) :
    (val_main_v38 (F := Ideal) x0 x1 x2 x3 x4 x5 x6 (ix2 p q) : EReal) = modGrad x0 x1 x2 x3 x4 x5 x6 p q := by
  unfold val_main_v38 val_main_v37 val_main_v36 val_main_v35 val_main_v0 val_main_v1 val_main_v2 val_main_v3 val_main_v4 val_main_v5
    val_main_v6 modGrad pieceRow rowRow
  pointwise
  generalize (∑ x : Fin 256, (x4 (ix2 p x) : EReal) * x6 (ix2 q x)) = T
  rw [add_comm T]
  refine congrArg (· + T) ?_
  rw [Fin.sum_univ_two_halves (N := 7680) 6144 1536 (by omega), Fin.sum_univ_two_halves (N := 6144) 4096 2048 (by omega),
    Fin.sum_univ_two_halves (N := 4096) 3072 1024 (by omega)]
  refine congrArg₂ (· + ·) (congrArg₂ (· + ·) (congrArg₂ (· + ·) ?_ ?_) ?_) ?_ <;> refine Finset.sum_congr rfl fun k _ => ?_ <;>
    have hk := k.isLt
  · rw [dif_pos hk]
  · rw [dif_neg (by show ¬3072 + k.val < 3072; omega), dif_pos (by show 3072 + k.val - 3072 < 1024; omega)]
    simp only [show 3072 + k.val - 3072 = k.val by omega]
  · rw [dif_neg (by show ¬4096 + k.val < 3072; omega), dif_neg (by show ¬4096 + k.val - 3072 < 1024; omega),
      dif_pos (by show 4096 + k.val - 3072 - 1024 < 2048; omega)]
    simp only [show 4096 + k.val - 3072 - 1024 = k.val by omega]
  · rw [dif_neg (by show ¬6144 + k.val < 3072; omega), dif_neg (by show ¬6144 + k.val - 3072 < 1024; omega),
      dif_neg (by show ¬6144 + k.val - 3072 - 1024 < 2048; omega)]
    simp only [show 6144 + k.val - 3072 - 1024 - 2048 = k.val by omega]

theorem reference15_scaled (p : Fin 8192) (q : Fin 1024) : (val_main_v45 (F := Ideal) x0 x1 x2 x3 x4 x5 x6 x9 (ix2 p q) : EReal)
    = modGrad x0 x1 x2 x3 x4 x5 x6 p q * (one + row x9 0 q) := by
  rw [← reference15_du]
  unfold val_main_v45 val_main_v44 val_main_v24 val_main_v23 val_main_cst_4
  generalize val_main_v38 (F := Ideal) x0 x1 x2 x3 x4 x5 x6 = d
  pointwise

theorem reference15_hatGrad (p : Fin 8192) (q : Fin 1024) :
    (val_main_v50 (F := Ideal) x0 x1 x2 x3 x4 x5 x6 x8 x9 (ix2 p q) : EReal)
      = hatGrad (row x8 0) (row x9 0) (fun k => modGrad x0 x1 x2 x3 x4 x5 x6 p k) q := by
  unfold hatGrad
  rw [← reference15_scaled]
  unfold val_main_v50 val_main_v49
  generalize val_main_v45 (F := Ideal) x0 x1 x2 x3 x4 x5 x6 x9 = d
  pointwise

theorem reference15_share (p : Fin 8192) (q : Fin 1024) :
    (val_main_v61 (F := Ideal) x0 x1 x2 x3 x4 x5 x6 x7 x8 x9 (ix2 p q) : EReal)
      = share (row x7 p) (hatGrad (row x8 0) (row x9 0) fun k => modGrad x0 x1 x2 x3 x4 x5 x6 p k) := by
  unfold share invRoot
  simp only [← reference15_hatGrad, ← reference15_spread]
  unfold val_main_v61 val_main_v60 val_main_v59 val_main_v58 val_main_v57 val_main_v53 val_main_v52 val_main_v51 val_main_v18
    val_main_v17 val_main_v16 val_main_v15 val_main_cst_3 val_main_cst_8 val_main_cst_9 val_main_cst_10
  generalize val_main_v14 (F := Ideal) x7 = v
  generalize val_main_v50 (F := Ideal) x0 x1 x2 x3 x4 x5 x6 x8 x9 = a
  pointwise
  exact Fin.sum_univ_one _

theorem reference15_grad (p : Fin 8192) (q : Fin 1024) :
    (val_main_v65 (F := Ideal) x0 x1 x2 x3 x4 x5 x6 x7 x8 x9 x10 (ix2 p q) : EReal)
      = x10 (ix2 p q) + rowGrad (row x7 p) (hatGrad (row x8 0) (row x9 0) fun k => modGrad x0 x1 x2 x3 x4 x5 x6 p k) q := by
  rw [rowGrad_eq, ← reference15_share x0 x1 x2 x3 x4 x5 x6 x7 x8 x9 p q, ← reference15_hatGrad x0 x1 x2 x3 x4 x5 x6 x8 x9 p q]
  unfold invRoot
  rw [← reference15_spread]
  unfold val_main_v65 val_main_v64 val_main_v63 val_main_v62 val_main_v56 val_main_v55 val_main_v54 val_main_v15
  generalize val_main_v14 (F := Ideal) x7 = v
  generalize val_main_v50 (F := Ideal) x0 x1 x2 x3 x4 x5 x6 x8 x9 = a
  generalize val_main_v61 (F := Ideal) x0 x1 x2 x3 x4 x5 x6 x7 x8 x9 = b
  pointwise

theorem reference15_weight (q : Fin 1024) : (val_main_v48 (F := Ideal) x0 x1 x2 x3 x4 x5 x6 x7 x9 (ix2 0 q) : EReal)
    = ∑ p : Fin 8192, modGrad x0 x1 x2 x3 x4 x5 x6 p q * (one + row x9 0 q) * hat (row x7 p) q := by
  simp only [← reference15_scaled, ← reference15_hat]
  simp only [mul_comm (val_main_v45 (F := Ideal) x0 x1 x2 x3 x4 x5 x6 x9 _ : EReal)]
  unfold val_main_v48 val_main_v47 val_main_v46 val_main_cst_7
  generalize val_main_v45 (F := Ideal) x0 x1 x2 x3 x4 x5 x6 x9 = d
  generalize val_main_v20 (F := Ideal) x7 = a
  pointwise

theorem reference15_scale (q : Fin 1024) : (val_main_v43 (F := Ideal) x0 x1 x2 x3 x4 x5 x6 x7 x8 (ix2 0 q) : EReal)
    = ∑ p : Fin 8192, modGrad x0 x1 x2 x3 x4 x5 x6 p q * (hat (row x7 p) q * row x8 0 q) := by
  simp only [← reference15_du, ← reference15_hat]
  simp only [mul_comm (val_main_v38 (F := Ideal) x0 x1 x2 x3 x4 x5 x6 _ : EReal)]
  unfold val_main_v43 val_main_v42 val_main_v41 val_main_v22 val_main_v21 val_main_cst_6
  generalize val_main_v38 (F := Ideal) x0 x1 x2 x3 x4 x5 x6 = d
  generalize val_main_v20 (F := Ideal) x7 = a
  pointwise

theorem reference15_shift (q : Fin 1024) : (val_main_v40 (F := Ideal) x0 x1 x2 x3 x4 x5 x6 (ix2 0 q) : EReal)
    = ∑ p : Fin 8192, modGrad x0 x1 x2 x3 x4 x5 x6 p q := by
  simp only [← reference15_du]
  unfold val_main_v40 val_main_v39 val_main_cst_5
  generalize val_main_v38 (F := Ideal) x0 x1 x2 x3 x4 x5 x6 = d
  pointwise

/-- The four results, as arrays. -/
theorem reference15_grads : val_main_v65 (F := Ideal) x0 x1 x2 x3 x4 x5 x6 x7 x8 x9 x10
    = fun i : (⟨2, ![8192, 1024]⟩ : Shape).Idx => (x10 i + rowGrad (row x7 (i 0))
        (hatGrad (row x8 0) (row x9 0) fun k => modGrad x0 x1 x2 x3 x4 x5 x6 (i 0) k) (i 1) : EReal) := funext fun i => by
  have e := reference15_grad x0 x1 x2 x3 x4 x5 x6 x7 x10 x8 x9 (i 0) (i 1)
  rw [ix2_eta] at e
  exact e
theorem reference15_weights : val_main_v48 (F := Ideal) x0 x1 x2 x3 x4 x5 x6 x7 x9 = fun j : (⟨2, ![1, 1024]⟩ : Shape).Idx =>
    (∑ p : Fin 8192, modGrad x0 x1 x2 x3 x4 x5 x6 p (j 1) * (one + row x9 0 (j 1)) * hat (row x7 p) (j 1) : EReal) :=
  funext fun j => by
    have e := reference15_weight x0 x1 x2 x3 x4 x5 x6 x7 x9 (j 1)
    rw [row_eta] at e
    exact e
theorem reference15_scales : val_main_v43 (F := Ideal) x0 x1 x2 x3 x4 x5 x6 x7 x8 = fun j : (⟨2, ![1, 1024]⟩ : Shape).Idx =>
    (∑ p : Fin 8192, modGrad x0 x1 x2 x3 x4 x5 x6 p (j 1) * (hat (row x7 p) (j 1) * row x8 0 (j 1)) : EReal) :=
  funext fun j => by
    have e := reference15_scale x0 x1 x2 x3 x4 x5 x6 x7 x8 (j 1)
    rw [row_eta] at e
    exact e
theorem reference15_shifts : val_main_v40 (F := Ideal) x0 x1 x2 x3 x4 x5 x6 = fun j : (⟨2, ![1, 1024]⟩ : Shape).Idx =>
    (∑ p : Fin 8192, modGrad x0 x1 x2 x3 x4 x5 x6 p (j 1) : EReal) := funext fun j => by
  have e := reference15_shift x0 x1 x2 x3 x4 x5 x6 (j 1)
  rw [row_eta] at e
  exact e

end Reference

/-- `in_proj_bwd` equals its reference. -/
theorem algebraic15 : Cert.algebraic_Kernel15Ideal_Reference15Ideal := by
  intro m g m' g' _ hargs
  have run := Cert.Kernel15Ideal.Value.run_blocks (F := Ideal) m g
  simp only [Cert.Kernel15Ideal.Hand.out14, Cert.Kernel15Ideal.Hand.out15, Cert.Kernel15Ideal.Hand.out16,
    Cert.Kernel15Ideal.Hand.out17] at run
  refine ⟨_, _, _, _, run, ?_⟩
  refine (θ_run Cert.Reference15Ideal.defs _ _).mono (fun r h c => ?_) (Cert.Reference15Ideal.Value.run m' g')
  obtain ⟨h0, h1, h2, h3, keep⟩ := h c
  obtain ⟨a0, a1, a2, a3, a4, a5, a6, a7, a8, a9, a10⟩ := hargs c
  rw [Cert.Reference15Ideal.Read.val_main_v65_eq, a0, a1, a2, a3, a4, a5, a6, a7, a8, a9, a10] at h0
  rw [a0, a1, a2, a3, a4, a5, a6, a7, a9] at h1
  rw [a0, a1, a2, a3, a4, a5, a6, a7, a8] at h2
  rw [a0, a1, a2, a3, a4, a5, a6] at h3
  exact ⟨h0.trans (reference15_grads _ _ _ _ _ _ _ _ _ _ _), h1.trans (reference15_weights _ _ _ _ _ _ _ _ _),
    h2.trans (reference15_scales _ _ _ _ _ _ _ _ _), h3.trans (reference15_shifts _ _ _ _ _ _ _), keep⟩

end Cert.Proof

end
-- ==== Proof.MergeFwd.lean ====
/-
  The value of the merge of the two branches: each branch's output projection is a product of two matrices; the two are
  added with weights that are logistic functions of the gates, the sum goes through the last projection, and the stream
  takes it times the gate's row.
-/
module

public import Idealize.ShloMosaic.Lib.Pipeline.ValueKit
public import proofs.«01_k».proof.Proof.Common
public import proofs.«01_k».proof.Defs
public import proofs.«01_k».proof.Proof.Gen.Kernel16Ideal.Value
public import proofs.«01_k».proof.Proof.Gen.Kernel16Ideal.Skeleton
public import proofs.«01_k».proof.Proof.Gen.Reference16Ideal.Run
public import proofs.«01_k».proof.Proof.Gen.Reference16Ideal.Read

@[expose] public section

noncomputable section

namespace Cert.MergeFwd

open Cert.Common
open Idealize.ShloMosaic
open scoped BigOperators

/-- The logistic function, as a program spells it. -/
def sigmoid (x : EReal) : EReal := Ideal.div one (one + Ideal.exp (-x))

/-- Two numbers added with the gates' weights. -/
def gated (a b x y : EReal) : EReal := sigmoid a * x + sigmoid b * y

variable (ya : (⟨2, ![8192, 512]⟩ : Shape).Idx → EReal) (yb : (⟨2, ![8192, 1024]⟩ : Shape).Idx → EReal)
  (proj : (⟨2, ![8192, 7680]⟩ : Shape).Idx → EReal) (wa : (⟨2, ![512, 1024]⟩ : Shape).Idx → EReal)
  (wb wo : (⟨2, ![1024, 1024]⟩ : Shape).Idx → EReal) (h : (⟨2, ![8192, 1024]⟩ : Shape).Idx → EReal)
  (g : (⟨2, ![1, 1024]⟩ : Shape).Idx → EReal)

/-- The two gates: 1024 columns of the projections each, from column 4096 and from column 5120 on. -/
def gateA (p : Fin 8192) (q : Fin 1024) : EReal := proj (ix2 p ⟨4096 + q.val, by omega⟩)
def gateB (p : Fin 8192) (q : Fin 1024) : EReal := proj (ix2 p ⟨5120 + q.val, by omega⟩)

/-- The merged row, its projection, and the stream after it. -/
def merged (p : Fin 8192) (q : Fin 1024) : EReal :=
  gated (gateA proj p q) (gateB proj p q) (rowDot ya wa p q) (rowDot yb wb p q)
def mix (p : Fin 8192) (q : Fin 1024) : EReal := ∑ k : Fin 1024, merged ya yb proj wa wb p k * wo (ix2 k q)
def after (p : Fin 8192) (q : Fin 1024) : EReal := h (ix2 p q) + g (ix2 0 q) * mix ya yb proj wa wb wo p q

end Cert.MergeFwd

namespace Cert.Kernel16Ideal.Hand

open Cert.Kernel16Ideal Cert.Kernel16Ideal.Gen Cert.Kernel16Ideal.Value Cert.Common Cert.MergeFwd
open Idealize.ShloMosaic Idealize.ShloMosaic.TcCoe Idealize.SL.Sem
open Idealize.ShloMosaic.Pipeline (Dat)
open scoped BigOperators

section Block

variable (x0 : Vec Ideal S512x512 .bf16) (x1 : Vec Ideal S512x1024 .bf16) (x3 : Vec Ideal S512x1024 .bf16)
  (x4 : Vec Ideal S1024x1024 .bf16) (a b : Vec Ideal S512x1024 .bf16)

theorem prodA_apply (p : Fin 512) (q : Fin 1024) :
    (k0_pay4 x0 x1 (ix2 p q) : EReal) = rowDot (M := 512) (K := 512) (N := 1024) x0 x1 p q := by
  unfold k0_pay4 rowDot
  pointwise

theorem prodB_apply (p : Fin 512) (q : Fin 1024) :
    (k0_pay5 x3 x4 (ix2 p q) : EReal) = rowDot (M := 512) (K := 1024) (N := 1024) x3 x4 p q := by
  unfold k0_pay5 rowDot
  pointwise

/-- The products in half precision are the same numbers. -/
theorem roundA_apply (p : Fin 512) (q : Fin 1024) :
    (k0_pay6 x0 x1 (ix2 p q) : EReal) = rowDot (M := 512) (K := 512) (N := 1024) x0 x1 p q := by
  rw [← prodA_apply]
  unfold k0_pay6
  generalize k0_pay4 x0 x1 = d
  pointwise

theorem roundB_apply (p : Fin 512) (q : Fin 1024) :
    (k0_pay7 x3 x4 (ix2 p q) : EReal) = rowDot (M := 512) (K := 1024) (N := 1024) x3 x4 p q := by
  rw [← prodB_apply]
  unfold k0_pay7
  generalize k0_pay5 x3 x4 = d
  pointwise

theorem merged_apply (p : Fin 512) (q : Fin 1024) : (k0_pay8 x0 x1 x3 x4 a b (ix2 p q) : EReal)
    = gated (a (ix2 p q)) (b (ix2 p q)) (rowDot (M := 512) (K := 512) (N := 1024) x0 x1 p q)
        (rowDot (M := 512) (K := 1024) (N := 1024) x3 x4 p q) := by
  rw [← prodA_apply, ← prodB_apply]
  unfold k0_pay8 gated sigmoid
  generalize k0_pay4 x0 x1 = d
  generalize k0_pay5 x3 x4 = e
  pointwise
  rw [zero_sub, zero_sub]

theorem mix_apply (u : FVec Ideal S512x1024 .bf16) (w : Vec Ideal S1024x1024 .bf16) (p : Fin 512) (q : Fin 1024) :
    (k0_pay1 u w (ix2 p q) : EReal) = rowDot (M := 512) (K := 1024) (N := 1024) u w p q := by
  unfold k0_pay1 rowDot
  pointwise

theorem after_apply (u : FVec Ideal S512x1024 .bf16) (w : Vec Ideal S1024x1024 .bf16) (h : Vec Ideal S512x1024 .f32)
    (g : Vec Ideal S1x1024 .f32) (p : Fin 512) (q : Fin 1024) : (k0_pay3 u w h g (ix2 p q) : EReal)
    = h (ix2 p q) + g (ix2 0 q) * rowDot (M := 512) (K := 1024) (N := 1024) u w p q := by
  rw [← mix_apply]
  unfold k0_pay3
  generalize k0_pay1 u w = d
  pointwise

end Block

variable (m : (ℓ : Loc nD τ sig) → Buf (Elt Ideal) ℓ)

/-- The eight arrays on device `c`: the branches' rows, the projections, the three weights, the stream and the gate's row. -/
abbrev rowsA (c : Dev nD) : (⟨2, ![8192, 512]⟩ : Shape).Idx → EReal := m ((c : Thread nD τ).loc main_arg0)
abbrev rowsB (c : Dev nD) : (⟨2, ![8192, 1024]⟩ : Shape).Idx → EReal := m ((c : Thread nD τ).loc main_arg1)
abbrev proj (c : Dev nD) : (⟨2, ![8192, 7680]⟩ : Shape).Idx → EReal := m ((c : Thread nD τ).loc main_arg2)
abbrev weightA (c : Dev nD) : (⟨2, ![512, 1024]⟩ : Shape).Idx → EReal := m ((c : Thread nD τ).loc main_arg3)
abbrev weightB (c : Dev nD) : (⟨2, ![1024, 1024]⟩ : Shape).Idx → EReal := m ((c : Thread nD τ).loc main_arg4)
abbrev weightO (c : Dev nD) : (⟨2, ![1024, 1024]⟩ : Shape).Idx → EReal := m ((c : Thread nD τ).loc main_arg5)
abbrev stream (c : Dev nD) : (⟨2, ![8192, 1024]⟩ : Shape).Idx → EReal := m ((c : Thread nD τ).loc main_arg6)
abbrev gate (c : Dev nD) : (⟨2, ![1, 1024]⟩ : Shape).Idx → EReal := m ((c : Thread nD τ).loc main_arg7)

/-- The row arrays' blocks are block `t` of their rows, the gates' at column block 2; the others are whole at every point. -/
theorem index_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 2)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0)
    ∧ (win0_7.index t 0 = 0 ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) :=
  (by decide +kernel : ∀ t : Fin grid0.N, _)

section Rows

variable (c : Dev nD) (t : Fin cfg0.N) (p : Fin 512) (q : Fin 1024) (r : Fin 8192) (h : r.val = t.val * 512 + p.val)
include h

/-- Row `p` of a block at point `t` is row `512 * t + p` of its array. -/
theorem prodA_eq : rowDot (M := 512) (K := 512) (N := 1024) (iblk m c 0 t) (iblk m c 3 t) p q
    = rowDot (rowsA m c) (weightA m c) r q := by
  obtain ⟨⟨e0, f0⟩, -, -, ⟨e3, f3⟩, -⟩ := index_facts t
  refine Finset.sum_congr rfl fun k _ => congrArg₂ (· * ·) (at2 (rowsA m c) _ _ ?_ ?_) (at2 (weightA m c) _ _ ?_ ?_)
  · show win0_0.index t 0 * 512 + 1 * p.val = r.val; rw [e0]; omega
  · show win0_0.index t 1 * 512 + 1 * k.val = k.val; rw [f0]; omega
  · show win0_3.index t 0 * 512 + 1 * k.val = k.val; rw [e3]; omega
  · show win0_3.index t 1 * 1024 + 1 * q.val = q.val; rw [f3]; omega

theorem prodB_eq : rowDot (M := 512) (K := 1024) (N := 1024) (iblk m c 1 t) (iblk m c 4 t) p q
    = rowDot (rowsB m c) (weightB m c) r q := by
  obtain ⟨-, ⟨e1, f1⟩, -, -, ⟨e4, f4⟩, -⟩ := index_facts t
  refine Finset.sum_congr rfl fun k _ => congrArg₂ (· * ·) (at2 (rowsB m c) _ _ ?_ ?_) (at2 (weightB m c) _ _ ?_ ?_)
  · show win0_1.index t 0 * 512 + 1 * p.val = r.val; rw [e1]; omega
  · show win0_1.index t 1 * 1024 + 1 * k.val = k.val; rw [f1]; omega
  · show win0_4.index t 0 * 1024 + 1 * k.val = k.val; rw [e4]; omega
  · show win0_4.index t 1 * 1024 + 1 * q.val = q.val; rw [f4]; omega

theorem stream_eq : (iblk m c 6 t (ix2 p q) : EReal) = stream m c (ix2 r q) := by
  obtain ⟨-, -, -, -, -, -, ⟨e6, f6⟩, -⟩ := index_facts t
  refine at2 (stream m c) _ _ ?_ ?_
  · show win0_6.index t 0 * 512 + 1 * p.val = r.val; rw [e6]; omega
  · show win0_6.index t 1 * 1024 + 1 * q.val = q.val; rw [f6]; omega

end Rows

theorem gate_eq (c : Dev nD) (t : Fin cfg0.N) (q : Fin 1024) : (iblk m c 7 t (ix2 0 q) : EReal) = gate m c (ix2 0 q) := by
  obtain ⟨-, -, -, -, -, -, -, ⟨e7, f7⟩, -⟩ := index_facts t
  refine at2 (gate m c) _ _ ?_ ?_
  · show win0_7.index t 0 * 1 + 1 * 0 = 0; rw [e7]
  · show win0_7.index t 1 * 1024 + 1 * q.val = q.val; rw [f7]; omega

theorem weightO_eq (c : Dev nD) (t : Fin cfg0.N) (k q : Fin 1024) :
    (iblk m c 5 t (ix2 k q) : EReal) = weightO m c (ix2 k q) := by
  obtain ⟨-, -, -, -, -, ⟨e5, f5⟩, -⟩ := index_facts t
  refine at2 (weightO m c) _ _ ?_ ?_
  · show win0_5.index t 0 * 1024 + 1 * k.val = k.val; rw [e5]; omega
  · show win0_5.index t 1 * 1024 + 1 * q.val = q.val; rw [f5]; omega

theorem gates_eq (c : Dev nD) (t : Fin cfg0.N) (j : (⟨2, ![512, 2048]⟩ : Shape).Idx) (i : (⟨2, ![8192, 7680]⟩ : Shape).Idx)
    (h0 : (i 0).val = t.val * 512 + (j 0).val) (h1 : (i 1).val = 4096 + (j 1).val) : (X0_2 m c t j : EReal) = proj m c i := by
  obtain ⟨-, -, ⟨e2, f2⟩, -⟩ := index_facts t
  unfold X0_2 Pipeline.Window.fill
  rw [dif_pos (moved0_2 t j)]
  refine at2 (proj m c) _ _ ?_ ?_
  · show win0_2.index t 0 * 512 + 1 * (j 0).val = (i 0).val; rw [e2]; omega
  · show win0_2.index t 1 * 2048 + 1 * (j 1).val = (i 1).val; rw [f2]; omega

/-- The merged row's block at point `t`. -/
abbrev mergedBlock (c : Dev nD) (t : Fin cfg0.N) : FVec Ideal S512x1024 .bf16 :=
  k0_pay8 (iblk m c 0 t) (iblk m c 3 t) (iblk m c 1 t) (iblk m c 4 t)
    (View.ld (X0_2 m c t) (Rect.unit ![0, 0] ![512, 1024] inb_S512x2048_S512x1024_0_0))
    (View.ld (X0_2 m c t) (Rect.unit ![0, 1024] ![512, 1024] inb_S512x2048_S512x1024_0_1024))

theorem mix_eq (c : Dev nD) (t : Fin cfg0.N) (p : Fin 512) (q : Fin 1024) (r : Fin 8192) (h : r.val = t.val * 512 + p.val) :
    (k0_pay1 (mergedBlock m c t) (iblk m c 5 t) (ix2 p q) : EReal)
      = mix (rowsA m c) (rowsB m c) (proj m c) (weightA m c) (weightB m c) (weightO m c) r q := by
  rw [mix_apply]
  refine Finset.sum_congr rfl fun k _ => congrArg₂ (· * ·) ?_ (weightO_eq m c t k q)
  refine (merged_apply _ _ _ _ _ _ p k).trans ?_
  rw [prodA_eq m c t p k r h, prodB_eq m c t p k r h]
  unfold merged gateA gateB
  refine congrArg₂ (fun a b => gated a b _ _) (gates_eq m c t _ _ ?_ ?_) (gates_eq m c t _ _ ?_ ?_)
  · show r.val = t.val * 512 + (0 + 1 * p.val); omega
  · show 4096 + k.val = 4096 + (0 + 1 * k.val); omega
  · show r.val = t.val * 512 + (0 + 1 * p.val); omega
  · show 5120 + k.val = 4096 + (1024 + 1 * k.val); omega

theorem after_eq (c : Dev nD) (t : Fin cfg0.N) (p : Fin 512) (q : Fin 1024) (r : Fin 8192) (h : r.val = t.val * 512 + p.val) :
    (k0_pay3 (mergedBlock m c t) (iblk m c 5 t) (iblk m c 6 t) (iblk m c 7 t) (ix2 p q) : EReal)
      = after (rowsA m c) (rowsB m c) (proj m c) (weightA m c) (weightB m c) (weightO m c) (stream m c) (gate m c) r q := by
  unfold after
  rw [← mix_eq m c t p q r h, mix_apply, ← stream_eq m c t p q r h, ← gate_eq m c t q]
  exact after_apply _ _ _ _ p q

/-! ## The four arrays after the run -/

theorem out8 (c : Dev nD) : (dats m 0 c).arrAt 8 cfg0.N = fun i : (⟨2, ![8192, 1024]⟩ : Shape).Idx =>
    rowDot (rowsA m c) (weightA m c) (i 0) (i 1) := by
  refine (dats m 0 c).arrAt_eq_of_covers 8 _ (by decide +kernel) fun t hf y => ?_
  blk_simp
  obtain ⟨-, -, -, -, -, -, -, -, ⟨e, f⟩, -⟩ := index_facts t
  have hr : ((win0_8.blk t).view.emb y 0).val = t.val * 512 + (y 0).val := by
    show win0_8.index t 0 * 512 + 1 * (y 0).val = _; rw [e]; omega
  have hq : (win0_8.blk t).view.emb y 1 = y 1 := Fin.ext (by
    show win0_8.index t 1 * 1024 + 1 * (y 1).val = _; rw [f]; omega)
  have hg := roundA_apply (iblk m c 0 t) (iblk m c 3 t) (y 0) (y 1)
  rw [prodA_eq m c t (y 0) (y 1) _ hr, ix2_eta, ← hq] at hg
  rw [after0_8]
  unfold outsAt0
  frame_out
  exact hg

theorem out9 (c : Dev nD) : (dats m 0 c).arrAt 9 cfg0.N = fun i : (⟨2, ![8192, 1024]⟩ : Shape).Idx =>
    rowDot (rowsB m c) (weightB m c) (i 0) (i 1) := by
  refine (dats m 0 c).arrAt_eq_of_covers 9 _ (by decide +kernel) fun t hf y => ?_
  blk_simp
  obtain ⟨-, -, -, -, -, -, -, -, -, ⟨e, f⟩, -⟩ := index_facts t
  have hr : ((win0_9.blk t).view.emb y 0).val = t.val * 512 + (y 0).val := by
    show win0_9.index t 0 * 512 + 1 * (y 0).val = _; rw [e]; omega
  have hq : (win0_9.blk t).view.emb y 1 = y 1 := Fin.ext (by
    show win0_9.index t 1 * 1024 + 1 * (y 1).val = _; rw [f]; omega)
  have hg := roundB_apply (iblk m c 1 t) (iblk m c 4 t) (y 0) (y 1)
  rw [prodB_eq m c t (y 0) (y 1) _ hr, ix2_eta, ← hq] at hg
  rw [after0_9]
  frame_out
  exact hg

theorem out10 (c : Dev nD) : (dats m 0 c).arrAt 10 cfg0.N = fun i : (⟨2, ![8192, 1024]⟩ : Shape).Idx =>
    mix (rowsA m c) (rowsB m c) (proj m c) (weightA m c) (weightB m c) (weightO m c) (i 0) (i 1) := by
  refine (dats m 0 c).arrAt_eq_of_covers 10 _ (by decide +kernel) fun t hf y => ?_
  blk_simp
  obtain ⟨-, -, -, -, -, -, -, -, -, -, ⟨e, f⟩, -⟩ := index_facts t
  have hr : ((win0_10.blk t).view.emb y 0).val = t.val * 512 + (y 0).val := by
    show win0_10.index t 0 * 512 + 1 * (y 0).val = _; rw [e]; omega
  have hq : (win0_10.blk t).view.emb y 1 = y 1 := Fin.ext (by
    show win0_10.index t 1 * 1024 + 1 * (y 1).val = _; rw [f]; omega)
  have hg := mix_eq m c t (y 0) (y 1) _ hr
  rw [ix2_eta, ← hq] at hg
  rw [after0_10]
  frame_out
  exact hg

theorem out11 (c : Dev nD) : (dats m 0 c).arrAt 11 cfg0.N = fun i : (⟨2, ![8192, 1024]⟩ : Shape).Idx =>
    after (rowsA m c) (rowsB m c) (proj m c) (weightA m c) (weightB m c) (weightO m c) (stream m c) (gate m c) (i 0) (i 1) := by
  refine (dats m 0 c).arrAt_eq_of_covers 11 _ (by decide +kernel) fun t hf y => ?_
  blk_simp
  obtain ⟨-, -, -, -, -, -, -, -, -, -, -, e, f⟩ := index_facts t
  have hr : ((win0_11.blk t).view.emb y 0).val = t.val * 512 + (y 0).val := by
    show win0_11.index t 0 * 512 + 1 * (y 0).val = _; rw [e]; omega
  have hq : (win0_11.blk t).view.emb y 1 = y 1 := Fin.ext (by
    show win0_11.index t 1 * 1024 + 1 * (y 1).val = _; rw [f]; omega)
  have hg := after_eq m c t (y 0) (y 1) _ hr
  rw [ix2_eta, ← hq] at hg
  rw [after0_11]
  frame_out
  exact hg

end Cert.Kernel16Ideal.Hand

namespace Cert.Proof

open Cert.Common Cert.MergeFwd
open Idealize.ShloMosaic Idealize.ShloMosaic.TcCoe Idealize.SL.Sem
open scoped BigOperators

section Reference

open Cert.Reference16Ideal.Read

variable (x0 : (⟨2, ![8192, 512]⟩ : Shape).Idx → EReal) (x1 : (⟨2, ![8192, 1024]⟩ : Shape).Idx → EReal)
  (x2 : (⟨2, ![8192, 7680]⟩ : Shape).Idx → EReal) (x3 : (⟨2, ![512, 1024]⟩ : Shape).Idx → EReal)
  (x4 x5 : (⟨2, ![1024, 1024]⟩ : Shape).Idx → EReal) (x6 : (⟨2, ![8192, 1024]⟩ : Shape).Idx → EReal)
  (x7 : (⟨2, ![1, 1024]⟩ : Shape).Idx → EReal)

theorem reference16_prodA (p : Fin 8192) (q : Fin 1024) :
    (val_main_v9 (F := Ideal) x0 x3 (ix2 p q) : EReal) = rowDot x0 x3 p q := by
  unfold val_main_v9 val_main_v0 val_main_v3 rowDot
  pointwise

theorem reference16_prodB (p : Fin 8192) (q : Fin 1024) :
    (val_main_v10 (F := Ideal) x1 x4 (ix2 p q) : EReal) = rowDot x1 x4 p q := by
  unfold val_main_v10 val_main_v1 val_main_v4 rowDot
  pointwise

theorem reference16_gateA (p : Fin 8192) (q : Fin 1024) : (val_main_v7 (F := Ideal) x2 (ix2 p q) : EReal) = gateA x2 p q := by
  rw [val_main_v7_apply, val_main_v6_apply]
  exact at2 x2 _ _ rfl rfl

theorem reference16_gateB (p : Fin 8192) (q : Fin 1024) : (val_main_v8 (F := Ideal) x2 (ix2 p q) : EReal) = gateB x2 p q := by
  rw [val_main_v8_apply, val_main_v6_apply]
  exact at2 x2 _ _ rfl (by show 4096 + (1024 + q.val) = 5120 + q.val; omega)

theorem reference16_merged (p : Fin 8192) (q : Fin 1024) :
    (val_main_v25 (F := Ideal) x0 x1 x2 x3 x4 (ix2 p q) : EReal) = merged x0 x1 x2 x3 x4 p q := by
  unfold merged gated sigmoid
  rw [← reference16_prodA, ← reference16_prodB, ← reference16_gateA, ← reference16_gateB]
  unfold val_main_v25 val_main_v24 val_main_v23 val_main_v22 val_main_v21 val_main_v20 val_main_v19 val_main_v18 val_main_v17
    val_main_v16 val_main_v15 val_main_v14 val_main_v13 val_main_v12 val_main_v11 val_main_cst val_main_cst_0 val_main_cst_1
    val_main_cst_2
  generalize val_main_v7 (F := Ideal) x2 = a
  generalize val_main_v8 (F := Ideal) x2 = b
  generalize val_main_v9 (F := Ideal) x0 x3 = d
  generalize val_main_v10 (F := Ideal) x1 x4 = e
  pointwise

theorem reference16_mix (p : Fin 8192) (q : Fin 1024) :
    (val_main_v26 (F := Ideal) x0 x1 x2 x3 x4 x5 (ix2 p q) : EReal) = mix x0 x1 x2 x3 x4 x5 p q := by
  unfold mix
  simp only [← reference16_merged]
  unfold val_main_v26 val_main_v5
  generalize val_main_v25 (F := Ideal) x0 x1 x2 x3 x4 = u
  pointwise

theorem reference16_after (p : Fin 8192) (q : Fin 1024) : (val_main_v32 (F := Ideal) x0 x1 x2 x3 x4 x5 x6 x7 (ix2 p q) : EReal)
    = after x0 x1 x2 x3 x4 x5 x6 x7 p q := by
  unfold after
  rw [← reference16_mix]
  unfold val_main_v32 val_main_v31 val_main_v30
  generalize val_main_v26 (F := Ideal) x0 x1 x2 x3 x4 x5 = d
  pointwise

/-- The four results, as arrays. -/
theorem reference16_prodsA : val_main_v27 (F := Ideal) x0 x3
    = fun i : (⟨2, ![8192, 1024]⟩ : Shape).Idx => (rowDot x0 x3 (i 0) (i 1) : EReal) := funext fun i => by
  have e := reference16_prodA x0 x3 (i 0) (i 1)
  rw [ix2_eta] at e
  exact e
theorem reference16_prodsB : val_main_v28 (F := Ideal) x1 x4
    = fun i : (⟨2, ![8192, 1024]⟩ : Shape).Idx => (rowDot x1 x4 (i 0) (i 1) : EReal) := funext fun i => by
  have e := reference16_prodB x1 x4 (i 0) (i 1)
  rw [ix2_eta] at e
  exact e
theorem reference16_mixes : val_main_v29 (F := Ideal) x0 x1 x2 x3 x4 x5
    = fun i : (⟨2, ![8192, 1024]⟩ : Shape).Idx => (mix x0 x1 x2 x3 x4 x5 (i 0) (i 1) : EReal) := funext fun i => by
  have e := reference16_mix x0 x1 x2 x3 x4 x5 (i 0) (i 1)
  rw [ix2_eta] at e
  exact e
theorem reference16_afters : val_main_v32 (F := Ideal) x0 x1 x2 x3 x4 x5 x6 x7
    = fun i : (⟨2, ![8192, 1024]⟩ : Shape).Idx => (after x0 x1 x2 x3 x4 x5 x6 x7 (i 0) (i 1) : EReal) := funext fun i => by
  have e := reference16_after x0 x1 x2 x3 x4 x5 x6 x7 (i 0) (i 1)
  rw [ix2_eta] at e
  exact e

end Reference

/-- `merge_fwd` equals its reference. -/
theorem algebraic16 : Cert.algebraic_Kernel16Ideal_Reference16Ideal := by
  intro m g m' g' _ hargs
  have run := Cert.Kernel16Ideal.Value.run_blocks (F := Ideal) m g
  simp only [Cert.Kernel16Ideal.Hand.out8, Cert.Kernel16Ideal.Hand.out9, Cert.Kernel16Ideal.Hand.out10,
    Cert.Kernel16Ideal.Hand.out11] at run
  refine ⟨_, _, _, _, run, ?_⟩
  refine (θ_run Cert.Reference16Ideal.defs _ _).mono (fun r h c => ?_) (Cert.Reference16Ideal.Value.run m' g')
  obtain ⟨h0, h1, h2, h3, keep⟩ := h c
  obtain ⟨a0, a1, a2, a3, a4, a5, a6, a7⟩ := hargs c
  rw [a0, a3] at h0
  rw [a1, a4] at h1
  rw [a0, a1, a2, a3, a4, a5] at h2
  rw [a0, a1, a2, a3, a4, a5, a6, a7] at h3
  exact ⟨h0.trans (reference16_prodsA _ _), h1.trans (reference16_prodsB _ _), h2.trans (reference16_mixes _ _ _ _ _ _),
    h3.trans (reference16_afters _ _ _ _ _ _ _ _), keep⟩

end Cert.Proof

end
-- ==== Proof.AdamW.lean ====
/-
  The optimizer step at one element, which every optimizer call and its reference compute: from the summed gradient, the
  weight and the two moments, the new first moment, the new second moment and the weight's change.
-/
module

public import proofs.«01_k».proof.Proof.Common
public import Idealize.ShloMosaic.PureOps.Ideal.Laws

@[expose] public section

noncomputable section

namespace Cert.AdamW

open Idealize.ShloMosaic
open scoped BigOperators

/-- The first moment: nine tenths of the old one and one tenth of the gradient. -/
def moment (g m : EReal) : EReal := Ideal.ofBits .f32 0x3F666666#32 * m + Ideal.ofBits .f32 0x3DCCCCCD#32 * g

/-- The second moment: 0.999 of the old one and 0.001 of the gradient's square. -/
def square (g v : EReal) : EReal := Ideal.ofBits .f32 0x3F7FBE77#32 * v + Ideal.ofBits .f32 0x3A83126F#32 * (g * g)

/-- The weight's change: the corrected first moment over the root of the corrected second one, and the weight's own decay,
    times the learning rate. -/
def change (g w m v : EReal) : EReal :=
  Ideal.ofBits .f32 0xBA83126F#32
    * (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- The sum of the eight devices' pieces at an element. -/
def total {M N : ℕ} (g : (⟨3, ![8, M, N]⟩ : Shape).Idx → EReal) (i : (⟨2, ![M, N]⟩ : Shape).Idx) : EReal :=
  ∑ k : Fin 8, g (ix3 k (i 0) (i 1))

/-- The eight pieces added one after another. -/
theorem total_eq {M N : ℕ} (g : (⟨3, ![8, M, N]⟩ : Shape).Idx → EReal) (i : (⟨2, ![M, N]⟩ : Shape).Idx) :
    total g i = g (ix3 0 (i 0) (i 1)) + g (ix3 1 (i 0) (i 1)) + g (ix3 2 (i 0) (i 1)) + g (ix3 3 (i 0) (i 1))
      + g (ix3 4 (i 0) (i 1)) + g (ix3 5 (i 0) (i 1)) + g (ix3 6 (i 0) (i 1)) + g (ix3 7 (i 0) (i 1)) := by
  unfold total
  rw [Fin.sum_univ_eight]

end Cert.AdamW

end
-- ==== Proof.AdamFfnUp.lean ====
/-
  The value of the optimizer call w_ffn_up: it adds the eight devices' pieces of the gradient of each feed-forward up weight and
  takes the optimizer's step, both element by element in blocks of 256 rows, which is what the reference does on whole arrays.
-/
module

public import Idealize.ShloMosaic.Lib.Pipeline.ValueKit
public import proofs.«01_k».proof.Proof.AdamW
public import proofs.«01_k».proof.Defs
public import proofs.«01_k».proof.Proof.Gen.Kernel18Ideal.Value
public import proofs.«01_k».proof.Proof.Gen.Kernel18Ideal.Skeleton
public import proofs.«01_k».proof.Proof.Gen.Reference18Ideal.Run
public import proofs.«01_k».proof.Proof.Gen.Reference18Ideal.Read

@[expose] public section

noncomputable section

namespace Cert.Kernel18Ideal.Hand

open Cert.Kernel18Ideal Cert.Kernel18Ideal.Gen Cert.Kernel18Ideal.Value Cert.Common Cert.AdamW
open Idealize.ShloMosaic Idealize.ShloMosaic.TcCoe Idealize.SL.Sem
open Idealize.ShloMosaic.Pipeline (Dat)
open scoped BigOperators

variable (m : (ℓ : Loc nD τ sig) → Buf (Elt Ideal) ℓ)

/-- The four arrays on device `c`: the gathered gradient, the weight and the two moments. -/
abbrev pieces (c : Dev nD) : (⟨3, ![8, 1024, 704]⟩ : Shape).Idx → EReal := m ((c : Thread nD τ).loc main_arg0)
abbrev weight (c : Dev nD) : (⟨2, ![1024, 704]⟩ : Shape).Idx → EReal := m ((c : Thread nD τ).loc main_arg1)
abbrev first (c : Dev nD) : (⟨2, ![1024, 704]⟩ : Shape).Idx → EReal := m ((c : Thread nD τ).loc main_arg2)
abbrev second (c : Dev nD) : (⟨2, ![1024, 704]⟩ : Shape).Idx → EReal := m ((c : Thread nD τ).loc main_arg3)

/-- Every window's block is block `t` of the rows. -/
theorem index_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The summed block at an element. -/
theorem sum_apply (x0 : Vec Ideal S8x256x704 .bf16) (y : S256x704.Idx) :
    (k0_pay4 (View.ld x0 r0_0) (View.ld x0 r0_1) (View.ld x0 r0_2) (View.ld x0 r0_3) (View.ld x0 r0_4) (View.ld x0 r0_5)
      (View.ld x0 r0_6) (View.ld x0 r0_7) y : EReal) = total (M := 256) (N := 704) x0 y := by
  rw [total_eq]
  unfold k0_pay4
  pointwise

/-- Each window's block at point `t`, at an element, is the array at row `256 * t` plus the element's. -/
theorem block_eq (c : Dev nD) (t : Fin cfg0.N) (y : S256x704.Idx) (i : (⟨2, ![1024, 704]⟩ : Shape).Idx)
    (h0 : (i 0).val = t.val * 256 + (y 0).val) (h1 : (i 1).val = (y 1).val) :
    total (M := 256) (N := 704) (iblk m c 0 t) y = total (pieces m c) i ∧ iblk m c 1 t y = weight m c i
      ∧ iblk m c 2 t y = first m c i ∧ iblk m c 3 t y = second m c i := by
  obtain ⟨⟨a0, a1, a2⟩, ⟨b0, b1⟩, ⟨c0, c1⟩, ⟨d0, d1⟩, _⟩ := index_facts t
  refine ⟨Finset.sum_congr rfl fun k _ => ?_, ?_, ?_, ?_⟩
  · refine congrArg (pieces m c) (funext fun a => match a with | ⟨0, _⟩ => Fin.ext ?_ | ⟨1, _⟩ => Fin.ext ?_ | ⟨2, _⟩ => Fin.ext ?_)
    · show win0_0.index t 0 * 8 + 1 * k.val = k.val; rw [a0]; omega
    · show win0_0.index t 1 * 256 + 1 * (y 0).val = (i 0).val; rw [a1, h0]; omega
    · show win0_0.index t 2 * 704 + 1 * (y 1).val = (i 1).val; rw [a2, h1]; omega
  · refine congrArg (weight m c) (funext fun a => match a with | ⟨0, _⟩ => Fin.ext ?_ | ⟨1, _⟩ => Fin.ext ?_)
    · show win0_1.index t 0 * 256 + 1 * (y 0).val = (i 0).val; rw [b0, h0]; omega
    · show win0_1.index t 1 * 704 + 1 * (y 1).val = (i 1).val; rw [b1, h1]; omega
  · refine congrArg (first m c) (funext fun a => match a with | ⟨0, _⟩ => Fin.ext ?_ | ⟨1, _⟩ => Fin.ext ?_)
    · show win0_2.index t 0 * 256 + 1 * (y 0).val = (i 0).val; rw [c0, h0]; omega
    · show win0_2.index t 1 * 704 + 1 * (y 1).val = (i 1).val; rw [c1, h1]; omega
  · refine congrArg (second m c) (funext fun a => match a with | ⟨0, _⟩ => Fin.ext ?_ | ⟨1, _⟩ => Fin.ext ?_)
    · show win0_3.index t 0 * 256 + 1 * (y 0).val = (i 0).val; rw [d0, h0]; omega
    · show win0_3.index t 1 * 704 + 1 * (y 1).val = (i 1).val; rw [d1, h1]; omega

/-! ## The four arrays after the run -/

theorem out4 (c : Dev nD) : (dats m 0 c).arrAt 4 cfg0.N = total (pieces m c) := by
  refine (dats m 0 c).arrAt_eq_of_covers 4 _ (by decide +kernel) fun t hf y => ?_
  obtain ⟨_, _, _, _, ⟨e0, e1⟩, _⟩ := index_facts t
  blk_simp
  rw [after0_4]
  frame_out
  refine (sum_apply _ _).trans (block_eq m c t y _ ?_ ?_).1
  · show win0_4.index t 0 * 256 + 1 * (y 0).val = _; rw [e0]; omega
  · show win0_4.index t 1 * 704 + 1 * (y 1).val = _; rw [e1]; omega

theorem out5 (c : Dev nD) : (dats m 0 c).arrAt 5 cfg0.N
    = fun i => change (total (pieces m c) i) (weight m c i) (first m c i) (second m c i) := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, r1, r2, r3⟩ := block_eq m c t y (((cfg0.win 5).blk t).view.emb y)
    (by show win0_5.index t 0 * 256 + 1 * (y 0).val = _; rw [e0]; omega)
    (by show win0_5.index t 1 * 704 + 1 * (y 1).val = _; rw [e1]; omega)
  show change (k0_pay5 _ (iblk m c 1 t) (iblk m c 2 t) (iblk m c 3 t) y) (iblk m c 1 t y) (iblk m c 2 t y) (iblk m c 3 t y) = _
  unfold k0_pay5
  rw [sum_apply, r0, r1, r2, r3]

theorem out6 (c : Dev nD) : (dats m 0 c).arrAt 6 cfg0.N = fun i => moment (total (pieces m c) i) (first m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, -, r2, -⟩ := block_eq m c t y (((cfg0.win 6).blk t).view.emb y)
    (by show win0_6.index t 0 * 256 + 1 * (y 0).val = _; rw [e0]; omega)
    (by show win0_6.index t 1 * 704 + 1 * (y 1).val = _; rw [e1]; omega)
  show moment (k0_pay5 _ (iblk m c 1 t) (iblk m c 2 t) (iblk m c 3 t) y) (iblk m c 2 t y) = _
  unfold k0_pay5
  rw [sum_apply, r0, r2]

theorem out7 (c : Dev nD) : (dats m 0 c).arrAt 7 cfg0.N = fun i => square (total (pieces m c) i) (second m c i) := by
  refine (dats m 0 c).arrAt_eq_of_covers 7 _ (by decide +kernel) fun t hf y => ?_
  obtain ⟨_, _, _, _, _, _, _, ⟨e0, e1⟩⟩ := index_facts t
  blk_simp
  rw [after0_7]
  frame_out
  obtain ⟨r0, -, -, r3⟩ := block_eq m c t y (((cfg0.win 7).blk t).view.emb y)
    (by show win0_7.index t 0 * 256 + 1 * (y 0).val = _; rw [e0]; omega)
    (by show win0_7.index t 1 * 704 + 1 * (y 1).val = _; rw [e1]; omega)
  show square (k0_pay5 _ (iblk m c 1 t) (iblk m c 2 t) (iblk m c 3 t) y) (iblk m c 3 t y) = _
  unfold k0_pay5
  rw [sum_apply, r0, r3]

end Cert.Kernel18Ideal.Hand

namespace Cert.Proof

open Cert.AdamW
open Idealize.ShloMosaic Idealize.ShloMosaic.TcCoe Idealize.SL.Sem
open scoped BigOperators

/-- The reference's sum of the eight pieces. -/
theorem reference18_total (x : (⟨3, ![8, 1024, 704]⟩ : Shape).Idx → EReal) :
    Cert.Reference18Ideal.Read.val_main_v1 (F := Ideal) x = total x := by
  funext i
  rw [Cert.Reference18Ideal.Read.val_main_v1_apply]
  refine (congrArg (· + _) Cert.Common.ofBits_zero).trans ((zero_add _).trans (Finset.sum_congr rfl fun k _ => congrArg x ?_))
  exact funext fun a => match a with
    | ⟨0, _⟩ => rfl
    | ⟨1, _⟩ => rfl
    | ⟨2, _⟩ => rfl

/-- `w_ffn_up` equals its reference. -/
theorem algebraic18 : Cert.algebraic_Kernel18Ideal_Reference18Ideal := by
  intro m g m' g' _ hargs
  have run := Cert.Kernel18Ideal.Value.run_blocks (F := Ideal) m g
  simp only [Cert.Kernel18Ideal.Hand.out4, Cert.Kernel18Ideal.Hand.out5, Cert.Kernel18Ideal.Hand.out6,
    Cert.Kernel18Ideal.Hand.out7] at run
  refine ⟨_, _, _, _, run, ?_⟩
  refine (θ_run Cert.Reference18Ideal.defs _ _).mono (fun r h c => ?_) (Cert.Reference18Ideal.Value.run m' g')
  obtain ⟨h0, h1, h2, h3, keep⟩ := h c
  obtain ⟨a0, a1, a2, a3⟩ := hargs c
  rw [a0] at h0 h1 h2 h3
  have e := reference18_total (m ((c : Thread Cert.Kernel18Ideal.nD Cert.Kernel18Ideal.τ).loc Cert.Kernel18Ideal.main_arg0))
  refine ⟨h0.trans e, h1.trans ?_, h2.trans ?_, h3.trans ?_, keep⟩
  · rw [a1, a2, a3, ← e]; rfl
  · rw [a2, ← e]; rfl
  · rw [a3, ← e]; rfl

end Cert.Proof

end
-- ==== Proof.AdamFfnDown.lean ====
/-
  The value of the optimizer call w_ffn_down: it adds the eight devices' pieces of the gradient of each feed-forward down weight and
  takes the optimizer's step, both element by element in blocks of 176 rows, which is what the reference does on whole arrays.
-/
module

public import Idealize.ShloMosaic.Lib.Pipeline.ValueKit
public import proofs.«01_k».proof.Proof.AdamW
public import proofs.«01_k».proof.Defs
public import proofs.«01_k».proof.Proof.Gen.Kernel19Ideal.Value
public import proofs.«01_k».proof.Proof.Gen.Kernel19Ideal.Skeleton
public import proofs.«01_k».proof.Proof.Gen.Reference19Ideal.Run
public import proofs.«01_k».proof.Proof.Gen.Reference19Ideal.Read

@[expose] public section

noncomputable section

namespace Cert.Kernel19Ideal.Hand

open Cert.Kernel19Ideal Cert.Kernel19Ideal.Gen Cert.Kernel19Ideal.Value Cert.Common Cert.AdamW
open Idealize.ShloMosaic Idealize.ShloMosaic.TcCoe Idealize.SL.Sem
open Idealize.ShloMosaic.Pipeline (Dat)
open scoped BigOperators

variable (m : (ℓ : Loc nD τ sig) → Buf (Elt Ideal) ℓ)

/-- The four arrays on device `c`: the gathered gradient, the weight and the two moments. -/
abbrev pieces (c : Dev nD) : (⟨3, ![8, 352, 1024]⟩ : Shape).Idx → EReal := m ((c : Thread nD τ).loc main_arg0)
abbrev weight (c : Dev nD) : (⟨2, ![352, 1024]⟩ : Shape).Idx → EReal := m ((c : Thread nD τ).loc main_arg1)
abbrev first (c : Dev nD) : (⟨2, ![352, 1024]⟩ : Shape).Idx → EReal := m ((c : Thread nD τ).loc main_arg2)
abbrev second (c : Dev nD) : (⟨2, ![352, 1024]⟩ : Shape).Idx → EReal := m ((c : Thread nD τ).loc main_arg3)

/-- Every window's block is block `t` of the rows. -/
theorem index_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The summed block at an element. -/
theorem sum_apply (x0 : Vec Ideal S8x176x1024 .bf16) (y : S176x1024.Idx) :
    (k0_pay4 (View.ld x0 r0_0) (View.ld x0 r0_1) (View.ld x0 r0_2) (View.ld x0 r0_3) (View.ld x0 r0_4) (View.ld x0 r0_5)
      (View.ld x0 r0_6) (View.ld x0 r0_7) y : EReal) = total (M := 176) (N := 1024) x0 y := by
  rw [total_eq]
  unfold k0_pay4
  pointwise

/-- Each window's block at point `t`, at an element, is the array at row `176 * t` plus the element's. -/
theorem block_eq (c : Dev nD) (t : Fin cfg0.N) (y : S176x1024.Idx) (i : (⟨2, ![352, 1024]⟩ : Shape).Idx)
    (h0 : (i 0).val = t.val * 176 + (y 0).val) (h1 : (i 1).val = (y 1).val) :
    total (M := 176) (N := 1024) (iblk m c 0 t) y = total (pieces m c) i ∧ iblk m c 1 t y = weight m c i
      ∧ iblk m c 2 t y = first m c i ∧ iblk m c 3 t y = second m c i := by
  obtain ⟨⟨a0, a1, a2⟩, ⟨b0, b1⟩, ⟨c0, c1⟩, ⟨d0, d1⟩, _⟩ := index_facts t
  refine ⟨Finset.sum_congr rfl fun k _ => ?_, ?_, ?_, ?_⟩
  · refine congrArg (pieces m c) (funext fun a => match a with | ⟨0, _⟩ => Fin.ext ?_ | ⟨1, _⟩ => Fin.ext ?_ | ⟨2, _⟩ => Fin.ext ?_)
    · show win0_0.index t 0 * 8 + 1 * k.val = k.val; rw [a0]; omega
    · show win0_0.index t 1 * 176 + 1 * (y 0).val = (i 0).val; rw [a1, h0]; omega
    · show win0_0.index t 2 * 1024 + 1 * (y 1).val = (i 1).val; rw [a2, h1]; omega
  · refine congrArg (weight m c) (funext fun a => match a with | ⟨0, _⟩ => Fin.ext ?_ | ⟨1, _⟩ => Fin.ext ?_)
    · show win0_1.index t 0 * 176 + 1 * (y 0).val = (i 0).val; rw [b0, h0]; omega
    · show win0_1.index t 1 * 1024 + 1 * (y 1).val = (i 1).val; rw [b1, h1]; omega
  · refine congrArg (first m c) (funext fun a => match a with | ⟨0, _⟩ => Fin.ext ?_ | ⟨1, _⟩ => Fin.ext ?_)
    · show win0_2.index t 0 * 176 + 1 * (y 0).val = (i 0).val; rw [c0, h0]; omega
    · show win0_2.index t 1 * 1024 + 1 * (y 1).val = (i 1).val; rw [c1, h1]; omega
  · refine congrArg (second m c) (funext fun a => match a with | ⟨0, _⟩ => Fin.ext ?_ | ⟨1, _⟩ => Fin.ext ?_)
    · show win0_3.index t 0 * 176 + 1 * (y 0).val = (i 0).val; rw [d0, h0]; omega
    · show win0_3.index t 1 * 1024 + 1 * (y 1).val = (i 1).val; rw [d1, h1]; omega

/-! ## The four arrays after the run -/

theorem out4 (c : Dev nD) : (dats m 0 c).arrAt 4 cfg0.N = total (pieces m c) := by
  refine (dats m 0 c).arrAt_eq_of_covers 4 _ (by decide +kernel) fun t hf y => ?_
  obtain ⟨_, _, _, _, ⟨e0, e1⟩, _⟩ := index_facts t
  blk_simp
  rw [after0_4]
  frame_out
  refine (sum_apply _ _).trans (block_eq m c t y _ ?_ ?_).1
  · show win0_4.index t 0 * 176 + 1 * (y 0).val = _; rw [e0]; omega
  · show win0_4.index t 1 * 1024 + 1 * (y 1).val = _; rw [e1]; omega

theorem out5 (c : Dev nD) : (dats m 0 c).arrAt 5 cfg0.N
    = fun i => change (total (pieces m c) i) (weight m c i) (first m c i) (second m c i) := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, r1, r2, r3⟩ := block_eq m c t y (((cfg0.win 5).blk t).view.emb y)
    (by show win0_5.index t 0 * 176 + 1 * (y 0).val = _; rw [e0]; omega)
    (by show win0_5.index t 1 * 1024 + 1 * (y 1).val = _; rw [e1]; omega)
  show change (k0_pay5 _ (iblk m c 1 t) (iblk m c 2 t) (iblk m c 3 t) y) (iblk m c 1 t y) (iblk m c 2 t y) (iblk m c 3 t y) = _
  unfold k0_pay5
  rw [sum_apply, r0, r1, r2, r3]

theorem out6 (c : Dev nD) : (dats m 0 c).arrAt 6 cfg0.N = fun i => moment (total (pieces m c) i) (first m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, -, r2, -⟩ := block_eq m c t y (((cfg0.win 6).blk t).view.emb y)
    (by show win0_6.index t 0 * 176 + 1 * (y 0).val = _; rw [e0]; omega)
    (by show win0_6.index t 1 * 1024 + 1 * (y 1).val = _; rw [e1]; omega)
  show moment (k0_pay5 _ (iblk m c 1 t) (iblk m c 2 t) (iblk m c 3 t) y) (iblk m c 2 t y) = _
  unfold k0_pay5
  rw [sum_apply, r0, r2]

theorem out7 (c : Dev nD) : (dats m 0 c).arrAt 7 cfg0.N = fun i => square (total (pieces m c) i) (second m c i) := by
  refine (dats m 0 c).arrAt_eq_of_covers 7 _ (by decide +kernel) fun t hf y => ?_
  obtain ⟨_, _, _, _, _, _, _, ⟨e0, e1⟩⟩ := index_facts t
  blk_simp
  rw [after0_7]
  frame_out
  obtain ⟨r0, -, -, r3⟩ := block_eq m c t y (((cfg0.win 7).blk t).view.emb y)
    (by show win0_7.index t 0 * 176 + 1 * (y 0).val = _; rw [e0]; omega)
    (by show win0_7.index t 1 * 1024 + 1 * (y 1).val = _; rw [e1]; omega)
  show square (k0_pay5 _ (iblk m c 1 t) (iblk m c 2 t) (iblk m c 3 t) y) (iblk m c 3 t y) = _
  unfold k0_pay5
  rw [sum_apply, r0, r3]

end Cert.Kernel19Ideal.Hand

namespace Cert.Proof

open Cert.AdamW
open Idealize.ShloMosaic Idealize.ShloMosaic.TcCoe Idealize.SL.Sem
open scoped BigOperators

/-- The reference's sum of the eight pieces. -/
theorem reference19_total (x : (⟨3, ![8, 352, 1024]⟩ : Shape).Idx → EReal) :
    Cert.Reference19Ideal.Read.val_main_v1 (F := Ideal) x = total x := by
  funext i
  rw [Cert.Reference19Ideal.Read.val_main_v1_apply]
  refine (congrArg (· + _) Cert.Common.ofBits_zero).trans ((zero_add _).trans (Finset.sum_congr rfl fun k _ => congrArg x ?_))
  exact funext fun a => match a with
    | ⟨0, _⟩ => rfl
    | ⟨1, _⟩ => rfl
    | ⟨2, _⟩ => rfl

/-- `w_ffn_down` equals its reference. -/
theorem algebraic19 : Cert.algebraic_Kernel19Ideal_Reference19Ideal := by
  intro m g m' g' _ hargs
  have run := Cert.Kernel19Ideal.Value.run_blocks (F := Ideal) m g
  simp only [Cert.Kernel19Ideal.Hand.out4, Cert.Kernel19Ideal.Hand.out5, Cert.Kernel19Ideal.Hand.out6,
    Cert.Kernel19Ideal.Hand.out7] at run
  refine ⟨_, _, _, _, run, ?_⟩
  refine (θ_run Cert.Reference19Ideal.defs _ _).mono (fun r h c => ?_) (Cert.Reference19Ideal.Value.run m' g')
  obtain ⟨h0, h1, h2, h3, keep⟩ := h c
  obtain ⟨a0, a1, a2, a3⟩ := hargs c
  rw [a0] at h0 h1 h2 h3
  have e := reference19_total (m ((c : Thread Cert.Kernel19Ideal.nD Cert.Kernel19Ideal.τ).loc Cert.Kernel19Ideal.main_arg0))
  refine ⟨h0.trans e, h1.trans ?_, h2.trans ?_, h3.trans ?_, keep⟩
  · rw [a1, a2, a3, ← e]; rfl
  · rw [a2, ← e]; rfl
  · rw [a3, ← e]; rfl

end Cert.Proof

end
-- ==== Proof.AdamIn.lean ====
/-
  The value of the optimizer call w_in: it adds the eight devices' pieces of the gradient of w_in and
  takes the optimizer's step, both element by element in blocks of 256 rows, which is what the reference does on whole arrays.
-/
module

public import Idealize.ShloMosaic.Lib.Pipeline.ValueKit
public import proofs.«01_k».proof.Proof.AdamW
public import proofs.«01_k».proof.Defs
public import proofs.«01_k».proof.Proof.Gen.Kernel20Ideal.Value
public import proofs.«01_k».proof.Proof.Gen.Kernel20Ideal.Skeleton
public import proofs.«01_k».proof.Proof.Gen.Reference20Ideal.Run
public import proofs.«01_k».proof.Proof.Gen.Reference20Ideal.Read

@[expose] public section

noncomputable section

namespace Cert.Kernel20Ideal.Hand

open Cert.Kernel20Ideal Cert.Kernel20Ideal.Gen Cert.Kernel20Ideal.Value Cert.Common Cert.AdamW
open Idealize.ShloMosaic Idealize.ShloMosaic.TcCoe Idealize.SL.Sem
open Idealize.ShloMosaic.Pipeline (Dat)
open scoped BigOperators

variable (m : (ℓ : Loc nD τ sig) → Buf (Elt Ideal) ℓ)

/-- The four arrays on device `c`: the gathered gradient, the weight and the two moments. -/
abbrev pieces (c : Dev nD) : (⟨3, ![8, 1024, 964]⟩ : Shape).Idx → EReal := m ((c : Thread nD τ).loc main_arg0)
abbrev weight (c : Dev nD) : (⟨2, ![1024, 964]⟩ : Shape).Idx → EReal := m ((c : Thread nD τ).loc main_arg1)
abbrev first (c : Dev nD) : (⟨2, ![1024, 964]⟩ : Shape).Idx → EReal := m ((c : Thread nD τ).loc main_arg2)
abbrev second (c : Dev nD) : (⟨2, ![1024, 964]⟩ : Shape).Idx → EReal := m ((c : Thread nD τ).loc main_arg3)

/-- Every window's block is block `t` of the rows. -/
theorem index_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The summed block at an element. -/
theorem sum_apply (x0 : Vec Ideal S8x256x964 .bf16) (y : S256x964.Idx) :
    (k0_pay4 (View.ld x0 r0_0) (View.ld x0 r0_1) (View.ld x0 r0_2) (View.ld x0 r0_3) (View.ld x0 r0_4) (View.ld x0 r0_5)
      (View.ld x0 r0_6) (View.ld x0 r0_7) y : EReal) = total (M := 256) (N := 964) x0 y := by
  rw [total_eq]
  unfold k0_pay4
  pointwise

/-- Each window's block at point `t`, at an element, is the array at row `256 * t` plus the element's. -/
theorem block_eq (c : Dev nD) (t : Fin cfg0.N) (y : S256x964.Idx) (i : (⟨2, ![1024, 964]⟩ : Shape).Idx)
    (h0 : (i 0).val = t.val * 256 + (y 0).val) (h1 : (i 1).val = (y 1).val) :
    total (M := 256) (N := 964) (iblk m c 0 t) y = total (pieces m c) i ∧ iblk m c 1 t y = weight m c i
      ∧ iblk m c 2 t y = first m c i ∧ iblk m c 3 t y = second m c i := by
  obtain ⟨⟨a0, a1, a2⟩, ⟨b0, b1⟩, ⟨c0, c1⟩, ⟨d0, d1⟩, _⟩ := index_facts t
  refine ⟨Finset.sum_congr rfl fun k _ => ?_, ?_, ?_, ?_⟩
  · refine congrArg (pieces m c) (funext fun a => match a with | ⟨0, _⟩ => Fin.ext ?_ | ⟨1, _⟩ => Fin.ext ?_ | ⟨2, _⟩ => Fin.ext ?_)
    · show win0_0.index t 0 * 8 + 1 * k.val = k.val; rw [a0]; omega
    · show win0_0.index t 1 * 256 + 1 * (y 0).val = (i 0).val; rw [a1, h0]; omega
    · show win0_0.index t 2 * 964 + 1 * (y 1).val = (i 1).val; rw [a2, h1]; omega
  · refine congrArg (weight m c) (funext fun a => match a with | ⟨0, _⟩ => Fin.ext ?_ | ⟨1, _⟩ => Fin.ext ?_)
    · show win0_1.index t 0 * 256 + 1 * (y 0).val = (i 0).val; rw [b0, h0]; omega
    · show win0_1.index t 1 * 964 + 1 * (y 1).val = (i 1).val; rw [b1, h1]; omega
  · refine congrArg (first m c) (funext fun a => match a with | ⟨0, _⟩ => Fin.ext ?_ | ⟨1, _⟩ => Fin.ext ?_)
    · show win0_2.index t 0 * 256 + 1 * (y 0).val = (i 0).val; rw [c0, h0]; omega
    · show win0_2.index t 1 * 964 + 1 * (y 1).val = (i 1).val; rw [c1, h1]; omega
  · refine congrArg (second m c) (funext fun a => match a with | ⟨0, _⟩ => Fin.ext ?_ | ⟨1, _⟩ => Fin.ext ?_)
    · show win0_3.index t 0 * 256 + 1 * (y 0).val = (i 0).val; rw [d0, h0]; omega
    · show win0_3.index t 1 * 964 + 1 * (y 1).val = (i 1).val; rw [d1, h1]; omega

/-! ## The four arrays after the run -/

theorem out4 (c : Dev nD) : (dats m 0 c).arrAt 4 cfg0.N = total (pieces m c) := by
  refine (dats m 0 c).arrAt_eq_of_covers 4 _ (by decide +kernel) fun t hf y => ?_
  obtain ⟨_, _, _, _, ⟨e0, e1⟩, _⟩ := index_facts t
  blk_simp
  rw [after0_4]
  frame_out
  refine (sum_apply _ _).trans (block_eq m c t y _ ?_ ?_).1
  · show win0_4.index t 0 * 256 + 1 * (y 0).val = _; rw [e0]; omega
  · show win0_4.index t 1 * 964 + 1 * (y 1).val = _; rw [e1]; omega

theorem out5 (c : Dev nD) : (dats m 0 c).arrAt 5 cfg0.N
    = fun i => change (total (pieces m c) i) (weight m c i) (first m c i) (second m c i) := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, r1, r2, r3⟩ := block_eq m c t y (((cfg0.win 5).blk t).view.emb y)
    (by show win0_5.index t 0 * 256 + 1 * (y 0).val = _; rw [e0]; omega)
    (by show win0_5.index t 1 * 964 + 1 * (y 1).val = _; rw [e1]; omega)
  show change (k0_pay5 _ (iblk m c 1 t) (iblk m c 2 t) (iblk m c 3 t) y) (iblk m c 1 t y) (iblk m c 2 t y) (iblk m c 3 t y) = _
  unfold k0_pay5
  rw [sum_apply, r0, r1, r2, r3]

theorem out6 (c : Dev nD) : (dats m 0 c).arrAt 6 cfg0.N = fun i => moment (total (pieces m c) i) (first m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, -, r2, -⟩ := block_eq m c t y (((cfg0.win 6).blk t).view.emb y)
    (by show win0_6.index t 0 * 256 + 1 * (y 0).val = _; rw [e0]; omega)
    (by show win0_6.index t 1 * 964 + 1 * (y 1).val = _; rw [e1]; omega)
  show moment (k0_pay5 _ (iblk m c 1 t) (iblk m c 2 t) (iblk m c 3 t) y) (iblk m c 2 t y) = _
  unfold k0_pay5
  rw [sum_apply, r0, r2]

theorem out7 (c : Dev nD) : (dats m 0 c).arrAt 7 cfg0.N = fun i => square (total (pieces m c) i) (second m c i) := by
  refine (dats m 0 c).arrAt_eq_of_covers 7 _ (by decide +kernel) fun t hf y => ?_
  obtain ⟨_, _, _, _, _, _, _, ⟨e0, e1⟩⟩ := index_facts t
  blk_simp
  rw [after0_7]
  frame_out
  obtain ⟨r0, -, -, r3⟩ := block_eq m c t y (((cfg0.win 7).blk t).view.emb y)
    (by show win0_7.index t 0 * 256 + 1 * (y 0).val = _; rw [e0]; omega)
    (by show win0_7.index t 1 * 964 + 1 * (y 1).val = _; rw [e1]; omega)
  show square (k0_pay5 _ (iblk m c 1 t) (iblk m c 2 t) (iblk m c 3 t) y) (iblk m c 3 t y) = _
  unfold k0_pay5
  rw [sum_apply, r0, r3]

end Cert.Kernel20Ideal.Hand

namespace Cert.Proof

open Cert.AdamW
open Idealize.ShloMosaic Idealize.ShloMosaic.TcCoe Idealize.SL.Sem
open scoped BigOperators

/-- The reference's sum of the eight pieces. -/
theorem reference20_total (x : (⟨3, ![8, 1024, 964]⟩ : Shape).Idx → EReal) :
    Cert.Reference20Ideal.Read.val_main_v1 (F := Ideal) x = total x := by
  funext i
  rw [Cert.Reference20Ideal.Read.val_main_v1_apply]
  refine (congrArg (· + _) Cert.Common.ofBits_zero).trans ((zero_add _).trans (Finset.sum_congr rfl fun k _ => congrArg x ?_))
  exact funext fun a => match a with
    | ⟨0, _⟩ => rfl
    | ⟨1, _⟩ => rfl
    | ⟨2, _⟩ => rfl

/-- `w_in` equals its reference. -/
theorem algebraic20 : Cert.algebraic_Kernel20Ideal_Reference20Ideal := by
  intro m g m' g' _ hargs
  have run := Cert.Kernel20Ideal.Value.run_blocks (F := Ideal) m g
  simp only [Cert.Kernel20Ideal.Hand.out4, Cert.Kernel20Ideal.Hand.out5, Cert.Kernel20Ideal.Hand.out6,
    Cert.Kernel20Ideal.Hand.out7] at run
  refine ⟨_, _, _, _, run, ?_⟩
  refine (θ_run Cert.Reference20Ideal.defs _ _).mono (fun r h c => ?_) (Cert.Reference20Ideal.Value.run m' g')
  obtain ⟨h0, h1, h2, h3, keep⟩ := h c
  obtain ⟨a0, a1, a2, a3⟩ := hargs c
  rw [a0] at h0 h1 h2 h3
  have e := reference20_total (m ((c : Thread Cert.Kernel20Ideal.nD Cert.Kernel20Ideal.τ).loc Cert.Kernel20Ideal.main_arg0))
  refine ⟨h0.trans e, h1.trans ?_, h2.trans ?_, h3.trans ?_, keep⟩
  · rw [a1, a2, a3, ← e]; rfl
  · rw [a2, ← e]; rfl
  · rw [a3, ← e]; rfl

end Cert.Proof

end
-- ==== Proof.AdamAOut.lean ====
/-
  The value of the optimizer call w_a_out: it adds the eight devices' pieces of the gradient of w_a_out and
  takes the optimizer's step, both element by element in blocks of 256 rows, which is what the reference does on whole arrays.
-/
module

public import Idealize.ShloMosaic.Lib.Pipeline.ValueKit
public import proofs.«01_k».proof.Proof.AdamW
public import proofs.«01_k».proof.Defs
public import proofs.«01_k».proof.Proof.Gen.Kernel21Ideal.Value
public import proofs.«01_k».proof.Proof.Gen.Kernel21Ideal.Skeleton
public import proofs.«01_k».proof.Proof.Gen.Reference21Ideal.Run
public import proofs.«01_k».proof.Proof.Gen.Reference21Ideal.Read

@[expose] public section

noncomputable section

namespace Cert.Kernel21Ideal.Hand

open Cert.Kernel21Ideal Cert.Kernel21Ideal.Gen Cert.Kernel21Ideal.Value Cert.Common Cert.AdamW
open Idealize.ShloMosaic Idealize.ShloMosaic.TcCoe Idealize.SL.Sem
open Idealize.ShloMosaic.Pipeline (Dat)
open scoped BigOperators

variable (m : (ℓ : Loc nD τ sig) → Buf (Elt Ideal) ℓ)

/-- The four arrays on device `c`: the gathered gradient, the weight and the two moments. -/
abbrev pieces (c : Dev nD) : (⟨3, ![8, 512, 128]⟩ : Shape).Idx → EReal := m ((c : Thread nD τ).loc main_arg0)
abbrev weight (c : Dev nD) : (⟨2, ![512, 128]⟩ : Shape).Idx → EReal := m ((c : Thread nD τ).loc main_arg1)
abbrev first (c : Dev nD) : (⟨2, ![512, 128]⟩ : Shape).Idx → EReal := m ((c : Thread nD τ).loc main_arg2)
abbrev second (c : Dev nD) : (⟨2, ![512, 128]⟩ : Shape).Idx → EReal := m ((c : Thread nD τ).loc main_arg3)

/-- Every window's block is block `t` of the rows. -/
theorem index_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The summed block at an element. -/
theorem sum_apply (x0 : Vec Ideal S8x256x128 .bf16) (y : S256x128.Idx) :
    (k0_pay4 (View.ld x0 r0_0) (View.ld x0 r0_1) (View.ld x0 r0_2) (View.ld x0 r0_3) (View.ld x0 r0_4) (View.ld x0 r0_5)
      (View.ld x0 r0_6) (View.ld x0 r0_7) y : EReal) = total (M := 256) (N := 128) x0 y := by
  rw [total_eq]
  unfold k0_pay4
  pointwise

/-- Each window's block at point `t`, at an element, is the array at row `256 * t` plus the element's. -/
theorem block_eq (c : Dev nD) (t : Fin cfg0.N) (y : S256x128.Idx) (i : (⟨2, ![512, 128]⟩ : Shape).Idx)
    (h0 : (i 0).val = t.val * 256 + (y 0).val) (h1 : (i 1).val = (y 1).val) :
    total (M := 256) (N := 128) (iblk m c 0 t) y = total (pieces m c) i ∧ iblk m c 1 t y = weight m c i
      ∧ iblk m c 2 t y = first m c i ∧ iblk m c 3 t y = second m c i := by
  obtain ⟨⟨a0, a1, a2⟩, ⟨b0, b1⟩, ⟨c0, c1⟩, ⟨d0, d1⟩, _⟩ := index_facts t
  refine ⟨Finset.sum_congr rfl fun k _ => ?_, ?_, ?_, ?_⟩
  · refine congrArg (pieces m c) (funext fun a => match a with | ⟨0, _⟩ => Fin.ext ?_ | ⟨1, _⟩ => Fin.ext ?_ | ⟨2, _⟩ => Fin.ext ?_)
    · show win0_0.index t 0 * 8 + 1 * k.val = k.val; rw [a0]; omega
    · show win0_0.index t 1 * 256 + 1 * (y 0).val = (i 0).val; rw [a1, h0]; omega
    · show win0_0.index t 2 * 128 + 1 * (y 1).val = (i 1).val; rw [a2, h1]; omega
  · refine congrArg (weight m c) (funext fun a => match a with | ⟨0, _⟩ => Fin.ext ?_ | ⟨1, _⟩ => Fin.ext ?_)
    · show win0_1.index t 0 * 256 + 1 * (y 0).val = (i 0).val; rw [b0, h0]; omega
    · show win0_1.index t 1 * 128 + 1 * (y 1).val = (i 1).val; rw [b1, h1]; omega
  · refine congrArg (first m c) (funext fun a => match a with | ⟨0, _⟩ => Fin.ext ?_ | ⟨1, _⟩ => Fin.ext ?_)
    · show win0_2.index t 0 * 256 + 1 * (y 0).val = (i 0).val; rw [c0, h0]; omega
    · show win0_2.index t 1 * 128 + 1 * (y 1).val = (i 1).val; rw [c1, h1]; omega
  · refine congrArg (second m c) (funext fun a => match a with | ⟨0, _⟩ => Fin.ext ?_ | ⟨1, _⟩ => Fin.ext ?_)
    · show win0_3.index t 0 * 256 + 1 * (y 0).val = (i 0).val; rw [d0, h0]; omega
    · show win0_3.index t 1 * 128 + 1 * (y 1).val = (i 1).val; rw [d1, h1]; omega

/-! ## The four arrays after the run -/

theorem out4 (c : Dev nD) : (dats m 0 c).arrAt 4 cfg0.N = total (pieces m c) := by
  refine (dats m 0 c).arrAt_eq_of_covers 4 _ (by decide +kernel) fun t hf y => ?_
  obtain ⟨_, _, _, _, ⟨e0, e1⟩, _⟩ := index_facts t
  blk_simp
  rw [after0_4]
  frame_out
  refine (sum_apply _ _).trans (block_eq m c t y _ ?_ ?_).1
  · show win0_4.index t 0 * 256 + 1 * (y 0).val = _; rw [e0]; omega
  · show win0_4.index t 1 * 128 + 1 * (y 1).val = _; rw [e1]; omega

theorem out5 (c : Dev nD) : (dats m 0 c).arrAt 5 cfg0.N
    = fun i => change (total (pieces m c) i) (weight m c i) (first m c i) (second m c i) := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, r1, r2, r3⟩ := block_eq m c t y (((cfg0.win 5).blk t).view.emb y)
    (by show win0_5.index t 0 * 256 + 1 * (y 0).val = _; rw [e0]; omega)
    (by show win0_5.index t 1 * 128 + 1 * (y 1).val = _; rw [e1]; omega)
  show change (k0_pay5 _ (iblk m c 1 t) (iblk m c 2 t) (iblk m c 3 t) y) (iblk m c 1 t y) (iblk m c 2 t y) (iblk m c 3 t y) = _
  unfold k0_pay5
  rw [sum_apply, r0, r1, r2, r3]

theorem out6 (c : Dev nD) : (dats m 0 c).arrAt 6 cfg0.N = fun i => moment (total (pieces m c) i) (first m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, -, r2, -⟩ := block_eq m c t y (((cfg0.win 6).blk t).view.emb y)
    (by show win0_6.index t 0 * 256 + 1 * (y 0).val = _; rw [e0]; omega)
    (by show win0_6.index t 1 * 128 + 1 * (y 1).val = _; rw [e1]; omega)
  show moment (k0_pay5 _ (iblk m c 1 t) (iblk m c 2 t) (iblk m c 3 t) y) (iblk m c 2 t y) = _
  unfold k0_pay5
  rw [sum_apply, r0, r2]

theorem out7 (c : Dev nD) : (dats m 0 c).arrAt 7 cfg0.N = fun i => square (total (pieces m c) i) (second m c i) := by
  refine (dats m 0 c).arrAt_eq_of_covers 7 _ (by decide +kernel) fun t hf y => ?_
  obtain ⟨_, _, _, _, _, _, _, ⟨e0, e1⟩⟩ := index_facts t
  blk_simp
  rw [after0_7]
  frame_out
  obtain ⟨r0, -, -, r3⟩ := block_eq m c t y (((cfg0.win 7).blk t).view.emb y)
    (by show win0_7.index t 0 * 256 + 1 * (y 0).val = _; rw [e0]; omega)
    (by show win0_7.index t 1 * 128 + 1 * (y 1).val = _; rw [e1]; omega)
  show square (k0_pay5 _ (iblk m c 1 t) (iblk m c 2 t) (iblk m c 3 t) y) (iblk m c 3 t y) = _
  unfold k0_pay5
  rw [sum_apply, r0, r3]

end Cert.Kernel21Ideal.Hand

namespace Cert.Proof

open Cert.AdamW
open Idealize.ShloMosaic Idealize.ShloMosaic.TcCoe Idealize.SL.Sem
open scoped BigOperators

/-- The reference's sum of the eight pieces. -/
theorem reference21_total (x : (⟨3, ![8, 512, 128]⟩ : Shape).Idx → EReal) :
    Cert.Reference21Ideal.Read.val_main_v1 (F := Ideal) x = total x := by
  funext i
  rw [Cert.Reference21Ideal.Read.val_main_v1_apply]
  refine (congrArg (· + _) Cert.Common.ofBits_zero).trans ((zero_add _).trans (Finset.sum_congr rfl fun k _ => congrArg x ?_))
  exact funext fun a => match a with
    | ⟨0, _⟩ => rfl
    | ⟨1, _⟩ => rfl
    | ⟨2, _⟩ => rfl

/-- `w_a_out` equals its reference. -/
theorem algebraic21 : Cert.algebraic_Kernel21Ideal_Reference21Ideal := by
  intro m g m' g' _ hargs
  have run := Cert.Kernel21Ideal.Value.run_blocks (F := Ideal) m g
  simp only [Cert.Kernel21Ideal.Hand.out4, Cert.Kernel21Ideal.Hand.out5, Cert.Kernel21Ideal.Hand.out6,
    Cert.Kernel21Ideal.Hand.out7] at run
  refine ⟨_, _, _, _, run, ?_⟩
  refine (θ_run Cert.Reference21Ideal.defs _ _).mono (fun r h c => ?_) (Cert.Reference21Ideal.Value.run m' g')
  obtain ⟨h0, h1, h2, h3, keep⟩ := h c
  obtain ⟨a0, a1, a2, a3⟩ := hargs c
  rw [a0] at h0 h1 h2 h3
  have e := reference21_total (m ((c : Thread Cert.Kernel21Ideal.nD Cert.Kernel21Ideal.τ).loc Cert.Kernel21Ideal.main_arg0))
  refine ⟨h0.trans e, h1.trans ?_, h2.trans ?_, h3.trans ?_, keep⟩
  · rw [a1, a2, a3, ← e]; rfl
  · rw [a2, ← e]; rfl
  · rw [a3, ← e]; rfl

end Cert.Proof

end
-- ==== Proof.AdamOut.lean ====
/-
  The value of the optimizer call w_out: it adds the eight devices' pieces of the gradient of w_out and of w_b_out and
  takes the optimizer's step, both element by element in blocks of 128 rows, which is what the reference does on whole arrays.
-/
module

public import Idealize.ShloMosaic.Lib.Pipeline.ValueKit
public import proofs.«01_k».proof.Proof.AdamW
public import proofs.«01_k».proof.Defs
public import proofs.«01_k».proof.Proof.Gen.Kernel22Ideal.Value
public import proofs.«01_k».proof.Proof.Gen.Kernel22Ideal.Skeleton
public import proofs.«01_k».proof.Proof.Gen.Reference22Ideal.Run
public import proofs.«01_k».proof.Proof.Gen.Reference22Ideal.Read

@[expose] public section

noncomputable section

namespace Cert.Kernel22Ideal.Hand

open Cert.Kernel22Ideal Cert.Kernel22Ideal.Gen Cert.Kernel22Ideal.Value Cert.Common Cert.AdamW
open Idealize.ShloMosaic Idealize.ShloMosaic.TcCoe Idealize.SL.Sem
open Idealize.ShloMosaic.Pipeline (Dat)
open scoped BigOperators

variable (m : (ℓ : Loc nD τ sig) → Buf (Elt Ideal) ℓ)

/-- The four arrays on device `c`: the gathered gradient, the weight and the two moments. -/
abbrev pieces (c : Dev nD) : (⟨3, ![8, 128, 1024]⟩ : Shape).Idx → EReal := m ((c : Thread nD τ).loc main_arg0)
abbrev weight (c : Dev nD) : (⟨2, ![128, 1024]⟩ : Shape).Idx → EReal := m ((c : Thread nD τ).loc main_arg1)
abbrev first (c : Dev nD) : (⟨2, ![128, 1024]⟩ : Shape).Idx → EReal := m ((c : Thread nD τ).loc main_arg2)
abbrev second (c : Dev nD) : (⟨2, ![128, 1024]⟩ : Shape).Idx → EReal := m ((c : Thread nD τ).loc main_arg3)

/-- Every window's block is block `t` of the rows. -/
theorem index_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The summed block at an element. -/
theorem sum_apply (x0 : Vec Ideal S8x128x1024 .bf16) (y : S128x1024.Idx) :
    (k0_pay4 (View.ld x0 r0_0) (View.ld x0 r0_1) (View.ld x0 r0_2) (View.ld x0 r0_3) (View.ld x0 r0_4) (View.ld x0 r0_5)
      (View.ld x0 r0_6) (View.ld x0 r0_7) y : EReal) = total (M := 128) (N := 1024) x0 y := by
  rw [total_eq]
  unfold k0_pay4
  pointwise

/-- Each window's block at point `t`, at an element, is the array at row `128 * t` plus the element's. -/
theorem block_eq (c : Dev nD) (t : Fin cfg0.N) (y : S128x1024.Idx) (i : (⟨2, ![128, 1024]⟩ : Shape).Idx)
    (h0 : (i 0).val = t.val * 128 + (y 0).val) (h1 : (i 1).val = (y 1).val) :
    total (M := 128) (N := 1024) (iblk m c 0 t) y = total (pieces m c) i ∧ iblk m c 1 t y = weight m c i
      ∧ iblk m c 2 t y = first m c i ∧ iblk m c 3 t y = second m c i := by
  obtain ⟨⟨a0, a1, a2⟩, ⟨b0, b1⟩, ⟨c0, c1⟩, ⟨d0, d1⟩, _⟩ := index_facts t
  refine ⟨Finset.sum_congr rfl fun k _ => ?_, ?_, ?_, ?_⟩
  · refine congrArg (pieces m c) (funext fun a => match a with | ⟨0, _⟩ => Fin.ext ?_ | ⟨1, _⟩ => Fin.ext ?_ | ⟨2, _⟩ => Fin.ext ?_)
    · show win0_0.index t 0 * 8 + 1 * k.val = k.val; rw [a0]; omega
    · show win0_0.index t 1 * 128 + 1 * (y 0).val = (i 0).val; rw [a1, h0]; omega
    · show win0_0.index t 2 * 1024 + 1 * (y 1).val = (i 1).val; rw [a2, h1]; omega
  · refine congrArg (weight m c) (funext fun a => match a with | ⟨0, _⟩ => Fin.ext ?_ | ⟨1, _⟩ => Fin.ext ?_)
    · show win0_1.index t 0 * 128 + 1 * (y 0).val = (i 0).val; rw [b0, h0]; omega
    · show win0_1.index t 1 * 1024 + 1 * (y 1).val = (i 1).val; rw [b1, h1]; omega
  · refine congrArg (first m c) (funext fun a => match a with | ⟨0, _⟩ => Fin.ext ?_ | ⟨1, _⟩ => Fin.ext ?_)
    · show win0_2.index t 0 * 128 + 1 * (y 0).val = (i 0).val; rw [c0, h0]; omega
    · show win0_2.index t 1 * 1024 + 1 * (y 1).val = (i 1).val; rw [c1, h1]; omega
  · refine congrArg (second m c) (funext fun a => match a with | ⟨0, _⟩ => Fin.ext ?_ | ⟨1, _⟩ => Fin.ext ?_)
    · show win0_3.index t 0 * 128 + 1 * (y 0).val = (i 0).val; rw [d0, h0]; omega
    · show win0_3.index t 1 * 1024 + 1 * (y 1).val = (i 1).val; rw [d1, h1]; omega

/-! ## The four arrays after the run -/

theorem out4 (c : Dev nD) : (dats m 0 c).arrAt 4 cfg0.N = total (pieces m c) := by
  refine (dats m 0 c).arrAt_eq_of_covers 4 _ (by decide +kernel) fun t hf y => ?_
  obtain ⟨_, _, _, _, ⟨e0, e1⟩, _⟩ := index_facts t
  blk_simp
  rw [after0_4]
  frame_out
  refine (sum_apply _ _).trans (block_eq m c t y _ ?_ ?_).1
  · show win0_4.index t 0 * 128 + 1 * (y 0).val = _; rw [e0]; omega
  · show win0_4.index t 1 * 1024 + 1 * (y 1).val = _; rw [e1]; omega

theorem out5 (c : Dev nD) : (dats m 0 c).arrAt 5 cfg0.N
    = fun i => change (total (pieces m c) i) (weight m c i) (first m c i) (second m c i) := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, r1, r2, r3⟩ := block_eq m c t y (((cfg0.win 5).blk t).view.emb y)
    (by show win0_5.index t 0 * 128 + 1 * (y 0).val = _; rw [e0]; omega)
    (by show win0_5.index t 1 * 1024 + 1 * (y 1).val = _; rw [e1]; omega)
  show change (k0_pay5 _ (iblk m c 1 t) (iblk m c 2 t) (iblk m c 3 t) y) (iblk m c 1 t y) (iblk m c 2 t y) (iblk m c 3 t y) = _
  unfold k0_pay5
  rw [sum_apply, r0, r1, r2, r3]

theorem out6 (c : Dev nD) : (dats m 0 c).arrAt 6 cfg0.N = fun i => moment (total (pieces m c) i) (first m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, -, r2, -⟩ := block_eq m c t y (((cfg0.win 6).blk t).view.emb y)
    (by show win0_6.index t 0 * 128 + 1 * (y 0).val = _; rw [e0]; omega)
    (by show win0_6.index t 1 * 1024 + 1 * (y 1).val = _; rw [e1]; omega)
  show moment (k0_pay5 _ (iblk m c 1 t) (iblk m c 2 t) (iblk m c 3 t) y) (iblk m c 2 t y) = _
  unfold k0_pay5
  rw [sum_apply, r0, r2]

theorem out7 (c : Dev nD) : (dats m 0 c).arrAt 7 cfg0.N = fun i => square (total (pieces m c) i) (second m c i) := by
  refine (dats m 0 c).arrAt_eq_of_covers 7 _ (by decide +kernel) fun t hf y => ?_
  obtain ⟨_, _, _, _, _, _, _, ⟨e0, e1⟩⟩ := index_facts t
  blk_simp
  rw [after0_7]
  frame_out
  obtain ⟨r0, -, -, r3⟩ := block_eq m c t y (((cfg0.win 7).blk t).view.emb y)
    (by show win0_7.index t 0 * 128 + 1 * (y 0).val = _; rw [e0]; omega)
    (by show win0_7.index t 1 * 1024 + 1 * (y 1).val = _; rw [e1]; omega)
  show square (k0_pay5 _ (iblk m c 1 t) (iblk m c 2 t) (iblk m c 3 t) y) (iblk m c 3 t y) = _
  unfold k0_pay5
  rw [sum_apply, r0, r3]

end Cert.Kernel22Ideal.Hand

namespace Cert.Proof

open Cert.AdamW
open Idealize.ShloMosaic Idealize.ShloMosaic.TcCoe Idealize.SL.Sem
open scoped BigOperators

/-- The reference's sum of the eight pieces. -/
theorem reference22_total (x : (⟨3, ![8, 128, 1024]⟩ : Shape).Idx → EReal) :
    Cert.Reference22Ideal.Read.val_main_v1 (F := Ideal) x = total x := by
  funext i
  rw [Cert.Reference22Ideal.Read.val_main_v1_apply]
  refine (congrArg (· + _) Cert.Common.ofBits_zero).trans ((zero_add _).trans (Finset.sum_congr rfl fun k _ => congrArg x ?_))
  exact funext fun a => match a with
    | ⟨0, _⟩ => rfl
    | ⟨1, _⟩ => rfl
    | ⟨2, _⟩ => rfl

/-- `w_out` equals its reference. -/
theorem algebraic22 : Cert.algebraic_Kernel22Ideal_Reference22Ideal := by
  intro m g m' g' _ hargs
  have run := Cert.Kernel22Ideal.Value.run_blocks (F := Ideal) m g
  simp only [Cert.Kernel22Ideal.Hand.out4, Cert.Kernel22Ideal.Hand.out5, Cert.Kernel22Ideal.Hand.out6,
    Cert.Kernel22Ideal.Hand.out7] at run
  refine ⟨_, _, _, _, run, ?_⟩
  refine (θ_run Cert.Reference22Ideal.defs _ _).mono (fun r h c => ?_) (Cert.Reference22Ideal.Value.run m' g')
  obtain ⟨h0, h1, h2, h3, keep⟩ := h c
  obtain ⟨a0, a1, a2, a3⟩ := hargs c
  rw [a0] at h0 h1 h2 h3
  have e := reference22_total (m ((c : Thread Cert.Kernel22Ideal.nD Cert.Kernel22Ideal.τ).loc Cert.Kernel22Ideal.main_arg0))
  refine ⟨h0.trans e, h1.trans ?_, h2.trans ?_, h3.trans ?_, keep⟩
  · rw [a1, a2, a3, ← e]; rfl
  · rw [a2, ← e]; rfl
  · rw [a3, ← e]; rfl

end Cert.Proof

end
-- ==== Proof.AdamAda.lean ====
/-
  The value of the modulation weight's optimizer call: the gradient of silu(c) @ w with respect to w, a sum of eight outer
  products, and one optimizer step with it, in blocks of 256 rows.
-/
module

public import Idealize.ShloMosaic.Lib.Pipeline.ValueKit
public import proofs.«01_k».proof.Proof.AdamW
public import proofs.«01_k».proof.Defs
public import proofs.«01_k».proof.Proof.Gen.Kernel23Ideal.Frame
public import proofs.«01_k».proof.Proof.Gen.Kernel23Ideal.Skeleton
public import proofs.«01_k».proof.Proof.Gen.Reference23Ideal.Run
public import proofs.«01_k».proof.Proof.Gen.Reference23Ideal.Read

@[expose] public section

noncomputable section

namespace Cert.Kernel23Ideal.Hand

open Cert.Kernel23Ideal Cert.Kernel23Ideal.Gen Cert.Common Cert.AdamW
open Idealize.ShloMosaic Idealize.ShloMosaic.TcCoe Idealize.SL.Sem
open Idealize.ShloMosaic.Pipeline (Dat)
open scoped BigOperators

/-- The gradient at an element: the sum over the eight samples of silu of the sample's condition times its gradient. -/
def outer {M : ℕ} (a : (⟨2, ![M, 8]⟩ : Shape).Idx → EReal) (d : (⟨2, ![8, 1152]⟩ : Shape).Idx → EReal)
    (i : (⟨2, ![M, 1152]⟩ : Shape).Idx) : EReal :=
  ∑ k : Fin 8, silu (a (ix2 (i 0) k)) * d (ix2 k (i 1))

variable (m : (ℓ : Loc nD τ sig) → Buf (Elt Ideal) ℓ)

/-- The five arrays on device `c`: the samples' conditions in columns, their modulation gradients in rows, the weight and the
    two moments. -/
abbrev cond (c : Dev nD) : (⟨2, ![1024, 8]⟩ : Shape).Idx → EReal := m ((c : Thread nD τ).loc main_arg0)
abbrev dmod (c : Dev nD) : (⟨2, ![8, 1152]⟩ : Shape).Idx → EReal := m ((c : Thread nD τ).loc main_arg1)
abbrev weight (c : Dev nD) : (⟨2, ![1024, 1152]⟩ : Shape).Idx → EReal := m ((c : Thread nD τ).loc main_arg2)
abbrev first (c : Dev nD) : (⟨2, ![1024, 1152]⟩ : Shape).Idx → EReal := m ((c : Thread nD τ).loc main_arg3)
abbrev second (c : Dev nD) : (⟨2, ![1024, 1152]⟩ : Shape).Idx → EReal := m ((c : Thread nD τ).loc main_arg4)

/-- Every window's block is block `t` of the rows, the samples' gradients' the whole array. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, _)

/-- The condition's silu, at an element of the block. -/
theorem silu_apply (x0 : Vec Ideal S256x8 .f32) (i : S256x8.Idx) : (k0_pay1 x0 i : EReal) = silu (x0 i) := by
  show (x0 i : EReal) * Ideal.div one (one + Ideal.exp (Ideal.ofBits .f32 0x00000000#32 - x0 i)) = _
  rw [ofBits_zero, zero_sub]
  rfl

/-- The gradient's block at an element: seven outer products and the eighth. -/
theorem outer_apply (x0 : Vec Ideal S256x8 .f32) (x1 : Vec Ideal S8x1152 .f32) (y : S256x1152.Idx) :
    (k0_pay4 x1 (k0_pay2 x0 x1) (k0_pay3 x0) y : EReal) = outer (M := 256) x0 x1 y := by
  unfold outer
  rw [Fin.sum_univ_eight]
  simp only [← silu_apply]
  unfold k0_pay4 k0_pay2 k0_pay3
  generalize k0_pay1 x0 = s
  pointwise

/-- Each window's block at point `t`, at an element, is the array at row `256 * t` plus the element's. -/
theorem block_eq (c : Dev nD) (t : Fin cfg0.N) (y : S256x1152.Idx) (i : (⟨2, ![1024, 1152]⟩ : Shape).Idx)
    (h0 : (i 0).val = t.val * 256 + (y 0).val) (h1 : (i 1).val = (y 1).val) :
    outer (M := 256) (iblk m c 0 t) (iblk m c 1 t) y = outer (cond m c) (dmod m c) i ∧ iblk m c 2 t y = weight m c i
      ∧ iblk m c 3 t y = first m c i ∧ iblk m c 4 t y = second m c i := by
  obtain ⟨⟨a0, a1⟩, ⟨z0, z1⟩, ⟨b0, b1⟩, ⟨c0, c1⟩, ⟨d0, d1⟩, _⟩ := index_facts t
  refine ⟨Finset.sum_congr rfl fun k _ => congrArg₂ (fun a b => silu a * b) ?_ ?_, ?_, ?_, ?_⟩
  · refine congrArg (cond m c) (funext fun a => match a with | ⟨0, _⟩ => Fin.ext ?_ | ⟨1, _⟩ => Fin.ext ?_)
    · show win0_0.index t 0 * 256 + 1 * (y 0).val = (i 0).val; rw [a0, h0]; omega
    · show win0_0.index t 1 * 8 + 1 * k.val = k.val; rw [a1]; omega
  · refine congrArg (dmod m c) (funext fun a => match a with | ⟨0, _⟩ => Fin.ext ?_ | ⟨1, _⟩ => Fin.ext ?_)
    · show win0_1.index t 0 * 8 + 1 * k.val = k.val; rw [z0]; omega
    · show win0_1.index t 1 * 1152 + 1 * (y 1).val = (i 1).val; rw [z1, h1]; omega
  · refine congrArg (weight m c) (funext fun a => match a with | ⟨0, _⟩ => Fin.ext ?_ | ⟨1, _⟩ => Fin.ext ?_)
    · show win0_2.index t 0 * 256 + 1 * (y 0).val = (i 0).val; rw [b0, h0]; omega
    · show win0_2.index t 1 * 1152 + 1 * (y 1).val = (i 1).val; rw [b1, h1]; omega
  · refine congrArg (first m c) (funext fun a => match a with | ⟨0, _⟩ => Fin.ext ?_ | ⟨1, _⟩ => Fin.ext ?_)
    · show win0_3.index t 0 * 256 + 1 * (y 0).val = (i 0).val; rw [c0, h0]; omega
    · show win0_3.index t 1 * 1152 + 1 * (y 1).val = (i 1).val; rw [c1, h1]; omega
  · refine congrArg (second m c) (funext fun a => match a with | ⟨0, _⟩ => Fin.ext ?_ | ⟨1, _⟩ => Fin.ext ?_)
    · show win0_4.index t 0 * 256 + 1 * (y 0).val = (i 0).val; rw [d0, h0]; omega
    · show win0_4.index t 1 * 1152 + 1 * (y 1).val = (i 1).val; rw [d1, h1]; omega

/-! ## The four arrays after the run -/

theorem out5 (c : Dev nD) : (dats m 0 c).arrAt 5 cfg0.N
    = fun i => outer (cond m c) (dmod m c) i := by
  refine (dats m 0 c).arrAt_eq_of_covers 5 _ (by decide +kernel) fun t hf y => ?_
  obtain ⟨_, _, _, _, _, ⟨e0, e1⟩, _⟩ := index_facts t
  blk_simp
  rw [after0_5]
  frame_out
  obtain ⟨r0, -, -, -⟩ := block_eq m c t y (((cfg0.win 5).blk t).view.emb y)
    (by show win0_5.index t 0 * 256 + 1 * (y 0).val = _; rw [e0]; omega)
    (by show win0_5.index t 1 * 1152 + 1 * (y 1).val = _; rw [e1]; omega)
  show (k0_pay4 (iblk m c 1 t) (k0_pay8 (iblk m c 0 t) (iblk m c 1 t) (iblk m c 2 t) (iblk m c 3 t) (iblk m c 4 t))
    (k0_pay9 (iblk m c 0 t) (iblk m c 1 t) (iblk m c 2 t) (iblk m c 3 t) (iblk m c 4 t)) y) = _
  unfold k0_pay8 k0_pay9
  rw [View.ld_unit_zero (S := S256x8) hz, View.ld_unit_zero (S := S8x1152) hz, outer_apply, r0]

theorem out6 (c : Dev nD) : (dats m 0 c).arrAt 6 cfg0.N
    = fun i => change (outer (cond m c) (dmod m c) i) (weight m c i) (first m c i) (second m c i) := by
  refine (dats m 0 c).arrAt_eq_of_covers 6 _ (by decide +kernel) fun t hf y => ?_
  obtain ⟨_, _, _, _, _, _, ⟨e0, e1⟩, _⟩ := index_facts t
  blk_simp
  rw [after0_6]
  frame_out
  obtain ⟨r0, r1, r2, r3⟩ := block_eq m c t y (((cfg0.win 6).blk t).view.emb y)
    (by show win0_6.index t 0 * 256 + 1 * (y 0).val = _; rw [e0]; omega)
    (by show win0_6.index t 1 * 1152 + 1 * (y 1).val = _; rw [e1]; omega)
  show change (k0_pay4 (iblk m c 1 t) (k0_pay8 (iblk m c 0 t) (iblk m c 1 t) (iblk m c 2 t) (iblk m c 3 t) (iblk m c 4 t))
    (k0_pay9 (iblk m c 0 t) (iblk m c 1 t) (iblk m c 2 t) (iblk m c 3 t) (iblk m c 4 t)) y)
    (iblk m c 2 t y) (iblk m c 3 t y) (iblk m c 4 t y) = _
  unfold k0_pay8 k0_pay9
  rw [View.ld_unit_zero (S := S256x8) hz, View.ld_unit_zero (S := S8x1152) hz, outer_apply, r0, r1, r2, r3]

theorem out7 (c : Dev nD) : (dats m 0 c).arrAt 7 cfg0.N
    = fun i => moment (outer (cond m c) (dmod m c) i) (first m c i) := by
  refine (dats m 0 c).arrAt_eq_of_covers 7 _ (by decide +kernel) fun t hf y => ?_
  obtain ⟨_, _, _, _, _, _, _, ⟨e0, e1⟩, _⟩ := index_facts t
  blk_simp
  rw [after0_7]
  frame_out
  obtain ⟨r0, -, r2, -⟩ := block_eq m c t y (((cfg0.win 7).blk t).view.emb y)
    (by show win0_7.index t 0 * 256 + 1 * (y 0).val = _; rw [e0]; omega)
    (by show win0_7.index t 1 * 1152 + 1 * (y 1).val = _; rw [e1]; omega)
  show moment (k0_pay4 (iblk m c 1 t) (k0_pay8 (iblk m c 0 t) (iblk m c 1 t) (iblk m c 2 t) (iblk m c 3 t) (iblk m c 4 t))
    (k0_pay9 (iblk m c 0 t) (iblk m c 1 t) (iblk m c 2 t) (iblk m c 3 t) (iblk m c 4 t)) y) (iblk m c 3 t y) = _
  unfold k0_pay8 k0_pay9
  rw [View.ld_unit_zero (S := S256x8) hz, View.ld_unit_zero (S := S8x1152) hz, outer_apply, r0, r2]

theorem out8 (c : Dev nD) : (dats m 0 c).arrAt 8 cfg0.N
    = fun i => square (outer (cond m c) (dmod m c) i) (second m c i) := by
  refine (dats m 0 c).arrAt_eq_of_covers 8 _ (by decide +kernel) fun t hf y => ?_
  obtain ⟨_, _, _, _, _, _, _, _, ⟨e0, e1⟩⟩ := index_facts t
  blk_simp
  rw [after0_8]
  frame_out
  obtain ⟨r0, -, -, r3⟩ := block_eq m c t y (((cfg0.win 8).blk t).view.emb y)
    (by show win0_8.index t 0 * 256 + 1 * (y 0).val = _; rw [e0]; omega)
    (by show win0_8.index t 1 * 1152 + 1 * (y 1).val = _; rw [e1]; omega)
  show square (k0_pay4 (iblk m c 1 t) (k0_pay8 (iblk m c 0 t) (iblk m c 1 t) (iblk m c 2 t) (iblk m c 3 t) (iblk m c 4 t))
    (k0_pay9 (iblk m c 0 t) (iblk m c 1 t) (iblk m c 2 t) (iblk m c 3 t) (iblk m c 4 t)) y) (iblk m c 4 t y) = _
  unfold k0_pay8 k0_pay9
  rw [View.ld_unit_zero (S := S256x8) hz, View.ld_unit_zero (S := S8x1152) hz, outer_apply, r0, r3]

/-- The run, with the four arrays after it named and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel23Ideal.Hand

namespace Cert.Proof

open Cert.AdamW Cert.Common
open Idealize.ShloMosaic Idealize.ShloMosaic.TcCoe Idealize.SL.Sem
open scoped BigOperators

/-- The reference's gradient: the same eight products, its factors in the other order. -/
theorem reference23_grad (x0 : (⟨2, ![1024, 8]⟩ : Shape).Idx → EReal) (x1 : (⟨2, ![8, 1152]⟩ : Shape).Idx → EReal) :
    Cert.Reference23Ideal.Read.val_main_v3 (F := Ideal) x0 x1 = Cert.Kernel23Ideal.Hand.outer x0 x1 := by
  funext i
  rw [Cert.Reference23Ideal.Read.val_main_v3_apply, Cert.Reference23Ideal.Read.val_main_v2_apply]
  refine Finset.sum_congr rfl fun k _ => (mul_comm _ _).trans (congrArg₂ (· * ·) ?_ (congrArg x1 ?_))
  · show silu (Cert.Reference23Ideal.Read.val_main_v0 (F := Ideal) x0 _) = _
    rw [Cert.Reference23Ideal.Read.val_main_v0_apply]
    exact congrArg (fun j => silu (x0 j)) (funext fun a => match a with
      | ⟨0, _⟩ => rfl
      | ⟨1, _⟩ => rfl)
  · exact funext fun a => match a with
      | ⟨0, _⟩ => rfl
      | ⟨1, _⟩ => rfl

/-- `adamw_w_ada` equals its reference. -/
theorem algebraic23 : Cert.algebraic_Kernel23Ideal_Reference23Ideal := by
  intro m g m' g' _ hargs
  have run := Cert.Kernel23Ideal.Hand.run m g
  simp only [Cert.Kernel23Ideal.Hand.out5, Cert.Kernel23Ideal.Hand.out6, Cert.Kernel23Ideal.Hand.out7,
    Cert.Kernel23Ideal.Hand.out8] at run
  refine ⟨_, _, _, _, run, ?_⟩
  refine (θ_run Cert.Reference23Ideal.defs _ _).mono (fun r h c => ?_) (Cert.Reference23Ideal.Value.run m' g')
  obtain ⟨h0, h1, h2, h3, keep⟩ := h c
  obtain ⟨a0, a1, a2, a3, a4⟩ := hargs c
  rw [a0, a1] at h0 h1 h2 h3
  have e := reference23_grad (m ((c : Thread Cert.Kernel23Ideal.nD Cert.Kernel23Ideal.τ).loc Cert.Kernel23Ideal.main_arg0))
    (m ((c : Thread Cert.Kernel23Ideal.nD Cert.Kernel23Ideal.τ).loc Cert.Kernel23Ideal.main_arg1))
  refine ⟨h0.trans e, h1.trans ?_, h2.trans ?_, h3.trans ?_, keep⟩
  · rw [a2, a3, a4]; simp only [← e]; rfl
  · rw [a3]; simp only [← e]; rfl
  · rw [a4]; simp only [← e]; rfl

end Cert.Proof

end
-- ==== Proof.AdamRows.lean ====
/-
  The value of the optimizer call of the small weights: one step, element by element over one row that holds them all.
-/
module

public import Idealize.ShloMosaic.Lib.Pipeline.ValueKit
public import proofs.«01_k».proof.Proof.AdamW
public import proofs.«01_k».proof.Defs
public import proofs.«01_k».proof.Proof.Gen.Kernel24Ideal.Value
public import proofs.«01_k».proof.Proof.Gen.Kernel24Ideal.Skeleton
public import proofs.«01_k».proof.Proof.Gen.Reference24Ideal.Run

@[expose] public section

noncomputable section

namespace Cert.Kernel24Ideal.Hand

open Cert.Kernel24Ideal Cert.Kernel24Ideal.Gen Cert.Kernel24Ideal.Value Cert.Common Cert.AdamW
open Idealize.ShloMosaic Idealize.ShloMosaic.TcCoe Idealize.SL.Sem
open Idealize.ShloMosaic.Pipeline (Dat)

variable (m : (ℓ : Loc nD τ sig) → Buf (Elt Ideal) ℓ)

/-- The four arrays on device `c`: the gradient, the weights and the two moments. -/
abbrev grad (c : Dev nD) : (⟨2, ![1, 15616]⟩ : Shape).Idx → EReal := m ((c : Thread nD τ).loc main_arg0)
abbrev weight (c : Dev nD) : (⟨2, ![1, 15616]⟩ : Shape).Idx → EReal := m ((c : Thread nD τ).loc main_arg1)
abbrev first (c : Dev nD) : (⟨2, ![1, 15616]⟩ : Shape).Idx → EReal := m ((c : Thread nD τ).loc main_arg2)
abbrev second (c : Dev nD) : (⟨2, ![1, 15616]⟩ : Shape).Idx → EReal := m ((c : Thread nD τ).loc main_arg3)

theorem out4 (c : Dev nD) : (dats m 0 c).arrAt 4 cfg0.N
    = fun i => change (grad m c i) (weight m c i) (first m c i) (second m c i) := by
  refine (dats m 0 c).arrAt_eq_of_covers 4 _ (by decide +kernel) fun t hf y => ?_
  blk_simp
  rw [after0_4]
  frame_out
  rfl

theorem out5 (c : Dev nD) : (dats m 0 c).arrAt 5 cfg0.N = fun i => moment (grad m c i) (first m c i) := by
  refine (dats m 0 c).arrAt_eq_of_covers 5 _ (by decide +kernel) fun t hf y => ?_
  blk_simp
  rw [after0_5]
  frame_out
  rfl

theorem out6 (c : Dev nD) : (dats m 0 c).arrAt 6 cfg0.N = fun i => square (grad m c i) (second m c i) := by
  refine (dats m 0 c).arrAt_eq_of_covers 6 _ (by decide +kernel) fun t hf y => ?_
  blk_simp
  rw [after0_6]
  frame_out
  rfl

end Cert.Kernel24Ideal.Hand

namespace Cert.Proof

open Cert.AdamW
open Idealize.ShloMosaic Idealize.ShloMosaic.TcCoe Idealize.SL.Sem

/-- `adamw_small` equals its reference. -/
theorem algebraic24 : Cert.algebraic_Kernel24Ideal_Reference24Ideal := by
  intro m g m' g' _ hargs
  have run := Cert.Kernel24Ideal.Value.run_blocks (F := Ideal) m g
  simp only [Cert.Kernel24Ideal.Hand.out4, Cert.Kernel24Ideal.Hand.out5, Cert.Kernel24Ideal.Hand.out6] at run
  refine ⟨_, _, _, run, ?_⟩
  refine (θ_run Cert.Reference24Ideal.defs _ _).mono (fun r h c => ?_) (Cert.Reference24Ideal.Value.run m' g')
  obtain ⟨h0, h1, h2, keep⟩ := h c
  obtain ⟨a0, a1, a2, a3⟩ := hargs c
  refine ⟨h0.trans ?_, h1.trans ?_, h2.trans ?_, keep⟩
  · rw [a0, a1, a2, a3]; rfl
  · rw [a0, a2]; rfl
  · rw [a0, a3]; rfl

end Cert.Proof

end
-- ==== Proof.Final.lean ====
/-
  The value of the loss and its gradient. The stream's rows are normalized and weighted, and the target is taken off; the
  loss is half the sum over the rows of the mean of the error's squares. It and the norm weight's gradient are summed over
  the rows in blocks of 512; the stream's gradient comes row by row.
-/
module

public import Idealize.ShloMosaic.Lib.Pipeline.ValueKit
public import proofs.«01_k».proof.Proof.Common
public import proofs.«01_k».proof.Proof.NormBwd
public import proofs.«01_k».proof.Defs
public import proofs.«01_k».proof.Proof.Gen.Kernel25Ideal.Value
public import proofs.«01_k».proof.Proof.Gen.Kernel25Ideal.Skeleton
public import proofs.«01_k».proof.Proof.Gen.Reference25Ideal.Run
public import proofs.«01_k».proof.Proof.Gen.Reference25Ideal.Read

@[expose] public section

noncomputable section

namespace Cert.Final

open Cert.Common Cert.NormBwd
open Idealize.ShloMosaic
open scoped BigOperators

/-- A half, two, and one over the row's length, as the programs' words. -/
abbrev half : EReal := Ideal.ofBits .f32 0x3F000000#32
abbrev two : EReal := Ideal.ofBits .f32 0x40000000#32
abbrev perWidth : EReal := Ideal.ofBits .f32 0x3A800000#32

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

theorem perWidth_eq : perWidth = ((1 / 1024 : ℝ) : EReal) := by
  simp [perWidth, Ideal.ofBits, Ideal.ieee, -EReal.coe_mul]; norm_num

/-- A row's error against its target, the gradient at the weighted row, and the mean of the error's squares. -/
def err (x w g : Fin 1024 → EReal) (j : Fin 1024) : EReal := hat x j * w j - g j
def errGrad (x w g : Fin 1024 → EReal) (j : Fin 1024) : EReal := err x w g j * perWidth
def rowLoss (x w g : Fin 1024 → EReal) : EReal := Ideal.div (∑ k, err x w g k * err x w g k) width

/-- A half moves into a sum. -/
theorem half_sum {n : ℕ} (f : Fin n → EReal) : half * ∑ k, f k = ∑ k, half * f k := by
  rw [half_eq, mul_comm, ← sum_mul_real f (by norm_num)]
  exact Finset.sum_congr rfl fun k _ => mul_comm _ _

/-- The derivative of half the mean of the squares, step by step, is the error over the row's length. -/
theorem errGrad_eq (a : EReal) : Ideal.div (half * 1) width * (two * a) = a * perWidth := by
  rw [mul_one, half_eq, two_eq, perWidth_eq, width_eq, div_real _ (by norm_num), ← EReal.coe_mul, ← mul_assoc, ← EReal.coe_mul,
    mul_comm]
  norm_num

end Cert.Final

namespace Cert.Kernel25Ideal.Hand

open Cert.Kernel25Ideal Cert.Kernel25Ideal.Gen Cert.Kernel25Ideal.Value Cert.Common Cert.NormBwd Cert.Final
open Idealize.ShloMosaic Idealize.ShloMosaic.TcCoe Idealize.SL.Sem
open Idealize.ShloMosaic.Pipeline (Dat)
open scoped BigOperators

section Block

variable (x0 : Vec Ideal S512x1024 .f32) (x1 : Vec Ideal S1x1024 .f32) (x2 : Vec Ideal S512x1024 .f32)

theorem invRoot_apply (p : Fin 512) : (k0_pay5 x0 (ix2 p 0) : EReal) = invRoot (row (M := 512) x0 p) := by
  unfold k0_pay5 invRoot spread row
  pointwise

theorem hat_apply (p : Fin 512) (q : Fin 1024) : (k0_pay6 x0 (ix2 p q) : EReal) = hat (row (M := 512) x0 p) q := by
  unfold k0_pay6 hat
  rw [← invRoot_apply x0 p]
  generalize k0_pay5 x0 = r
  pointwise

theorem err_apply (p : Fin 512) (q : Fin 1024) : (k0_pay7 x0 x1 x2 (ix2 p q) : EReal)
    = err (row (M := 512) x0 p) (row (M := 1) x1 0) (row (M := 512) x2 p) q := by
  unfold err
  rw [← hat_apply x0 p]
  unfold k0_pay7
  generalize k0_pay6 x0 = a
  pointwise

theorem loss_apply : (k0_pay8 x0 x1 x2 : EReal)
    = half * ∑ p : Fin 512, rowLoss (row (M := 512) x0 p) (row (M := 1) x1 0) (row (M := 512) x2 p) := by
  unfold rowLoss
  simp only [← err_apply]
  unfold k0_pay8
  generalize k0_pay7 x0 x1 x2 = e
  pointwise
  exact congrArg (half * ·) (Finset.sum_congr rfl fun p _ => Fin.sum_univ_one _)

theorem errGrad_apply (p : Fin 512) (q : Fin 1024) : (k0_pay9 x0 x1 x2 (ix2 p q) : EReal)
    = errGrad (row (M := 512) x0 p) (row (M := 1) x1 0) (row (M := 512) x2 p) q := by
  unfold errGrad
  rw [← err_apply]
  unfold k0_pay9
  generalize k0_pay7 x0 x1 x2 = e
  pointwise

theorem grad_apply (p : Fin 512) (q : Fin 1024) : (k0_pay10 x0 x1 x2 (ix2 p q) : EReal)
    = rowGrad (row (M := 512) x0 p)
        (fun k => errGrad (row (M := 512) x0 p) (row (M := 1) x1 0) (row (M := 512) x2 p) k * row (M := 1) x1 0 k) q := by
  unfold rowGrad
  simp only [← hat_apply x0, ← errGrad_apply x0 x1 x2, ← invRoot_apply x0]
  unfold k0_pay10
  generalize k0_pay5 x0 = r
  generalize k0_pay6 x0 = a
  generalize k0_pay9 x0 x1 x2 = e
  pointwise

end Block

variable (m : (ℓ : Loc nD τ sig) → Buf (Elt Ideal) ℓ)

/-- The three arrays on device `c`: the stream, the norm's weight and the target. -/
abbrev stream (c : Dev nD) : (⟨2, ![8192, 1024]⟩ : Shape).Idx → EReal := m ((c : Thread nD τ).loc main_arg0)
abbrev normW (c : Dev nD) : (⟨2, ![1, 1024]⟩ : Shape).Idx → EReal := m ((c : Thread nD τ).loc main_arg1)
abbrev target (c : Dev nD) : (⟨2, ![8192, 1024]⟩ : Shape).Idx → EReal := m ((c : Thread nD τ).loc main_arg2)

/-- The row arrays' blocks are block `t` of their rows; the others are whole at every point. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_4.index t 0 = t.val ∧ win0_4.index t 1 = 0) :=
  (by decide +kernel : ∀ t : Fin grid0.N, _)

section Rows

variable (c : Dev nD) (t : Fin cfg0.N) (p : Fin 512) (r : Fin 8192) (h : r.val = t.val * 512 + p.val)
include h

/-- Row `p` of a block at point `t` is row `512 * t + p` of its array. -/
theorem stream_eq : row (M := 512) (iblk m c 0 t) p = row (stream m c) r := by
  obtain ⟨⟨e0, f0⟩, -⟩ := index_facts t
  funext k
  refine at2 (stream m c) _ _ ?_ ?_
  · show win0_0.index t 0 * 512 + 1 * p.val = r.val; rw [e0]; omega
  · show win0_0.index t 1 * 1024 + 1 * k.val = k.val; rw [f0]; omega

theorem target_eq : row (M := 512) (iblk m c 2 t) p = row (target m c) r := by
  obtain ⟨-, -, ⟨e2, f2⟩, -⟩ := index_facts t
  funext k
  refine at2 (target m c) _ _ ?_ ?_
  · show win0_2.index t 0 * 512 + 1 * p.val = r.val; rw [e2]; omega
  · show win0_2.index t 1 * 1024 + 1 * k.val = k.val; rw [f2]; omega

end Rows

theorem normW_eq (c : Dev nD) (t : Fin cfg0.N) : row (M := 1) (iblk m c 1 t) 0 = row (normW m c) 0 := by
  obtain ⟨-, ⟨e1, f1⟩, -⟩ := index_facts t
  funext k
  refine at2 (normW m c) _ _ ?_ ?_
  · show win0_1.index t 0 * 1 + 1 * 0 = 0; rw [e1]
  · show win0_1.index t 1 * 1024 + 1 * k.val = k.val; rw [f1]; omega

/-- The stream's gradient at every point: the first point and the later ones compute the same block. -/
theorem grad_at (c : Dev nD) (t : Fin cfg0.N) (y : S512x1024.Idx) : ((outsAt0 m c t.val t.isLt).2.1 y : EReal)
    = k0_pay10 (iblk m c 0 t) (iblk m c 1 t) (iblk m c 2 t) y := by
  by_cases h0 : t.val % 16 = 0
  · rw [outsAt0_A m c t h0]
    frame_out
  · rw [outsAt0_B m c t h0]
    frame_out

theorem out4 (c : Dev nD) : (dats m 0 c).arrAt 4 cfg0.N = fun i : (⟨2, ![8192, 1024]⟩ : Shape).Idx =>
    rowGrad (row (stream m c) (i 0)) (fun k => errGrad (row (stream m c) (i 0)) (row (normW m c) 0) (row (target m c) (i 0)) k
      * row (normW m c) 0 k) (i 1) := by
  refine (dats m 0 c).arrAt_eq_of_covers 4 _ (by decide +kernel) fun t hf y => ?_
  blk_simp
  obtain ⟨-, -, -, ⟨e4, f4⟩⟩ := index_facts t
  have hr : ((win0_4.blk t).view.emb y 0).val = t.val * 512 + (y 0).val := by
    show win0_4.index t 0 * 512 + 1 * (y 0).val = _; rw [e4]; omega
  have hq : (win0_4.blk t).view.emb y 1 = y 1 := Fin.ext (by
    show win0_4.index t 1 * 1024 + 1 * (y 1).val = _; rw [f4]; omega)
  have hg := grad_apply (iblk m c 0 t) (iblk m c 1 t) (iblk m c 2 t) (y 0) (y 1)
  rw [normW_eq, stream_eq m c t (y 0) _ hr, target_eq m c t (y 0) _ hr, ix2_eta, ← hq] at hg
  rw [after0_4, grad_at]
  exact hg

/-- The last point. -/
@[irreducible] def lastPoint : Fin cfg0.N := ⟨15, by rw [show cfg0.N = 16 from N_0]; omega⟩

theorem lastPoint_val : lastPoint.val + 1 = cfg0.N := by
  unfold lastPoint
  exact N_0.symm

/-- A row's position, from its block and its place in the block. -/
abbrev at512 (t : Fin cfg0.N) (p : Fin 512) : Fin 8192 := rowOf (T := 512) N_0 (by norm_num) t p

/-- The two sums over rows. -/
theorem out3 (c : Dev nD) : (dats m 0 c).arrAt 3 cfg0.N = fun j : (⟨2, ![1, 128]⟩ : Shape).Idx =>
    half * ∑ p : Fin 8192, rowLoss (row (stream m c) p) (row (normW m c) 0) (row (target m c) p) := by
  refine (dats m 0 c).arrAt_eq_of_after_last 3 lastPoint (by decide +kernel) _ fun j => ?_
  blk_simp
  rw [after0_3, half_sum]
  refine (sum_blocks_of (T := 512) N_0 (by norm_num) (fun n hn => (outsAt0 m c n hn).1)
    (fun t j => k0_pay8 (iblk m c 0 t) (iblk m c 1 t) (iblk m c 2 t))
    (fun p q => half * rowLoss (row (stream m c) p) (row (normW m c) 0) (row (target m c) p)) (fun t q => ?_) (fun t h0 y => ?_)
    (fun t h0 y => ?_) lastPoint lastPoint_val _).trans rfl
  · refine (loss_apply _ _ _).trans ?_
    rw [half_sum, normW_eq]
    exact Finset.sum_congr rfl fun p _ => by rw [stream_eq m c t p (at512 t p) rfl, target_eq m c t p (at512 t p) rfl]
  · rw [outsAt0_A m c t h0]
    frame_out
    unfold k0_pay3 k0_pay1
    generalize k0_pay8 (F := Ideal) _ _ _ = d
    pointwise
  · rw [outsAt0_B m c t h0]
    frame_out
    unfold k0_pay3
    generalize k0_pay8 (F := Ideal) _ _ _ = d
    pointwise

/-- The block's term of the norm weight's gradient. -/
def weightBlock (c : Dev nD) (t : Fin cfg0.N) (j : (⟨2, ![1, 1024]⟩ : Shape).Idx) : EReal :=
  ∑ p : Fin 512, (k0_pay9 (iblk m c 0 t) (iblk m c 1 t) (iblk m c 2 t) (ix2 p (j 1)) : EReal) * k0_pay6 (iblk m c 0 t) (ix2 p (j 1))

theorem weight_add (a b : FVec Ideal S512x1024 .f32) (v : Vec Ideal S1x1024 .f32) (j : (⟨2, ![1, 1024]⟩ : Shape).Idx) :
    (k0_pay4 a b v j : EReal) = v j + ∑ p : Fin 512, (b (ix2 p (j 1)) : EReal) * a (ix2 p (j 1)) := by
  rw [← row_eta j]
  unfold k0_pay4
  pointwise

theorem out5 (c : Dev nD) : (dats m 0 c).arrAt 5 cfg0.N = fun j : (⟨2, ![1, 1024]⟩ : Shape).Idx =>
    ∑ p : Fin 8192, errGrad (row (stream m c) p) (row (normW m c) 0) (row (target m c) p) (j 1) * hat (row (stream m c) p) (j 1) := by
  refine (dats m 0 c).arrAt_eq_of_after_last 5 lastPoint (by decide +kernel) _ fun j => ?_
  blk_simp
  rw [after0_5]
  refine (sum_blocks_of (T := 512) N_0 (by norm_num) (fun n hn => (outsAt0 m c n hn).2.2) (weightBlock m c)
    (fun p q => errGrad (row (stream m c) p) (row (normW m c) 0) (row (target m c) p) q * hat (row (stream m c) p) q)
    (fun t q => ?_) (fun t h0 y => ?_) (fun t h0 y => ?_) lastPoint lastPoint_val _).trans rfl
  · refine Finset.sum_congr rfl fun p _ => ?_
    rw [← stream_eq m c t p (at512 t p) rfl, ← target_eq m c t p (at512 t p) rfl, ← normW_eq m c t]
    exact congrArg₂ (· * ·) (errGrad_apply _ _ _ p q) (hat_apply _ p q)
  · rw [outsAt0_A m c t h0]
    frame_out
    rw [weight_add]
    unfold k0_pay2 weightBlock
    generalize k0_pay9 (F := Ideal) _ _ _ = d
    pointwise
  · rw [outsAt0_B m c t h0]
    frame_out
    rw [weight_add]
    rfl

end Cert.Kernel25Ideal.Hand

namespace Cert.Proof

open Cert.Common Cert.NormBwd Cert.Final
open Idealize.ShloMosaic Idealize.ShloMosaic.TcCoe Idealize.SL.Sem
open scoped BigOperators

section Reference

open Cert.Reference25Ideal.Read

variable (x0 x2 : (⟨2, ![8192, 1024]⟩ : Shape).Idx → EReal) (x1 : (⟨2, ![1, 1024]⟩ : Shape).Idx → EReal)

theorem reference25_spread (p : Fin 8192) : (val_main_v6 (F := Ideal) x0 (ix2 p 0) : EReal) = spread (row x0 p) := by
  unfold val_main_v6 val_main_v5 val_main_v4 val_main_v3 val_main_v2 val_main_v1 val_main_v0 val_main_cst val_main_cst_0
    val_main_cst_1 spread row
  pointwise

theorem reference25_hat (p : Fin 8192) (q : Fin 1024) : (val_main_v12 (F := Ideal) x0 (ix2 p q) : EReal) = hat (row x0 p) q := by
  unfold hat invRoot
  rw [← reference25_spread x0 p]
  unfold val_main_v12 val_main_v11 val_main_v7
  generalize val_main_v6 (F := Ideal) x0 = v
  pointwise

theorem reference25_err (p : Fin 8192) (q : Fin 1024) :
    (val_main_v15 (F := Ideal) x0 x1 x2 (ix2 p q) : EReal) = err (row x0 p) (row x1 0) (row x2 p) q := by
  unfold err
  rw [← reference25_hat x0 p]
  unfold val_main_v15 val_main_v14 val_main_v13
  generalize val_main_v12 (F := Ideal) x0 = a
  pointwise

theorem reference25_errGrad (p : Fin 8192) (q : Fin 1024) :
    (val_main_v29 (F := Ideal) x0 x1 x2 (ix2 p q) : EReal) = errGrad (row x0 p) (row x1 0) (row x2 p) q := by
  unfold errGrad
  rw [← reference25_err x0 x2 x1 p q, ← errGrad_eq]
  unfold val_main_v29 val_main_v28 val_main_v27 val_main_v26 val_main_v25 val_main_v24 val_main_v18 val_main_v17 val_main_cst_3
    val_main_cst_8 val_main_cst_9 val_main_cst_10
  generalize val_main_v15 (F := Ideal) x0 x1 x2 = e
  pointwise

theorem reference25_share (p : Fin 8192) (q : Fin 1024) : (val_main_v44 (F := Ideal) x0 x1 x2 (ix2 p q) : EReal)
    = share (row x0 p) (fun k => errGrad (row x0 p) (row x1 0) (row x2 p) k * row x1 0 k) := by
  unfold share invRoot
  simp only [← reference25_errGrad, ← reference25_spread]
  unfold val_main_v44 val_main_v43 val_main_v42 val_main_v41 val_main_v40 val_main_v37 val_main_v36 val_main_v35 val_main_v34
    val_main_v33 val_main_v10 val_main_v9 val_main_v8 val_main_v7 val_main_cst_2 val_main_cst_12 val_main_cst_13 val_main_cst_14
  generalize val_main_v6 (F := Ideal) x0 = v
  generalize val_main_v29 (F := Ideal) x0 x1 x2 = a
  pointwise
  exact Fin.sum_univ_one _

theorem reference25_grad (p : Fin 8192) (q : Fin 1024) : (val_main_v48 (F := Ideal) x0 x1 x2 (ix2 p q) : EReal)
    = rowGrad (row x0 p) (fun k => errGrad (row x0 p) (row x1 0) (row x2 p) k * row x1 0 k) q := by
  have e := rowGrad_eq (row x0 p) (fun k => errGrad (row x0 p) (row x1 0) (row x2 p) k * row x1 0 k) 0 q
  rw [zero_add, zero_add] at e
  rw [e, ← reference25_share x0 x2 x1 p q]
  simp only [← reference25_errGrad x0 x2 x1]
  unfold invRoot
  rw [← reference25_spread]
  unfold val_main_v48 val_main_v47 val_main_v46 val_main_v45 val_main_v39 val_main_v38 val_main_v34 val_main_v33 val_main_v7
  generalize val_main_v6 (F := Ideal) x0 = v
  generalize val_main_v29 (F := Ideal) x0 x1 x2 = a
  generalize val_main_v44 (F := Ideal) x0 x1 x2 = b
  pointwise

theorem reference25_weight (q : Fin 1024) : (val_main_v32 (F := Ideal) x0 x1 x2 (ix2 0 q) : EReal)
    = ∑ p : Fin 8192, errGrad (row x0 p) (row x1 0) (row x2 p) q * hat (row x0 p) q := by
  simp only [← reference25_errGrad, ← reference25_hat]
  simp only [mul_comm (val_main_v29 (F := Ideal) x0 x1 x2 _ : EReal)]
  unfold val_main_v32 val_main_v31 val_main_v30 val_main_cst_11
  generalize val_main_v29 (F := Ideal) x0 x1 x2 = d
  generalize val_main_v12 (F := Ideal) x0 = a
  pointwise

theorem reference25_loss (q : Fin 128) : (val_main_v49 (F := Ideal) x0 x1 x2 (ix2 0 q) : EReal)
    = half * ∑ p : Fin 8192, rowLoss (row x0 p) (row x1 0) (row x2 p) := by
  unfold rowLoss
  simp only [← reference25_err]
  unfold val_main_v49 val_main_v23 val_main_v22 val_main_v21 val_main_v20 val_main_v19 val_main_v16 val_main_cst_4 val_main_cst_5
    val_main_cst_6 val_main_cst_7
  generalize val_main_v15 (F := Ideal) x0 x1 x2 = e
  pointwise

/-- The three results, as arrays. -/
theorem reference25_losses : val_main_v49 (F := Ideal) x0 x1 x2 = fun j : (⟨2, ![1, 128]⟩ : Shape).Idx =>
    (half * ∑ p : Fin 8192, rowLoss (row x0 p) (row x1 0) (row x2 p) : EReal) := funext fun j => by
  have e := reference25_loss x0 x2 x1 (j 1)
  rw [row_eta] at e
  exact e
theorem reference25_grads : val_main_v48 (F := Ideal) x0 x1 x2 = fun i : (⟨2, ![8192, 1024]⟩ : Shape).Idx =>
    (rowGrad (row x0 (i 0)) (fun k => errGrad (row x0 (i 0)) (row x1 0) (row x2 (i 0)) k * row x1 0 k) (i 1) : EReal) :=
  funext fun i => by
  have e := reference25_grad x0 x2 x1 (i 0) (i 1)
  rw [ix2_eta] at e
  exact e
theorem reference25_weights : val_main_v32 (F := Ideal) x0 x1 x2 = fun j : (⟨2, ![1, 1024]⟩ : Shape).Idx =>
    (∑ p : Fin 8192, errGrad (row x0 p) (row x1 0) (row x2 p) (j 1) * hat (row x0 p) (j 1) : EReal) := funext fun j => by
  have e := reference25_weight x0 x2 x1 (j 1)
  rw [row_eta] at e
  exact e

end Reference

/-- `final_fwd_bwd` equals its reference. -/
theorem algebraic25 : Cert.algebraic_Kernel25Ideal_Reference25Ideal := by
  intro m g m' g' _ hargs
  have run := Cert.Kernel25Ideal.Value.run_blocks (F := Ideal) m g
  simp only [Cert.Kernel25Ideal.Hand.out3, Cert.Kernel25Ideal.Hand.out4, Cert.Kernel25Ideal.Hand.out5] at run
  refine ⟨_, _, _, run, ?_⟩
  refine (θ_run Cert.Reference25Ideal.defs _ _).mono (fun r h c => ?_) (Cert.Reference25Ideal.Value.run m' g')
  obtain ⟨h0, h1, h2, keep⟩ := h c
  obtain ⟨a0, a1, a2⟩ := hargs c
  rw [a0, a1, a2] at h0
  rw [Cert.Reference25Ideal.Read.val_main_v48_eq, a0, a1, a2] at h1
  rw [a0, a1, a2] at h2
  exact ⟨h0.trans (reference25_losses _ _ _), h1.trans (reference25_grads _ _ _), h2.trans (reference25_weights _ _ _), keep⟩

end Cert.Proof

end
-- ==== Proof.GateNormFwd.lean ====
/-
  The value of the gated norm: in each row the two directions' outputs are added, every group of 128 columns is divided by
  the root of its mean square and weighted, and the row is multiplied by the gate's silu. The kernel writes the eight groups
  one after the other; the reference reshapes the rows into groups.
-/
module

public import Idealize.ShloMosaic.Lib.Pipeline.ValueKit
public import proofs.«01_k».proof.Proof.Common
public import proofs.«01_k».proof.Proof.NormBwd
public import proofs.«01_k».proof.Defs
public import proofs.«01_k».proof.Proof.Gen.Kernel26Ideal.Value
public import proofs.«01_k».proof.Proof.Gen.Kernel26Ideal.Skeleton
public import proofs.«01_k».proof.Proof.Gen.Reference26Ideal.Run
public import proofs.«01_k».proof.Proof.Gen.Reference26Ideal.Read

@[expose] public section

noncomputable section

namespace Cert.GateNorm

open Cert.Common Cert.NormBwd
open Idealize.ShloMosaic
open scoped BigOperators

/-- The group's length, as the programs' word. -/
abbrev groupWidth : EReal := Ideal.ofBits .f32 0x43000000#32

/-- One over the root of a group's mean square, and the group normalized, weighted and gated. -/
def groupRoot (a b : Fin 128 → EReal) : EReal :=
  Ideal.rsqrt (Ideal.div (∑ k, (a k + b k) * (a k + b k)) groupWidth + tiny)
def gateNorm (a b z w : Fin 128 → EReal) (j : Fin 128) : EReal := (a j + b j) * groupRoot a b * w j * silu (z j)

/-- Column `j` of group `h`, among the row's columns and among the projections' gate columns, which start at 3072. -/
def col (h : Fin 8) (j : Fin 128) : Fin 1024 := ⟨h.val * 128 + j.val, by omega⟩
def gateCol (h : Fin 8) (j : Fin 128) : Fin 7680 := ⟨3072 + (h.val * 128 + j.val), by omega⟩

/-- A column's group and its place there. -/
def group (q : Fin 1024) : Fin 8 := ⟨q.val / 128, by omega⟩
def place (q : Fin 1024) : Fin 128 := ⟨q.val % 128, by omega⟩

variable (of ob : (⟨2, ![8192, 1024]⟩ : Shape).Idx → EReal) (proj : (⟨2, ![8192, 7680]⟩ : Shape).Idx → EReal)
  (w : (⟨2, ![1, 128]⟩ : Shape).Idx → EReal)

/-- Row `r`'s group `h` at place `j`, and the row at a column. -/
def groupOut (r : Fin 8192) (h : Fin 8) (j : Fin 128) : EReal :=
  gateNorm (fun k => of (ix2 r (col h k))) (fun k => ob (ix2 r (col h k))) (fun k => proj (ix2 r (gateCol h k)))
    (fun k => w (ix2 0 k)) j
def rowOut (r : Fin 8192) (q : Fin 1024) : EReal := groupOut of ob proj w r (group q) (place q)

end Cert.GateNorm

namespace Cert.Kernel26Ideal.Hand

open Cert.Kernel26Ideal Cert.Kernel26Ideal.Gen Cert.Kernel26Ideal.Value Cert.Common Cert.NormBwd Cert.GateNorm
open Idealize.ShloMosaic Idealize.ShloMosaic.TcCoe Idealize.SL.Sem
open Idealize.ShloMosaic.Pipeline (Dat)
open scoped BigOperators

/-- A group's block at an element. The program spells the eight groups alike. -/
theorem group_apply (w : Vec Ideal S1x128 .f32) (a b : Vec Ideal S512x128 .f32) (z : Vec Ideal S512x128 .bf16) (p : Fin 512)
    (j : Fin 128) : (k0_pay2 w a b z (ix2 p j) : EReal)
      = gateNorm (row (M := 512) a p) (row (M := 512) b p) (row (M := 512) z p) (row (M := 1) w 0) j := by
  unfold k0_pay2 gateNorm groupRoot silu
  pointwise
  rw [zero_sub]

variable (m : (ℓ : Loc nD τ sig) → Buf (Elt Ideal) ℓ)

/-- The four arrays on device `c`: the two directions' outputs, the projections and the norm's weight. -/
abbrev forth (c : Dev nD) : (⟨2, ![8192, 1024]⟩ : Shape).Idx → EReal := m ((c : Thread nD τ).loc main_arg0)
abbrev back (c : Dev nD) : (⟨2, ![8192, 1024]⟩ : Shape).Idx → EReal := m ((c : Thread nD τ).loc main_arg1)
abbrev proj (c : Dev nD) : (⟨2, ![8192, 7680]⟩ : Shape).Idx → EReal := m ((c : Thread nD τ).loc main_arg2)
abbrev normW (c : Dev nD) : (⟨2, ![1, 128]⟩ : Shape).Idx → EReal := m ((c : Thread nD τ).loc main_arg3)

/-- The row arrays' blocks are block `t` of their rows, the gate's at column block 3; the weight is whole at every point. -/
theorem index_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 3)
    ∧ (win0_3.index t 0 = 0 ∧ win0_3.index t 1 = 0) ∧ (win0_4.index t 0 = t.val ∧ win0_4.index t 1 = 0) :=
  (by decide +kernel : ∀ t : Fin grid0.N, _)

section Rows

variable (c : Dev nD) (t : Fin cfg0.N) (y : (⟨2, ![512, 1024]⟩ : Shape).Idx) (r : Fin 8192) (q : Fin 1024)
  (h0 : r.val = t.val * 512 + (y 0).val) (h1 : (y 1).val = q.val)
include h0 h1

/-- Row `p` of a block at point `t` is row `512 * t + p` of its array. -/
theorem forth_eq : (iblk m c 0 t y : EReal) = forth m c (ix2 r q) := by
  obtain ⟨⟨e, f⟩, -⟩ := index_facts t
  refine at2 (forth m c) _ _ ?_ ?_
  · show win0_0.index t 0 * 512 + 1 * (y 0).val = r.val; rw [e]; omega
  · show win0_0.index t 1 * 1024 + 1 * (y 1).val = q.val; rw [f]; omega

theorem back_eq : (iblk m c 1 t y : EReal) = back m c (ix2 r q) := by
  obtain ⟨-, ⟨e, f⟩, -⟩ := index_facts t
  refine at2 (back m c) _ _ ?_ ?_
  · show win0_1.index t 0 * 512 + 1 * (y 0).val = r.val; rw [e]; omega
  · show win0_1.index t 1 * 1024 + 1 * (y 1).val = q.val; rw [f]; omega

theorem gate_eq (g : Fin 7680) (hg : g.val = 3072 + q.val) : (X0_2 m c t y : EReal) = proj m c (ix2 r g) := by
  obtain ⟨-, -, ⟨e, f⟩, -⟩ := index_facts t
  unfold X0_2 Pipeline.Window.fill
  rw [dif_pos (moved0_2 t y)]
  refine at2 (proj m c) _ _ ?_ ?_
  · show win0_2.index t 0 * 512 + 1 * (y 0).val = r.val; rw [e]; omega
  · show win0_2.index t 1 * 1024 + 1 * (y 1).val = g.val; rw [f]; omega

end Rows

theorem normW_eq (c : Dev nD) (t : Fin cfg0.N) (k : Fin 128) : (iblk m c 3 t (ix2 0 k) : EReal) = normW m c (ix2 0 k) := by
  obtain ⟨-, -, -, ⟨e, f⟩, -⟩ := index_facts t
  refine at2 (normW m c) _ _ ?_ ?_
  · show win0_3.index t 0 * 1 + 1 * 0 = 0; rw [e]
  · show win0_3.index t 1 * 128 + 1 * k.val = k.val; rw [f]; omega

/-- Group `h` of the block at point `t`, from the three arrays' columns from `o` on. -/
theorem group_eq (c : Dev nD) (t : Fin cfg0.N) (h : Fin 8) (o : ℕ) (ho : o = h.val * 128)
    (inb : ∀ a, (![0, o] : Fin 2 → ℕ) a + (![512, 128] : Fin 2 → ℕ) a ≤ S512x1024.size a) (x : S512x128.Idx)
    (r : Fin 8192) (q : Fin 1024) (hr : r.val = t.val * 512 + (x 0).val) (hq : q.val = o + (x 1).val) :
    (k0_pay2 (iblk m c 3 t) (View.ld (iblk m c 0 t) (Rect.unit ![0, o] ![512, 128] inb))
      (View.ld (iblk m c 1 t) (Rect.unit ![0, o] ![512, 128] inb)) (View.ld (X0_2 m c t) (Rect.unit ![0, o] ![512, 128] inb)) x
        : EReal) = rowOut (forth m c) (back m c) (proj m c) (normW m c) r q := by
  have hx : (x 1).val < 128 := (x 1).isLt
  have hh : group q = h := Fin.ext (by show q.val / 128 = h.val; omega)
  have hp : place q = x 1 := Fin.ext (by show q.val % 128 = (x 1).val; omega)
  have e := group_apply (iblk m c 3 t) (View.ld (iblk m c 0 t) (Rect.unit ![0, o] ![512, 128] inb))
    (View.ld (iblk m c 1 t) (Rect.unit ![0, o] ![512, 128] inb)) (View.ld (X0_2 m c t) (Rect.unit ![0, o] ![512, 128] inb))
    (x 0) (x 1)
  rw [ix2_eta] at e
  refine e.trans ?_
  unfold rowOut groupOut
  rw [hh, hp]
  have e0 : row (M := 512) (View.ld (iblk m c 0 t) (Rect.unit ![0, o] ![512, 128] inb)) (x 0)
      = fun k => forth m c (ix2 r (col h k)) := funext fun k => forth_eq m c t _ r (col h k)
    (by show r.val = t.val * 512 + (0 + 1 * (x 0).val); omega) (by show o + 1 * k.val = h.val * 128 + k.val; omega)
  have e1 : row (M := 512) (View.ld (iblk m c 1 t) (Rect.unit ![0, o] ![512, 128] inb)) (x 0)
      = fun k => back m c (ix2 r (col h k)) := funext fun k => back_eq m c t _ r (col h k)
    (by show r.val = t.val * 512 + (0 + 1 * (x 0).val); omega) (by show o + 1 * k.val = h.val * 128 + k.val; omega)
  have e2 : row (M := 512) (View.ld (X0_2 m c t) (Rect.unit ![0, o] ![512, 128] inb)) (x 0)
      = fun k => proj m c (ix2 r (gateCol h k)) := funext fun k => gate_eq m c t _ r (col h k)
    (by show r.val = t.val * 512 + (0 + 1 * (x 0).val); omega) (by show o + 1 * k.val = h.val * 128 + k.val; omega) _ rfl
  have e3 : row (M := 1) (iblk m c 3 t) 0 = fun k => normW m c (ix2 0 k) := funext fun k => normW_eq m c t k
  rw [e0, e1, e2, e3]

theorem out_at (c : Dev nD) (t : Fin cfg0.N) (y : S512x1024.Idx) (r : Fin 8192) (q : Fin 1024)
    (hr : r.val = t.val * 512 + (y 0).val) (hq : q.val = (y 1).val) :
    (outsAt0 m c t y : EReal) = rowOut (forth m c) (back m c) (proj m c) (normW m c) r q := by
  unfold outsAt0
  frame_out
  canon_tiles x h
  · exact group_eq m c t 7 896 rfl _ x r q (by omega) (by omega)
  · exact group_eq m c t 6 768 rfl _ x r q (by omega) (by omega)
  · exact group_eq m c t 5 640 rfl _ x r q (by omega) (by omega)
  · exact group_eq m c t 4 512 rfl _ x r q (by omega) (by omega)
  · exact group_eq m c t 3 384 rfl _ x r q (by omega) (by omega)
  · exact group_eq m c t 2 256 rfl _ x r q (by omega) (by omega)
  · exact group_eq m c t 1 128 rfl _ x r q (by omega) (by omega)
  · exact group_eq m c t 0 0 rfl _ x r q (by omega) (by omega)

theorem out4 (c : Dev nD) : (dats m 0 c).arrAt 4 cfg0.N = fun i : (⟨2, ![8192, 1024]⟩ : Shape).Idx =>
    rowOut (forth m c) (back m c) (proj m c) (normW m c) (i 0) (i 1) := by
  refine (dats m 0 c).arrAt_eq_of_covers 4 _ (by decide +kernel) fun t hf y => ?_
  blk_simp
  obtain ⟨-, -, -, -, e, f⟩ := index_facts t
  rw [after0_4]
  exact out_at m c t y _ _ (by show win0_4.index t 0 * 512 + 1 * (y 0).val = _; rw [e]; omega)
    (by show win0_4.index t 1 * 1024 + 1 * (y 1).val = _; rw [f]; omega)

end Cert.Kernel26Ideal.Hand

namespace Cert.Proof

open Cert.Common Cert.NormBwd Cert.GateNorm
open Idealize.ShloMosaic Idealize.ShloMosaic.TcCoe Idealize.SL.Sem
open scoped BigOperators

section Reference

open Cert.Reference26Ideal Cert.Reference26Ideal.Read

variable (x0 x1 : (⟨2, ![8192, 1024]⟩ : Shape).Idx → EReal) (x2 : (⟨2, ![8192, 7680]⟩ : Shape).Idx → EReal)
  (x3 : (⟨2, ![1, 128]⟩ : Shape).Idx → EReal)

/-- The reshaped rows. -/
theorem reference26_sum (i : (⟨3, ![8192, 8, 128]⟩ : Shape).Idx) : (val_main_v4 (F := Ideal) x0 x1 i : EReal)
    = x0 (ix2 (i 0) (col (i 1) (i 2))) + x1 (ix2 (i 0) (col (i 1) (i 2))) := by
  have h1 : (i 1).val < 8 := (i 1).isLt
  have h2 : (i 2).val < 128 := (i 2).isLt
  have e : (((i 0).val * 8 + (i 1).val) * 128 + (i 2).val) / 1024 = (i 0).val := by omega
  have f : (((i 0).val * 8 + (i 1).val) * 128 + (i 2).val) % 1024 = (i 1).val * 128 + (i 2).val := by omega
  rw [val_main_v4_apply]
  exact congrArg₂ (· + ·) (at2 x0 _ _ e f) (at2 x1 _ _ e f)

theorem reference26_gate (i : (⟨3, ![8192, 8, 128]⟩ : Shape).Idx) :
    (val_main_v2 (F := Ideal) x2 i : EReal) = x2 (ix2 (i 0) (gateCol (i 1) (i 2))) := by
  have h1 : (i 1).val < 8 := (i 1).isLt
  have h2 : (i 2).val < 128 := (i 2).isLt
  have e : (((i 0).val * 8 + (i 1).val) * 128 + (i 2).val) / 1024 = (i 0).val := by omega
  have f : 3072 + (((i 0).val * 8 + (i 1).val) * 128 + (i 2).val) % 1024 = 3072 + ((i 1).val * 128 + (i 2).val) := by omega
  rw [val_main_v2_apply]
  exact at2 x2 _ _ ((Nat.zero_add _).trans e) f

theorem reference26_root (i : (⟨3, ![8192, 8, 128]⟩ : Shape).Idx) : (val_main_v13 (F := Ideal) x0 x1 i : EReal)
    = groupRoot (fun k => x0 (ix2 (i 0) (col (i 1) k))) (fun k => x1 (ix2 (i 0) (col (i 1) k))) := by
  unfold groupRoot
  rw [val_main_v13_apply]
  refine congrArg (fun s => Ideal.rsqrt (Ideal.div s groupWidth + tiny)) ?_
  rw [val_main_v7_apply, val_main_v6_apply]
  refine (congrArg (· + _) ofBits_zero).trans ((zero_add _).trans (Finset.sum_congr rfl fun k _ => ?_))
  exact congrArg₂ (· * ·) (reference26_sum x0 x1 _) (reference26_sum x0 x1 _)

theorem reference26_weight (i : (⟨3, ![8192, 8, 128]⟩ : Shape).Idx) :
    (val_main_v16 (F := Ideal) x3 i : EReal) = x3 (ix2 0 (i 2)) := by
  rw [val_main_v16_apply, val_main_v15_apply]
  exact at2 x3 _ _ rfl rfl

theorem reference26_silu (i : (⟨3, ![8192, 8, 128]⟩ : Shape).Idx) :
    (val_main_v18 (F := Ideal) x2 i : EReal) = silu (x2 (ix2 (i 0) (gateCol (i 1) (i 2)))) :=
  congrArg silu (reference26_gate x2 i)

theorem reference26_group (i : (⟨3, ![8192, 8, 128]⟩ : Shape).Idx) :
    (val_main_v19 (F := Ideal) x0 x1 x2 x3 i : EReal) = groupOut x0 x1 x2 x3 (i 0) (i 1) (i 2) :=
  congrArg₂ (· * ·) (congrArg₂ (· * ·) (congrArg₂ (· * ·) (reference26_sum x0 x1 i) (reference26_root x0 x1 i))
    (reference26_weight x3 i)) (reference26_silu x2 i)

theorem reference26_rows : val_main_v21 (F := Ideal) x0 x1 x2 x3
    = fun i : (⟨2, ![8192, 1024]⟩ : Shape).Idx => (rowOut x0 x1 x2 x3 (i 0) (i 1) : EReal) := funext fun i => by
  have h1 : (i 1).val < 1024 := (i 1).isLt
  have e : (val_main_v20 (F := Ideal) x0 x1 x2 x3 i : EReal) = groupOut x0 x1 x2 x3 _ _ _ :=
    (val_main_v20_apply (F := Ideal) x0 x1 x2 x3 i).trans (reference26_group x0 x1 x2 x3 (idx_main_v20 i))
  have e0 : (idx_main_v20 i 0 : Fin 8192) = i 0 := Fin.ext (by show ((i 0).val * 1024 + (i 1).val) / 1024 = (i 0).val; omega)
  have e1 : (idx_main_v20 i 1 : Fin 8) = group (i 1) :=
    Fin.ext (by show ((i 0).val * 1024 + (i 1).val) / 128 % 8 = (i 1).val / 128; omega)
  have e2 : (idx_main_v20 i 2 : Fin 128) = place (i 1) :=
    Fin.ext (by show ((i 0).val * 1024 + (i 1).val) % 128 = (i 1).val % 128; omega)
  rw [e0, e1, e2] at e
  exact e

end Reference

/-- `gate_norm_fwd` equals its reference. -/
theorem algebraic26 : Cert.algebraic_Kernel26Ideal_Reference26Ideal := by
  intro m g m' g' _ hargs
  have run := Cert.Kernel26Ideal.Value.run_blocks (F := Ideal) m g
  simp only [Cert.Kernel26Ideal.Hand.out4] at run
  refine ⟨_, run, ?_⟩
  refine (θ_run Cert.Reference26Ideal.defs _ _).mono (fun r h c => ?_) (Cert.Reference26Ideal.Value.run m' g')
  obtain ⟨h0, keep⟩ := h c
  obtain ⟨a0, a1, a2, a3⟩ := hargs c
  rw [a0, a1, a2, a3] at h0
  exact ⟨h0.trans (reference26_rows _ _ _ _), keep⟩

end Cert.Proof

end
-- ==== Proof.SumRows.lean ====
/-
  The value of the sum over the eight devices of the row that holds the gradients of the small weights.
-/
module

public import Idealize.ShloMosaic.Lib.Pipeline.ValueKit
public import proofs.«01_k».proof.Proof.Common
public import proofs.«01_k».proof.Defs
public import proofs.«01_k».proof.Proof.Gen.Kernel27Ideal.Value
public import proofs.«01_k».proof.Proof.Gen.Kernel27Ideal.Skeleton
public import proofs.«01_k».proof.Proof.Gen.Reference27Ideal.Run
public import proofs.«01_k».proof.Proof.Gen.Reference27Ideal.Read

@[expose] public section

noncomputable section

namespace Cert.Kernel27Ideal.Hand

open Cert.Kernel27Ideal Cert.Kernel27Ideal.Gen Cert.Kernel27Ideal.Value Cert.Common
open Idealize.ShloMosaic Idealize.ShloMosaic.TcCoe Idealize.SL.Sem
open Idealize.ShloMosaic.Pipeline (Dat)
open scoped BigOperators

variable (m : (ℓ : Loc nD τ sig) → Buf (Elt Ideal) ℓ)

/-- The devices' rows, on device `c`. -/
abbrev parts (c : Dev nD) : (⟨2, ![8, 30464]⟩ : Shape).Idx → EReal := m ((c : Thread nD τ).loc main_arg0)

/-- The sum of the eight rows. -/
def total (p : (⟨2, ![8, 30464]⟩ : Shape).Idx → EReal) (i : (⟨2, ![1, 30464]⟩ : Shape).Idx) : EReal :=
  ∑ k : Fin 8, p (ix2 k (i 1))

theorem index_facts : ∀ t : Fin cfg0.N, (win0_0.index t 0 = 0 ∧ win0_0.index t 1 = 0)
    ∧ (win0_1.index t 0 = 0 ∧ win0_1.index t 1 = 0) :=
  (by decide +kernel : ∀ t : Fin grid0.N, _)

/-- The rows added one after another are their sum. -/
theorem rows_apply (x : Vec Ideal S8x30464 .f32) (y : S1x30464.Idx) :
    (k0_pay1 (View.ld x r0_0) (View.ld x r0_1) (View.ld x r0_2) (View.ld x r0_3) (View.ld x r0_4) (View.ld x r0_5)
      (View.ld x r0_6) (View.ld x r0_7) y : EReal) = total x y := by
  unfold total k0_pay1
  rw [Fin.sum_univ_eight]
  pointwise

theorem out1 (c : Dev nD) : (dats m 0 c).arrAt 1 cfg0.N = fun i => total (parts m c) i := by
  refine (dats m 0 c).arrAt_eq_of_covers 1 _ (by decide +kernel) fun t hf y => ?_
  obtain ⟨⟨a0, a1⟩, b0, b1⟩ := index_facts t
  blk_simp
  rw [after0_1]
  frame_out
  refine (rows_apply _ _).trans (Finset.sum_congr rfl fun k _ =>
    congrArg (parts m c) (funext fun a => match a with | ⟨0, _⟩ => Fin.ext ?_ | ⟨1, _⟩ => Fin.ext ?_))
  · show win0_0.index t 0 * 8 + 1 * k.val = k.val; rw [a0]; omega
  · show win0_0.index t 1 * 30464 + 1 * (y 1).val = win0_1.index t 1 * 30464 + 1 * (y 1).val; rw [a1, b1]

end Cert.Kernel27Ideal.Hand

namespace Cert.Proof

open Idealize.ShloMosaic Idealize.ShloMosaic.TcCoe Idealize.SL.Sem
open scoped BigOperators

/-- `sum_small` equals its reference. -/
theorem algebraic27 : Cert.algebraic_Kernel27Ideal_Reference27Ideal := by
  intro m g m' g' _ hargs
  have run := Cert.Kernel27Ideal.Value.run_blocks (F := Ideal) m g
  simp only [Cert.Kernel27Ideal.Hand.out1] at run
  refine ⟨_, run, ?_⟩
  refine (θ_run Cert.Reference27Ideal.defs _ _).mono (fun r h c => ?_) (Cert.Reference27Ideal.Value.run m' g')
  obtain ⟨h0, keep⟩ := h c
  rw [hargs c] at h0
  refine ⟨h0.trans ?_, keep⟩
  funext i
  rw [Cert.Reference27Ideal.Read.val_main_v1_eq]
  rw [Cert.Reference27Ideal.Read.val_main_v1_apply, Cert.Reference27Ideal.Read.val_main_v0_apply]
  show Ideal.ofBits .f32 0x00000000#32 + _ = _
  rw [Cert.Common.ofBits_zero, zero_add]
  exact Finset.sum_congr rfl fun k _ => congrArg _ (funext fun a => match a with | ⟨0, _⟩ => rfl | ⟨1, _⟩ => rfl)

end Cert.Proof

end
-- ==== Proof.lean ====
/-
  The claim: the frames of the delta rule's backward call, and the frame and the value of each of the calls beside it.
-/
module

public import proofs.«01_k».proof.Defs

public import proofs.«01_k».proof.Proof.Delta.Frame
public import proofs.«01_k».proof.Proof.Delta.Machine
public import proofs.«01_k».proof.Proof.DwFfnUp
public import proofs.«01_k».proof.Proof.FfnBwdUp
public import proofs.«01_k».proof.Proof.DwFfnDown
public import proofs.«01_k».proof.Proof.DwOut
public import proofs.«01_k».proof.Proof.DwAOut
public import proofs.«01_k».proof.Proof.DwInQkv
public import proofs.«01_k».proof.Proof.DwInGate
public import proofs.«01_k».proof.Proof.DwInA
public import proofs.«01_k».proof.Proof.DwInBa
public import proofs.«01_k».proof.Proof.FfnUp.Machine
public import proofs.«01_k».proof.Proof.FfnUp.Value
public import proofs.«01_k».proof.Proof.FfnDown
public import proofs.«01_k».proof.Proof.InProj.Machine
public import proofs.«01_k».proof.Proof.InProj.Value
public import proofs.«01_k».proof.Proof.InProjBwd
public import proofs.«01_k».proof.Proof.MergeFwd
public import proofs.«01_k».proof.Proof.AdamFfnUp
public import proofs.«01_k».proof.Proof.AdamFfnDown
public import proofs.«01_k».proof.Proof.AdamIn
public import proofs.«01_k».proof.Proof.AdamAOut
public import proofs.«01_k».proof.Proof.AdamOut
public import proofs.«01_k».proof.Proof.AdamAda
public import proofs.«01_k».proof.Proof.AdamRows
public import proofs.«01_k».proof.Proof.Final
public import proofs.«01_k».proof.Proof.GateNormFwd
public import proofs.«01_k».proof.Proof.SumRows
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import Idealize.ShloMosaic.Adequacy

@[expose] public section

namespace Cert.Proof

open Idealize.ShloMosaic Idealize.SL.Sem

/-! ## Frames -/

/-- The delta rule's backward call over the extended reals. -/
theorem frame_kernelIdeal : Cert.quiescent_KernelIdeal := fun m ρ _ => Cert.KernelIdeal.Hand.frame (F := Ideal) m ρ

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_kernel12Ideal : Cert.quiescent_Kernel12Ideal := fun m ρ _ => Cert.Kernel12Ideal.Hand.frame m ρ
theorem frame_reference12Ideal : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13Ideal : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem frame_kernel14Ideal : Cert.quiescent_Kernel14Ideal := fun m ρ _ => Cert.Kernel14Ideal.Hand.frame m ρ
theorem frame_reference14Ideal : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_reference15Ideal : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_reference16Ideal : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_reference18Ideal : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_reference19Ideal : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_reference20Ideal : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_reference21Ideal : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem frame_kernel22 : Cert.quiescent_Kernel22 := fun m ρ _ => Cert.Kernel22.Gen.frame m ρ
theorem frame_kernel22Ideal : Cert.quiescent_Kernel22Ideal := fun m ρ _ => Cert.Kernel22Ideal.Gen.frame m ρ
theorem frame_reference22Ideal : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem frame_kernel23 : Cert.quiescent_Kernel23 := fun m ρ _ => Cert.Kernel23.Gen.frame m ρ
theorem frame_kernel23Ideal : Cert.quiescent_Kernel23Ideal := fun m ρ _ => Cert.Kernel23Ideal.Gen.frame m ρ
theorem frame_reference23Ideal : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem frame_kernel24 : Cert.quiescent_Kernel24 := fun m ρ _ => Cert.Kernel24.Gen.frame m ρ
theorem frame_kernel24Ideal : Cert.quiescent_Kernel24Ideal := fun m ρ _ => Cert.Kernel24Ideal.Gen.frame m ρ
theorem frame_reference24Ideal : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem frame_kernel25 : Cert.quiescent_Kernel25 := fun m ρ _ => Cert.Kernel25.Gen.frame m ρ
theorem frame_kernel25Ideal : Cert.quiescent_Kernel25Ideal := fun m ρ _ => Cert.Kernel25Ideal.Gen.frame m ρ
theorem frame_reference25Ideal : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem frame_kernel26 : Cert.quiescent_Kernel26 := fun m ρ _ => Cert.Kernel26.Gen.frame m ρ
theorem frame_kernel26Ideal : Cert.quiescent_Kernel26Ideal := fun m ρ _ => Cert.Kernel26Ideal.Gen.frame m ρ
theorem frame_reference26Ideal : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem frame_kernel27 : Cert.quiescent_Kernel27 := fun m ρ _ => Cert.Kernel27.Gen.frame m ρ
theorem frame_kernel27Ideal : Cert.quiescent_Kernel27Ideal := fun m ρ _ => Cert.Kernel27Ideal.Gen.frame m ρ
theorem frame_reference27Ideal : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-! ## The claim -/

theorem claim : Cert.Claim :=
  ⟨Cert.Kernel.Gen.facts, Cert.KernelIdeal.Gen.facts, Cert.Kernel2.Gen.facts, Cert.Kernel2Ideal.Gen.facts,
   Cert.Reference2Ideal.Gen.facts, Cert.Kernel3.Gen.facts, Cert.Kernel3Ideal.Gen.facts,
   Cert.Reference3Ideal.Gen.facts, Cert.Kernel5.Gen.facts, Cert.Kernel5Ideal.Gen.facts,
   Cert.Reference5Ideal.Gen.facts, Cert.Kernel6.Gen.facts, Cert.Kernel6Ideal.Gen.facts,
   Cert.Reference6Ideal.Gen.facts, Cert.Kernel7.Gen.facts, Cert.Kernel7Ideal.Gen.facts,
   Cert.Reference7Ideal.Gen.facts, Cert.Kernel8.Gen.facts, Cert.Kernel8Ideal.Gen.facts,
   Cert.Reference8Ideal.Gen.facts, Cert.Kernel9.Gen.facts, Cert.Kernel9Ideal.Gen.facts,
   Cert.Reference9Ideal.Gen.facts, Cert.Kernel10.Gen.facts, Cert.Kernel10Ideal.Gen.facts,
   Cert.Reference10Ideal.Gen.facts, Cert.Kernel11.Gen.facts, Cert.Kernel11Ideal.Gen.facts,
   Cert.Reference11Ideal.Gen.facts, Cert.Kernel12.Gen.facts, Cert.Kernel12Ideal.Gen.facts,
   Cert.Reference12Ideal.Gen.facts, Cert.Kernel13.Gen.facts, Cert.Kernel13Ideal.Gen.facts,
   Cert.Reference13Ideal.Gen.facts, Cert.Kernel14.Gen.facts, Cert.Kernel14Ideal.Gen.facts,
   Cert.Reference14Ideal.Gen.facts, Cert.Kernel15.Gen.facts, Cert.Kernel15Ideal.Gen.facts,
   Cert.Reference15Ideal.Gen.facts, Cert.Kernel16.Gen.facts, Cert.Kernel16Ideal.Gen.facts,
   Cert.Reference16Ideal.Gen.facts, Cert.Kernel18.Gen.facts, Cert.Kernel18Ideal.Gen.facts,
   Cert.Reference18Ideal.Gen.facts, Cert.Kernel19.Gen.facts, Cert.Kernel19Ideal.Gen.facts,
   Cert.Reference19Ideal.Gen.facts, Cert.Kernel20.Gen.facts, Cert.Kernel20Ideal.Gen.facts,
   Cert.Reference20Ideal.Gen.facts, Cert.Kernel21.Gen.facts, Cert.Kernel21Ideal.Gen.facts,
   Cert.Reference21Ideal.Gen.facts, Cert.Kernel22.Gen.facts, Cert.Kernel22Ideal.Gen.facts,
   Cert.Reference22Ideal.Gen.facts, Cert.Kernel23.Gen.facts, Cert.Kernel23Ideal.Gen.facts,
   Cert.Reference23Ideal.Gen.facts, Cert.Kernel24.Gen.facts, Cert.Kernel24Ideal.Gen.facts,
   Cert.Reference24Ideal.Gen.facts, Cert.Kernel25.Gen.facts, Cert.Kernel25Ideal.Gen.facts,
   Cert.Reference25Ideal.Gen.facts, Cert.Kernel26.Gen.facts, Cert.Kernel26Ideal.Gen.facts,
   Cert.Reference26Ideal.Gen.facts, Cert.Kernel27.Gen.facts, Cert.Kernel27Ideal.Gen.facts,
   Cert.Reference27Ideal.Gen.facts, frame_kernel, frame_kernelIdeal, frame_kernel2, frame_kernel2Ideal,
   frame_reference2Ideal, frame_kernel3, frame_kernel3Ideal, frame_reference3Ideal, frame_kernel5, frame_kernel5Ideal,
   frame_reference5Ideal, frame_kernel6, frame_kernel6Ideal, frame_reference6Ideal, frame_kernel7, frame_kernel7Ideal,
   frame_reference7Ideal, frame_kernel8, frame_kernel8Ideal, frame_reference8Ideal, frame_kernel9, frame_kernel9Ideal,
   frame_reference9Ideal, frame_kernel10, frame_kernel10Ideal, frame_reference10Ideal, frame_kernel11,
   frame_kernel11Ideal, frame_reference11Ideal, frame_kernel12, frame_kernel12Ideal, frame_reference12Ideal,
   frame_kernel13, frame_kernel13Ideal, frame_reference13Ideal, frame_kernel14, frame_kernel14Ideal,
   frame_reference14Ideal, frame_kernel15, frame_kernel15Ideal, frame_reference15Ideal, frame_kernel16,
   frame_kernel16Ideal, frame_reference16Ideal, frame_kernel18, frame_kernel18Ideal, frame_reference18Ideal,
   frame_kernel19, frame_kernel19Ideal, frame_reference19Ideal, frame_kernel20, frame_kernel20Ideal,
   frame_reference20Ideal, frame_kernel21, frame_kernel21Ideal, frame_reference21Ideal, frame_kernel22,
   frame_kernel22Ideal, frame_reference22Ideal, frame_kernel23, frame_kernel23Ideal, frame_reference23Ideal,
   frame_kernel24, frame_kernel24Ideal, frame_reference24Ideal, frame_kernel25, frame_kernel25Ideal,
   frame_reference25Ideal, frame_kernel26, frame_kernel26Ideal, frame_reference26Ideal, frame_kernel27,
   frame_kernel27Ideal, frame_reference27Ideal, trivial, trivial, algebraic2, trivial, algebraic3, trivial,
   algebraic5, trivial, algebraic6, trivial, algebraic7, trivial, algebraic8, trivial, algebraic9, trivial,
   algebraic10, trivial, algebraic11, trivial, algebraic12, trivial, algebraic13, trivial, algebraic14, trivial,
   algebraic15, trivial, algebraic16, trivial, algebraic18, trivial, algebraic19, trivial, algebraic20, trivial,
   algebraic21, trivial, algebraic22, trivial, algebraic23, trivial, algebraic24, trivial, algebraic25, trivial,
   algebraic26, trivial, algebraic27⟩

end Cert.Proof

end
